-- ==== Defs.lean ====
def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_finite [hPre_finite : Cert.Pre_finite.Facts] (m : (ℓ : Loc Cert.MobaIdeal.nD Cert.MobaIdeal.τ Cert.MobaIdeal.sig) → Buf (Elt Ideal) ℓ) : Prop :=
  ∀ c : Dev Cert.MobaIdeal.nD,
    (Cert.Pre_finite.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1))) = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_finite [hPre_finite : Cert.Pre_finite.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_finite.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Experts [hPre_in_range : Cert.Pre_in_range.Facts] (m : (ℓ : Loc Cert.Experts.nD Cert.Experts.τ Cert.Experts.sig) → Buf (Elt Bits) ℓ) : Prop :=
  ∀ c : Dev Cert.Experts.nD,
    (Cert.Pre_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_in_range : Cert.Pre_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsIdeal_dispatched [hPre_dispatched : Cert.Pre_dispatched.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_dispatched.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_dispatched [hPre_dispatched : Cert.Pre_dispatched.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_dispatched.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1))
      ∧ r.2.sem = fun _ => 0)

def quiescent_MobaIdeal_pre_finite [hMobaIdeal : Cert.MobaIdeal.Facts] [hPre_finite : Cert.Pre_finite.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_finite m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1))
      ∧ r.2.sem = fun _ => 0)

def quiescent_MobaRefIdeal_pre_finite [hMobaRefIdeal : Cert.MobaRefIdeal.Facts] [hPre_finite : Cert.Pre_finite.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_finite m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Experts [hExperts : Cert.Experts.Facts] [hPre_in_range : Cert.Pre_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsIdeal_pre_dispatched [hExpertsIdeal : Cert.ExpertsIdeal.Facts] [hPre_dispatched : Cert.Pre_dispatched.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_dispatched m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_dispatched [hExpertsRefIdeal : Cert.ExpertsRefIdeal.Facts] [hPre_dispatched : Cert.Pre_dispatched.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_dispatched m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def preserves_Moba_MobaIdeal : Prop :=
  IdealRules.named_const.Statement Cert.MobaIdeal.κ "mask" .f32 0xF149F2CA#32 ⊥

def algebraic_MobaIdeal_MobaRefIdeal_pre_finite [hMobaIdeal : Cert.MobaIdeal.Facts] [hMobaRefIdeal : Cert.MobaRefIdeal.Facts] [hPre_finite : Cert.Pre_finite.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_finite m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)
      ∧ m' ((c.tc : Thread Cert.MobaRefIdeal.nD Cert.MobaRefIdeal.τ).loc Cert.MobaRefIdeal.main_arg1) = m ((c.tc : Thread Cert.MobaIdeal.nD Cert.MobaIdeal.τ).loc Cert.MobaIdeal.main_arg1)) →
    ∃ (v0 : (c : Dev Cert.MobaIdeal.nD) → Buf (Elt Ideal) ((c.tc : Thread Cert.MobaIdeal.nD Cert.MobaIdeal.τ).loc Cert.MobaIdeal.main_v0_0)) (v1 : (c : Dev Cert.MobaIdeal.nD) → Buf (Elt Ideal) ((c.tc : Thread Cert.MobaIdeal.nD Cert.MobaIdeal.τ).loc Cert.MobaIdeal.main_v0_1)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v0_0) = v0 c
          ∧ r.2.mem ((c.tc : Thread Cert.MobaIdeal.nD Cert.MobaIdeal.τ).loc Cert.MobaIdeal.main_v0_1) = v1 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v121) = v0 c
          ∧ r.2.mem ((c.tc : Thread Cert.MobaRefIdeal.nD Cert.MobaRefIdeal.τ).loc Cert.MobaRefIdeal.main_v122) = v1 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0)
          ∧ r.2.mem ((c.tc : Thread Cert.MobaRefIdeal.nD Cert.MobaRefIdeal.τ).loc Cert.MobaRefIdeal.main_arg1) = m' ((c.tc : Thread Cert.MobaRefIdeal.nD Cert.MobaRefIdeal.τ).loc Cert.MobaRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)) →
    ∃ (v0 : (c : Dev Cert.FfnIdeal.nD) → Buf (Elt Ideal) ((c.tc : Thread Cert.FfnIdeal.nD Cert.FfnIdeal.τ).loc Cert.FfnIdeal.main_v3_0)) (v1 : (c : Dev Cert.FfnIdeal.nD) → Buf (Elt Ideal) ((c.tc : Thread Cert.FfnIdeal.nD Cert.FfnIdeal.τ).loc Cert.FfnIdeal.main_v3_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3_0) = v0 c
          ∧ r.2.mem ((c.tc : Thread Cert.FfnIdeal.nD Cert.FfnIdeal.τ).loc Cert.FfnIdeal.main_v3_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v66) = v0 c
          ∧ r.2.mem ((c.tc : Thread Cert.FfnRefIdeal.nD Cert.FfnRefIdeal.τ).loc Cert.FfnRefIdeal.main_v67) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11))

def preserves_Inproj_InprojIdeal : Prop :=
  IdealRules.named_const.Statement Cert.InprojIdeal.κ "q_scale" .f32 0x3E38AA3B#32 (((8 * (Real.log 2))⁻¹ : ℝ) : EReal)

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v22)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v22) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v107) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Experts_ExpertsIdeal : Prop :=
  True

def algebraic_ExpertsIdeal_ExpertsRefIdeal_pre_dispatched [hExpertsIdeal : Cert.ExpertsIdeal.Facts] [hExpertsRefIdeal : Cert.ExpertsRefIdeal.Facts] [hPre_dispatched : Cert.Pre_dispatched.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal_dispatched m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v30) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def Claim : Prop :=
  ∃ (hMoba : Cert.Moba.Facts) (hMobaIdeal : Cert.MobaIdeal.Facts) (hMobaRefIdeal : Cert.MobaRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hExperts : Cert.Experts.Facts) (hExpertsIdeal : Cert.ExpertsIdeal.Facts) (hExpertsRefIdeal : Cert.ExpertsRefIdeal.Facts) (hPre_finite : Cert.Pre_finite.Facts) (hPre_in_range : Cert.Pre_in_range.Facts) (hPre_dispatched : Cert.Pre_dispatched.Facts),
    quiescent_Moba (hMoba := hMoba)
    ∧ quiescent_MobaIdeal (hMobaIdeal := hMobaIdeal)
    ∧ quiescent_MobaIdeal_pre_finite (hMobaIdeal := hMobaIdeal) (hPre_finite := hPre_finite)
    ∧ quiescent_MobaRefIdeal (hMobaRefIdeal := hMobaRefIdeal)
    ∧ quiescent_MobaRefIdeal_pre_finite (hMobaRefIdeal := hMobaRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Experts (hExperts := hExperts) (hPre_in_range := hPre_in_range)
    ∧ quiescent_ExpertsIdeal (hExpertsIdeal := hExpertsIdeal) (hPre_in_range := hPre_in_range)
    ∧ quiescent_ExpertsIdeal_pre_dispatched (hExpertsIdeal := hExpertsIdeal) (hPre_dispatched := hPre_dispatched)
    ∧ quiescent_ExpertsRefIdeal (hExpertsRefIdeal := hExpertsRefIdeal)
    ∧ quiescent_ExpertsRefIdeal_pre_dispatched (hExpertsRefIdeal := hExpertsRefIdeal) (hPre_dispatched := hPre_dispatched)
    ∧ preserves_Moba_MobaIdeal
    ∧ algebraic_MobaIdeal_MobaRefIdeal_pre_finite (hMobaIdeal := hMobaIdeal) (hMobaRefIdeal := hMobaRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Experts_ExpertsIdeal
    ∧ algebraic_ExpertsIdeal_ExpertsRefIdeal_pre_dispatched (hExpertsIdeal := hExpertsIdeal) (hExpertsRefIdeal := hExpertsRefIdeal) (hPre_dispatched := hPre_dispatched)
-- ==== Pre_dispatched.lean ====
abbrev S294912x128 : Shape := ⟨2, ![294912, 128]⟩
abbrev S72 : Shape := ⟨1, ![72]⟩
abbrev S8x1024x2816 : Shape := ⟨3, ![8, 1024, 2816]⟩
abbrev S8x2816x1024 : Shape := ⟨3, ![8, 2816, 1024]⟩
abbrev S72x512x1024 : Shape := ⟨3, ![72, 512, 1024]⟩
abbrev S_ : Shape := ⟨0, ![]⟩

class Facts : Prop where
  bcast_S72_S72x512x1024_0 : S72.BroadcastsInDim S72x512x1024 (![0] : Fin 1 → Fin S72x512x1024.rank)
  shapeCasts_S294912x128_S72x512x1024 : S294912x128.ShapeCasts S72x512x1024
  bcast_S_S72x512x1024 : S_.BroadcastsInDim S72x512x1024 (![] : Fin 0 → Fin S72x512x1024.rank)

variable [Facts]

def fn {F : FTy → Type} [FloatOps F] (main_arg0 : FVec F S294912x128 .f32) (main_arg1 : IVec S72 32) (main_arg2 : IVec S72 32) (main_arg3 : FVec F S8x1024x2816 .bf16) (main_arg4 : FVec F S8x1024x2816 .bf16) (main_arg5 : FVec F S8x2816x1024 .bf16) : IVec S72x512x1024 1 :=
  let main_v0 : IVec S72x512x1024 32 := iotaInDim S72x512x1024 32 1
  let main_v1 : IVec S72x512x1024 32 := broadcastInDim S72x512x1024 ![0] bcast_S72_S72x512x1024_0 main_arg2
  let main_v2 : IVec S72x512x1024 32 := broadcastInDim S72x512x1024 ![0] bcast_S72_S72x512x1024_0 main_arg1
  let main_v3 : FVec F S72x512x1024 .f32 := shapeCast S72x512x1024 main_arg0 shapeCasts_S294912x128_S72x512x1024
  let main_cst : FVec F S_ .f32 := constant S_ .f32 0x00000000#32
  let main_v4 : FVec F S72x512x1024 .f32 := broadcastInDim S72x512x1024 ![] bcast_S_S72x512x1024 main_cst
  let main_v5 : IVec S72x512x1024 1 := cmpf .oeq main_v3 main_v4
  let main_c : IVec S_ 32 := constantI S_ 32 0#32
  let main_v6 : IVec S72x512x1024 32 := broadcastInDim S72x512x1024 ![] bcast_S_S72x512x1024 main_c
  let main_v7 : IVec S72x512x1024 1 := cmpi .sge main_v2 main_v6
  let main_c_0 : IVec S_ 32 := constantI S_ 32 8#32
  let main_v8 : IVec S72x512x1024 32 := broadcastInDim S72x512x1024 ![] bcast_S_S72x512x1024 main_c_0
  let main_v9 : IVec S72x512x1024 1 := cmpi .slt main_v2 main_v8
  let main_v10 : IVec S72x512x1024 1 := andi main_v7 main_v9
  let main_c_1 : IVec S_ 32 := constantI S_ 32 0#32
  let main_v11 : IVec S72x512x1024 32 := broadcastInDim S72x512x1024 ![] bcast_S_S72x512x1024 main_c_1
  let main_v12 : IVec S72x512x1024 1 := cmpi .sge main_v1 main_v11
  let main_v13 : IVec S72x512x1024 1 := andi main_v10 main_v12
  let main_v14 : IVec S72x512x1024 1 := cmpi .slt main_v0 main_v1
  let main_v15 : IVec S72x512x1024 1 := ori main_v14 main_v5
  let main_v16 : IVec S72x512x1024 1 := andi main_v13 main_v15
  main_v16
-- ==== Pre_finite.lean ====
abbrev S16384x3584 : Shape := ⟨2, ![16384, 3584]⟩
abbrev S8192x2816 : Shape := ⟨2, ![8192, 2816]⟩
abbrev S16384x1024 : Shape := ⟨2, ![16384, 1024]⟩
abbrev S_ : Shape := ⟨0, ![]⟩

class Facts : Prop where
  slices_S16384x3584_S16384x1024_0_0 : S16384x3584.Slices ![0, 0] S16384x1024
  bitsLt_bf16_f32 : FTy.bits .bf16 < FTy.bits .f32
  bcast_S_S16384x1024 : S_.BroadcastsInDim S16384x1024 (![] : Fin 0 → Fin S16384x1024.rank)

variable [Facts]

def fn {F : FTy → Type} [FloatOps F] (main_arg0 : FVec F S16384x3584 .bf16) (main_arg1 : FVec F S8192x2816 .f32) : IVec S16384x1024 1 :=
  let main_v0 : FVec F S16384x1024 .bf16 := (extractStridedSlice S16384x1024 ![0, 0] · slices_S16384x3584_S16384x1024_0_0) main_arg0
  let main_v1 : FVec F S16384x1024 .f32 := (extf .f32 · bitsLt_bf16_f32) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  main_v4
-- ==== Pre_in_range.lean ====
abbrev S294912x128 : Shape := ⟨2, ![294912, 128]⟩
abbrev S72 : Shape := ⟨1, ![72]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S72 : S_.BroadcastsInDim S72 (![] : Fin 0 → Fin S72.rank)

variable [Facts]

def fn {F : FTy → Type} [FloatOps F] (main_arg0 : FVec F S294912x128 .f32) (main_arg1 : IVec S72 32) (main_arg2 : IVec S72 32) (main_arg3 : FVec F S8x1024x2816 .bf16) (main_arg4 : FVec F S8x1024x2816 .bf16) (main_arg5 : FVec F S8x2816x1024 .bf16) : IVec S72 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 8#32
  let main_v2 : IVec S72 32 := broadcastInDim S72 ![] bcast_S_S72 main_c_0
  let main_v3 : IVec S72 1 := cmpi .slt main_arg1 main_v2
  let main_v4 : IVec S72 1 := andi main_v1 main_v3
  let main_c_1 : IVec S_ 32 := constantI S_ 32 0#32
  let main_v5 : IVec S72 32 := broadcastInDim S72 ![] bcast_S_S72 main_c_1
  let main_v6 : IVec S72 1 := cmpi .sge main_arg2 main_v5
  let main_v7 : IVec S72 1 := andi main_v4 main_v6
  main_v7
-- ==== Moba.lean ====
abbrev S16384x3584 : Shape := ⟨2, ![16384, 3584]⟩
abbrev S8192x2816 : Shape := ⟨2, ![8192, 2816]⟩
abbrev S16384x512 : Shape := ⟨2, ![16384, 512]⟩
abbrev S2048x256 : Shape := ⟨2, ![2048, 256]⟩
abbrev S512x2816 : Shape := ⟨2, ![512, 2816]⟩
abbrev S1x128 : Shape := ⟨2, ![1, 128]⟩
abbrev S2048x128 : Shape := ⟨2, ![2048, 128]⟩
abbrev S8x2048 : Shape := ⟨2, ![8, 2048]⟩
abbrev S16x2048 : Shape := ⟨2, ![16, 2048]⟩
abbrev S16x128 : Shape := ⟨2, ![16, 128]⟩
abbrev S512x256 : Shape := ⟨2, ![512, 256]⟩
abbrev S1x2048 : Shape := ⟨2, ![1, 2048]⟩
abbrev S256x256 : Shape := ⟨2, ![256, 256]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S512x1792 : Shape := ⟨2, ![512, 1792]⟩
abbrev S256x128 : Shape := ⟨2, ![256, 128]⟩
abbrev S1792x256 : Shape := ⟨2, ![1792, 256]⟩
abbrev S512x1536 : Shape := ⟨2, ![512, 1536]⟩
abbrev S1536x256 : Shape := ⟨2, ![1536, 256]⟩
abbrev S512x1280 : Shape := ⟨2, ![512, 1280]⟩
abbrev S1280x256 : Shape := ⟨2, ![1280, 256]⟩
abbrev S512x1024 : Shape := ⟨2, ![512, 1024]⟩
abbrev S1024x256 : Shape := ⟨2, ![1024, 256]⟩
abbrev S512x768 : Shape := ⟨2, ![512, 768]⟩
abbrev S768x256 : Shape := ⟨2, ![768, 256]⟩
abbrev S512x512 : Shape := ⟨2, ![512, 512]⟩

abbrev nBuf : Space → Nat
  | .hbm => 4
  | .vmem => 12
  | .smem => 0
  | _ => 0

abbrev bufTy : (tb : Table) → Fin (tcTables nBuf tb) → BufTy
  | .hbm, ⟨0, _⟩ => ⟨S16384x3584, .bf16⟩
  | .hbm, ⟨1, _⟩ => ⟨S8192x2816, .f32⟩
  | .hbm, ⟨2, _⟩ => ⟨S16384x512, .bf16⟩
  | .hbm, ⟨3, _⟩ => ⟨S8192x2816, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S512x2816, .f32⟩
  | .local _ .vmem, ⟨7, _⟩ => ⟨S512x2816, .f32⟩
  | .local _ .vmem, ⟨8, _⟩ => ⟨S2048x256, .bf16⟩
  | .local _ .vmem, ⟨9, _⟩ => ⟨S2048x256, .bf16⟩
  | .local _ .vmem, ⟨10, _⟩ => ⟨S512x2816, .bf16⟩
  | .local _ .vmem, ⟨11, _⟩ => ⟨S512x2816, .bf16⟩
  | _, _ => ⟨S16384x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MobaIdeal.lean ====
variable {F : FTy → Type} [FloatOps F] [Named F]
def κ : String → Option EReal := fun
  | "mask" => some ⊥
  | _ => none
-- ==== MobaRefIdeal.lean ====
abbrev S16384x3584 : Shape := ⟨2, ![16384, 3584]⟩
abbrev S8192x2816 : Shape := ⟨2, ![8192, 2816]⟩
abbrev S16384x512 : Shape := ⟨2, ![16384, 512]⟩
abbrev S8x2048x8x64 : Shape := ⟨4, ![8, 2048, 8, 64]⟩
abbrev S8x8x2048x64 : Shape := ⟨4, ![8, 8, 2048, 64]⟩
abbrev S_ : Shape := ⟨0, ![]⟩
abbrev S8x8x8x256x64 : Shape := ⟨5, ![8, 8, 8, 256, 64]⟩
abbrev S2048 : Shape := ⟨1, ![2048]⟩
abbrev S8x8x8x64 : Shape := ⟨4, ![8, 8, 8, 64]⟩
abbrev S8x8x2048x8 : Shape := ⟨4, ![8, 8, 2048, 8]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S1x1x2048x8 : Shape := ⟨4, ![1, 1, 2048, 8]⟩
abbrev S8x8x2048x3 : Shape := ⟨4, ![8, 8, 2048, 3]⟩
abbrev S1x1x2048x1 : Shape := ⟨4, ![1, 1, 2048, 1]⟩
abbrev S8x1x1x1 : Shape := ⟨4, ![8, 1, 1, 1]⟩
abbrev S1x8x1x1 : Shape := ⟨4, ![1, 8, 1, 1]⟩
abbrev S8x256 : Shape := ⟨2, ![8, 256]⟩
abbrev S8x8x8x256x256 : Shape := ⟨5, ![8, 8, 8, 256, 256]⟩
abbrev S8x1x256 : Shape := ⟨3, ![8, 1, 256]⟩
abbrev S8x256x1 : Shape := ⟨3, ![8, 256, 1]⟩
abbrev S8x256x256 : Shape := ⟨3, ![8, 256, 256]⟩
abbrev S8x8x2048x256 : Shape := ⟨4, ![8, 8, 2048, 256]⟩
abbrev S8x8x2048x3x1 : Shape := ⟨5, ![8, 8, 2048, 3, 1]⟩
abbrev S8x8x2048x3x3 : Shape := ⟨5, ![8, 8, 2048, 3, 3]⟩
abbrev S8x8x2048x3x256x64 : Shape := ⟨6, ![8, 8, 2048, 3, 256, 64]⟩
abbrev S8x8x2048x3x256 : Shape := ⟨5, ![8, 8, 2048, 3, 256]⟩
abbrev S8x8x2048x768 : Shape := ⟨4, ![8, 8, 2048, 768]⟩
abbrev S8x8x2048x1024 : Shape := ⟨4, ![8, 8, 2048, 1024]⟩
abbrev S8x8x2048 : Shape := ⟨3, ![8, 8, 2048]⟩
abbrev S8x8x2048x1 : Shape := ⟨4, ![8, 8, 2048, 1]⟩

abbrev nBuf : Space → Nat
  | .hbm => 174
  | .vmem => 0
  | .smem => 0
  | _ => 0

abbrev hbmTy0_0 (i : Nat) : BufTy := match i % 128 with
  | 0 => ⟨S16384x3584, .bf16⟩
  | 1 => ⟨S8192x2816, .f32⟩
  | 2 => ⟨S16384x512, .bf16⟩
  | 3 => ⟨S16384x512, .f32⟩
  | 4 => ⟨S8x2048x8x64, .f32⟩
  | 5 => ⟨S8x8x2048x64, .f32⟩
  | 6 => ⟨S16384x512, .bf16⟩
  | 7 => ⟨S16384x512, .f32⟩
  | 8 => ⟨S8x2048x8x64, .f32⟩
  | 9 => ⟨S8x8x2048x64, .f32⟩
  | 10 => ⟨S16384x512, .bf16⟩
  | 11 => ⟨S16384x512, .f32⟩
  | 12 => ⟨S8x2048x8x64, .f32⟩
  | 13 => ⟨S8x8x2048x64, .f32⟩
  | 14 => ⟨S_, .f32⟩
  | 15 => ⟨S_, .f32⟩
  | 16 => ⟨S8x8x8x256x64, .f32⟩
  | 17 => ⟨S8x8x8x256x64, .f32⟩
  | 18 => ⟨S2048, .i32⟩
  | 19 => ⟨S_, .i32⟩
  | 20 => ⟨S_, .i32⟩
  | 21 => ⟨S2048, .i32⟩
  | 22 => ⟨S2048, .i32⟩
  | 23 => ⟨S2048, .i32⟩
  | 24 => ⟨S_, .i32⟩
  | 25 => ⟨S2048, .i32⟩
  | 26 => ⟨S2048, .i1⟩
  | 27 => ⟨S2048, .i32⟩
  | 28 => ⟨S2048, .i32⟩
  | 29 => ⟨S_, .i32⟩
  | 30 => ⟨S2048, .i32⟩
  | 31 => ⟨S2048, .i1⟩
  | 32 => ⟨S2048, .i1⟩
  | 33 => ⟨S_, .i32⟩
  | 34 => ⟨S2048, .i32⟩
  | 35 => ⟨S2048, .i32⟩
  | 36 => ⟨S2048, .i32⟩
  | 37 => ⟨S_, .f32⟩
  | 38 => ⟨S8x8x8x64, .f32⟩
  | 39 => ⟨S_, .f32⟩
  | 40 => ⟨S8x8x8x64, .f32⟩
  | 41 => ⟨S8x8x8x64, .f32⟩
  | 42 => ⟨S8x8x2048x8, .f32⟩
  | 43 => ⟨S8, .i32⟩
  | 44 => ⟨S1x8, .i32⟩
  | 45 => ⟨S2048x1, .i32⟩
  | 46 => ⟨S2048x8, .i32⟩
  | 47 => ⟨S2048x8, .i32⟩
  | 48 => ⟨S2048x8, .i1⟩
  | 49 => ⟨S1x1x2048x8, .i1⟩
  | 50 => ⟨S_, .f32⟩
  | 51 => ⟨S_, .f32⟩
  | 52 => ⟨S8x8x2048x8, .i1⟩
  | 53 => ⟨S8x8x2048x8, .f32⟩
  | 54 => ⟨S8x8x2048x8, .f32⟩
  | 55 => ⟨S8x8x2048x3, .f32⟩
  | 56 => ⟨S8x8x2048x3, .i32⟩
  | 57 => ⟨S1x1x2048x1, .i32⟩
  | 58 => ⟨S8x8x2048x3, .i32⟩
  | 59 => ⟨S8x8x2048x3, .i1⟩
  | 60 => ⟨S8, .i32⟩
  | 61 => ⟨S8x1x1x1, .i32⟩
  | 62 => ⟨S8, .i32⟩
  | 63 => ⟨S1x8x1x1, .i32⟩
  | 64 => ⟨S2048, .i32⟩
  | 65 => ⟨S8x256, .i32⟩
  | 66 => ⟨S8x8x8x256x64, .f32⟩
  | 67 => ⟨S8x8x8x256x256, .f32⟩
  | 68 => ⟨S8x8x8x256x256, .f32⟩
  | 69 => ⟨S8x8x8x256x256, .f32⟩
  | 70 => ⟨S8x1x256, .i32⟩
  | 71 => ⟨S8x256x1, .i32⟩
  | 72 => ⟨S8x256x256, .i32⟩
  | 73 => ⟨S8x256x256, .i32⟩
  | 74 => ⟨S8x256x256, .i1⟩
  | 75 => ⟨S_, .f32⟩
  | 76 => ⟨S_, .f32⟩
  | 77 => ⟨S8x8x8x256x256, .i1⟩
  | 78 => ⟨S8x8x8x256x256, .f32⟩
  | 79 => ⟨S8x8x8x256x256, .f32⟩
  | 80 => ⟨S8x8x2048x256, .f32⟩
  | 81 => ⟨S_, .i32⟩
  | 82 => ⟨S8x1x1x1, .i32⟩
  | 83 => ⟨S8x1x1x1, .i1⟩
  | 84 => ⟨S_, .i32⟩
  | 85 => ⟨S8x1x1x1, .i32⟩
  | 86 => ⟨S8x1x1x1, .i32⟩
  | 87 => ⟨S8x1x1x1, .i32⟩
  | 88 => ⟨S_, .i32⟩
  | 89 => ⟨S1x8x1x1, .i32⟩
  | 90 => ⟨S1x8x1x1, .i1⟩
  | 91 => ⟨S_, .i32⟩
  | 92 => ⟨S1x8x1x1, .i32⟩
  | 93 => ⟨S1x8x1x1, .i32⟩
  | 94 => ⟨S1x8x1x1, .i32⟩
  | 95 => ⟨S_, .i32⟩
  | 96 => ⟨S8x8x2048x3, .i32⟩
  | 97 => ⟨S8x8x2048x3, .i1⟩
  | 98 => ⟨S_, .i32⟩
  | 99 => ⟨S8x8x2048x3, .i32⟩
  | 100 => ⟨S8x8x2048x3, .i32⟩
  | 101 => ⟨S8x8x2048x3, .i32⟩
  | 102 => ⟨S8x8x2048x3, .i32⟩
  | 103 => ⟨S8x8x2048x3, .i32⟩
  | 104 => ⟨S8x8x2048x3x1, .i32⟩
  | 105 => ⟨S8x8x2048x3x1, .i32⟩
  | 106 => ⟨S8x8x2048x3x1, .i32⟩
  | 107 => ⟨S8x8x2048x3x3, .i32⟩
  | 108 => ⟨S8x8x2048x3x256x64, .f32⟩
  | 109 => ⟨S_, .i32⟩
  | 110 => ⟨S8x1x1x1, .i32⟩
  | 111 => ⟨S8x1x1x1, .i1⟩
  | 112 => ⟨S_, .i32⟩
  | 113 => ⟨S8x1x1x1, .i32⟩
  | 114 => ⟨S8x1x1x1, .i32⟩
  | 115 => ⟨S8x1x1x1, .i32⟩
  | 116 => ⟨S_, .i32⟩
  | 117 => ⟨S1x8x1x1, .i32⟩
  | 118 => ⟨S1x8x1x1, .i1⟩
  | 119 => ⟨S_, .i32⟩
  | 120 => ⟨S1x8x1x1, .i32⟩
  | 121 => ⟨S1x8x1x1, .i32⟩
  | 122 => ⟨S1x8x1x1, .i32⟩
  | 123 => ⟨S_, .i32⟩
  | 124 => ⟨S8x8x2048x3, .i32⟩
  | 125 => ⟨S8x8x2048x3, .i1⟩
  | 126 => ⟨S_, .i32⟩
  | 127 => ⟨S8x8x2048x3, .i32⟩
  | _ => ⟨S16384x3584, .bf16⟩

abbrev hbmTy0_1 (i : Nat) : BufTy := match i % 128 with
  | 0 => ⟨S8x8x2048x3, .i32⟩
  | 1 => ⟨S8x8x2048x3, .i32⟩
  | 2 => ⟨S8x8x2048x3, .i32⟩
  | 3 => ⟨S8x8x2048x3, .i32⟩
  | 4 => ⟨S8x8x2048x3x1, .i32⟩
  | 5 => ⟨S8x8x2048x3x1, .i32⟩
  | 6 => ⟨S8x8x2048x3x1, .i32⟩
  | 7 => ⟨S8x8x2048x3x3, .i32⟩
  | 8 => ⟨S8x8x2048x3x256x64, .f32⟩
  | 9 => ⟨S8x8x2048x3x256, .f32⟩
  | 10 => ⟨S8x8x2048x3x256, .f32⟩
  | 11 => ⟨S8x8x2048x3x256, .f32⟩
  | 12 => ⟨S8x8x2048x3x1, .i1⟩
  | 13 => ⟨S_, .f32⟩
  | 14 => ⟨S_, .f32⟩
  | 15 => ⟨S8x8x2048x3x256, .i1⟩
  | 16 => ⟨S8x8x2048x3x256, .f32⟩
  | 17 => ⟨S8x8x2048x3x256, .f32⟩
  | 18 => ⟨S8x8x2048x768, .f32⟩
  | 19 => ⟨S8x8x2048x1024, .f32⟩
  | 20 => ⟨S_, .f32⟩
  | 21 => ⟨S8x8x2048, .f32⟩
  | 22 => ⟨S_, .f32⟩
  | 23 => ⟨S8x8x2048, .f32⟩
  | 24 => ⟨S8x8x2048, .f32⟩
  | 25 => ⟨S8x8x2048x1, .f32⟩
  | 26 => ⟨S8x8x2048x1024, .f32⟩
  | 27 => ⟨S8x8x2048x1024, .f32⟩
  | 28 => ⟨S8x8x2048x1024, .f32⟩
  | 29 => ⟨S_, .f32⟩
  | 30 => ⟨S8x8x2048, .f32⟩
  | 31 => ⟨S8x8x2048x1, .f32⟩
  | 32 => ⟨S8x8x2048x1024, .f32⟩
  | 33 => ⟨S8x8x2048x1024, .f32⟩
  | 34 => ⟨S8x8x2048x256, .f32⟩
  | 35 => ⟨S8x8x8x256x256, .f32⟩
  | 36 => ⟨S8x8x2048x768, .f32⟩
  | 37 => ⟨S8x8x2048x3x256, .f32⟩
  | 38 => ⟨S8x8x8x256x64, .f32⟩
  | 39 => ⟨S8x8x2048x64, .f32⟩
  | 40 => ⟨S8x8x2048x64, .f32⟩
  | 41 => ⟨S8x8x2048x64, .f32⟩
  | 42 => ⟨S8x2048x8x64, .f32⟩
  | 43 => ⟨S16384x512, .f32⟩
  | 44 => ⟨S16384x512, .bf16⟩
  | 45 => ⟨S8192x2816, .bf16⟩
  | _ => ⟨S16384x3584, .bf16⟩

abbrev hbmTy (i : Nat) : BufTy := match i / 128 with
  | 0 => hbmTy0_0 i
  | 1 => hbmTy0_1 i
  | _ => ⟨S16384x3584, .bf16⟩

abbrev bufTy : (tb : Table) → Fin (tcTables nBuf tb) → BufTy
  | .hbm, ⟨i, _⟩ => hbmTy i
  | _, _ => ⟨S16384x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v16 : Ref sig .tc := ⟨.hbm, 36, rfl⟩
abbrev main_cst_0 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_values : Ref sig .tc := ⟨.hbm, 55, rfl⟩
abbrev main_indices : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_3 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v47 : Ref sig .tc := ⟨.hbm, 79, rfl⟩
abbrev main_v48 : Ref sig .tc := ⟨.hbm, 80, rfl⟩
abbrev main_c_4 : Ref sig .tc := ⟨.hbm, 81, rfl⟩
abbrev main_v49 : Ref sig .tc := ⟨.hbm, 82, rfl⟩
abbrev main_v50 : Ref sig .tc := ⟨.hbm, 83, rfl⟩
abbrev main_c_5 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_c_6 : Ref sig .tc := ⟨.hbm, 88, rfl⟩
abbrev main_v54 : Ref sig .tc := ⟨.hbm, 89, rfl⟩
abbrev main_v55 : Ref sig .tc := ⟨.hbm, 90, rfl⟩
abbrev main_c_7 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c_8 : Ref sig .tc := ⟨.hbm, 95, rfl⟩
abbrev main_v59 : Ref sig .tc := ⟨.hbm, 96, rfl⟩
abbrev main_v60 : Ref sig .tc := ⟨.hbm, 97, rfl⟩
abbrev main_c_9 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_10 : Ref sig .tc := ⟨.hbm, 109, rfl⟩
abbrev main_v71 : Ref sig .tc := ⟨.hbm, 110, rfl⟩
abbrev main_v72 : Ref sig .tc := ⟨.hbm, 111, rfl⟩
abbrev main_c_11 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_c_12 : Ref sig .tc := ⟨.hbm, 116, rfl⟩
abbrev main_v76 : Ref sig .tc := ⟨.hbm, 117, rfl⟩
abbrev main_v77 : Ref sig .tc := ⟨.hbm, 118, rfl⟩
abbrev main_c_13 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_14 : Ref sig .tc := ⟨.hbm, 123, rfl⟩
abbrev main_v81 : Ref sig .tc := ⟨.hbm, 124, rfl⟩
abbrev main_v82 : Ref sig .tc := ⟨.hbm, 125, rfl⟩
abbrev main_c_15 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_16 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_17 : Ref sig .tc := ⟨.hbm, 148, rfl⟩
abbrev main_v100 : Ref sig .tc := ⟨.hbm, 149, rfl⟩
abbrev main_cst_18 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_19 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩

abbrev nD : Nat := 1
abbrev τ : Topo := Topo.v7x

variable {F : FTy → Type} [FloatOps F]

def κ : String → Option EReal := fun
  | "mask" => some ⊥
  | _ => none
-- ==== Ffn.lean ====
abbrev S16384x512 : Shape := ⟨2, ![16384, 512]⟩
abbrev S16384x1024 : Shape := ⟨2, ![16384, 1024]⟩
abbrev S2x1024x1024 : Shape := ⟨3, ![2, 1024, 1024]⟩
abbrev S512 : Shape := ⟨1, ![512]⟩
abbrev S8x6x1024 : Shape := ⟨3, ![8, 6, 1024]⟩
abbrev S1024 : Shape := ⟨1, ![1024]⟩
abbrev S1024x2816 : Shape := ⟨2, ![1024, 2816]⟩
abbrev S2816x1024 : Shape := ⟨2, ![2816, 1024]⟩
abbrev S22528x1024 : Shape := ⟨2, ![22528, 1024]⟩
abbrev S1x512 : Shape := ⟨2, ![1, 512]⟩
abbrev S1x1024 : Shape := ⟨2, ![1, 1024]⟩
abbrev S512x512 : Shape := ⟨2, ![512, 512]⟩
abbrev S512x1024 : Shape := ⟨2, ![512, 1024]⟩
abbrev S1x1024x1024 : Shape := ⟨3, ![1, 1024, 1024]⟩
abbrev S1x6x1024 : Shape := ⟨3, ![1, 6, 1024]⟩
abbrev S704x1024 : Shape := ⟨2, ![704, 1024]⟩
abbrev S512x2816 : Shape := ⟨2, ![512, 2816]⟩
abbrev S6x1024 : Shape := ⟨2, ![6, 1024]⟩
abbrev S512x1 : Shape := ⟨2, ![512, 1]⟩
abbrev S1x512x1024 : Shape := ⟨3, ![1, 512, 1024]⟩
abbrev S1024x256 : Shape := ⟨2, ![1024, 256]⟩
abbrev S512x256 : Shape := ⟨2, ![512, 256]⟩

abbrev nBuf : Space → Nat
  | .hbm => 17
  | .vmem => 22
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S2x1024x1024, .f32⟩
  | .hbm, ⟨4, _⟩ => ⟨S512, .f32⟩
  | .hbm, ⟨5, _⟩ => ⟨S8x6x1024, .f32⟩
  | .hbm, ⟨6, _⟩ => ⟨S1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1024, .f32⟩
  | .hbm, ⟨11, _⟩ => ⟨S22528x1024, .f32⟩
  | .hbm, ⟨12, _⟩ => ⟨S1x512, .f32⟩
  | .hbm, ⟨13, _⟩ => ⟨S1x1024, .f32⟩
  | .hbm, ⟨14, _⟩ => ⟨S1x1024, .f32⟩
  | .hbm, ⟨15, _⟩ => ⟨S16384x1024, .f32⟩
  | .hbm, ⟨16, _⟩ => ⟨S22528x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x1024x1024, .f32⟩
  | .local _ .vmem, ⟨7, _⟩ => ⟨S1x512, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S1x1024, .f32⟩
  | .local _ .vmem, ⟨15, _⟩ => ⟨S704x1024, .f32⟩
  | .local _ .vmem, ⟨16, _⟩ => ⟨S704x1024, .f32⟩
  | .local _ .vmem, ⟨17, _⟩ => ⟨S512x1024, .f32⟩
  | .local _ .vmem, ⟨18, _⟩ => ⟨S512x1024, .f32⟩
  | .local _ .vmem, ⟨19, _⟩ => ⟨S704x1024, .bf16⟩
  | .local _ .vmem, ⟨20, _⟩ => ⟨S704x1024, .bf16⟩
  | .local _ .vmem, ⟨21, _⟩ => ⟨S512x2816, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S704x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S704x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfnRefIdeal.lean ====
abbrev S16384x512 : Shape := ⟨2, ![16384, 512]⟩
abbrev S16384x1024 : Shape := ⟨2, ![16384, 1024]⟩
abbrev S2x1024x1024 : Shape := ⟨3, ![2, 1024, 1024]⟩
abbrev S512 : Shape := ⟨1, ![512]⟩
abbrev S8x6x1024 : Shape := ⟨3, ![8, 6, 1024]⟩
abbrev S1024 : Shape := ⟨1, ![1024]⟩
abbrev S1024x2816 : Shape := ⟨2, ![1024, 2816]⟩
abbrev S2816x1024 : Shape := ⟨2, ![2816, 1024]⟩
abbrev S22528x1024 : Shape := ⟨2, ![22528, 1024]⟩
abbrev S8x2048x1024 : Shape := ⟨3, ![8, 2048, 1024]⟩
abbrev S8x1x1024 : Shape := ⟨3, ![8, 1, 1024]⟩
abbrev S8x1024 : Shape := ⟨2, ![8, 1024]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S1x1024x1024 : Shape := ⟨3, ![1, 1024, 1024]⟩
abbrev S1024x1024 : Shape := ⟨2, ![1024, 1024]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩

abbrev nBuf : Space → Nat
  | .hbm => 95
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S2x1024x1024, .f32⟩
  | .hbm, ⟨4, _⟩ => ⟨S512, .f32⟩
  | .hbm, ⟨5, _⟩ => ⟨S8x6x1024, .f32⟩
  | .hbm, ⟨6, _⟩ => ⟨S1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1024, .f32⟩
  | .hbm, ⟨11, _⟩ => ⟨S22528x1024, .f32⟩
  | .hbm, ⟨12, _⟩ => ⟨S8x2048x1024, .f32⟩
  | .hbm, ⟨13, _⟩ => ⟨S8x1x1024, .f32⟩
  | .hbm, ⟨14, _⟩ => ⟨S8x1024, .f32⟩
  | .hbm, ⟨15, _⟩ => ⟨S8x1x1024, .f32⟩
  | .hbm, ⟨16, _⟩ => ⟨S8x1x1024, .f32⟩
  | .hbm, ⟨17, _⟩ => ⟨S8x1024, .f32⟩
  | .hbm, ⟨18, _⟩ => ⟨S8x1x1024, .f32⟩
  | .hbm, ⟨19, _⟩ => ⟨S8x1x1024, .f32⟩
  | .hbm, ⟨20, _⟩ => ⟨S8x1024, .f32⟩
  | .hbm, ⟨21, _⟩ => ⟨S8x1x1024, .f32⟩
  | .hbm, ⟨22, _⟩ => ⟨S8x1x1024, .f32⟩
  | .hbm, ⟨23, _⟩ => ⟨S8x1024, .f32⟩
  | .hbm, ⟨24, _⟩ => ⟨S8x1x1024, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x512, .f32⟩
  | .hbm, ⟨38, _⟩ => ⟨S16384x512, .f32⟩
  | .hbm, ⟨39, _⟩ => ⟨S1x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x1024, .f32⟩
  | .hbm, ⟨44, _⟩ => ⟨S8x2048x1024, .f32⟩
  | .hbm, ⟨45, _⟩ => ⟨S1x1024x1024, .f32⟩
  | .hbm, ⟨46, _⟩ => ⟨S1024x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S_, .f32⟩
  | .hbm, ⟨53, _⟩ => ⟨S8x2048, .f32⟩
  | .hbm, ⟨54, _⟩ => ⟨S8x2048x1, .f32⟩
  | .hbm, ⟨55, _⟩ => ⟨S_, .f32⟩
  | .hbm, ⟨56, _⟩ => ⟨S8x2048x1, .f32⟩
  | .hbm, ⟨57, _⟩ => ⟨S8x2048x1, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S8x2048x1, .f32⟩
  | .hbm, ⟨62, _⟩ => ⟨S8x2048x1024, .f32⟩
  | .hbm, ⟨63, _⟩ => ⟨S8x2048x1024, .f32⟩
  | .hbm, ⟨64, _⟩ => ⟨S1x1x1024, .f32⟩
  | .hbm, ⟨65, _⟩ => ⟨S8x2048x1024, .f32⟩
  | .hbm, ⟨66, _⟩ => ⟨S8x2048x1024, .f32⟩
  | .hbm, ⟨67, _⟩ => ⟨S_, .f32⟩
  | .hbm, ⟨68, _⟩ => ⟨S8x1x1024, .f32⟩
  | .hbm, ⟨69, _⟩ => ⟨S8x1x1024, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S1024x2816, .f32⟩
  | .hbm, ⟨75, _⟩ => ⟨S8x2048x2816, .f32⟩
  | .hbm, ⟨76, _⟩ => ⟨S8x2048x2816, .f32⟩
  | .hbm, ⟨77, _⟩ => ⟨S8x2048x2816, .f32⟩
  | .hbm, ⟨78, _⟩ => ⟨S_, .f32⟩
  | .hbm, ⟨79, _⟩ => ⟨S8x2048x2816, .f32⟩
  | .hbm, ⟨80, _⟩ => ⟨S8x2048x2816, .f32⟩
  | .hbm, ⟨81, _⟩ => ⟨S_, .f32⟩
  | .hbm, ⟨82, _⟩ => ⟨S8x2048x2816, .f32⟩
  | .hbm, ⟨83, _⟩ => ⟨S8x2048x2816, .f32⟩
  | .hbm, ⟨84, _⟩ => ⟨S8x2048x2816, .f32⟩
  | .hbm, ⟨85, _⟩ => ⟨S1024x2816, .f32⟩
  | .hbm, ⟨86, _⟩ => ⟨S8x2048x2816, .f32⟩
  | .hbm, ⟨87, _⟩ => ⟨S8x2048x2816, .f32⟩
  | .hbm, ⟨88, _⟩ => ⟨S2816x1024, .f32⟩
  | .hbm, ⟨89, _⟩ => ⟨S8x2048x1024, .f32⟩
  | .hbm, ⟨90, _⟩ => ⟨S8x2048x1024, .f32⟩
  | .hbm, ⟨91, _⟩ => ⟨S8x2048x1024, .f32⟩
  | .hbm, ⟨92, _⟩ => ⟨S8x2048x1024, .f32⟩
  | .hbm, ⟨93, _⟩ => ⟨S16384x1024, .f32⟩
  | .hbm, ⟨94, _⟩ => ⟨S22528x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_call0_v5 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]
-- ==== Inproj.lean ====
abbrev S16384x1024 : Shape := ⟨2, ![16384, 1024]⟩
abbrev S8x6x1024 : Shape := ⟨3, ![8, 6, 1024]⟩
abbrev S1024 : Shape := ⟨1, ![1024]⟩
abbrev S2x1024x3584 : Shape := ⟨3, ![2, 1024, 3584]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x1024 : Shape := ⟨2, ![1, 1024]⟩
abbrev S16384x3584 : Shape := ⟨2, ![16384, 3584]⟩
abbrev S1024x1024 : Shape := ⟨2, ![1024, 1024]⟩
abbrev S1x6x1024 : Shape := ⟨3, ![1, 6, 1024]⟩
abbrev S1x1024x3584 : Shape := ⟨3, ![1, 1024, 3584]⟩
abbrev S1024x128 : Shape := ⟨2, ![1024, 128]⟩
abbrev S1024x3584 : Shape := ⟨2, ![1024, 3584]⟩
abbrev S6x1024 : Shape := ⟨2, ![6, 1024]⟩
abbrev S1024x1 : Shape := ⟨2, ![1024, 1]⟩
abbrev S1x1024x512 : Shape := ⟨3, ![1, 1024, 512]⟩
abbrev S1024x512 : Shape := ⟨2, ![1024, 512]⟩

abbrev nBuf : Space → Nat
  | .hbm => 31
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S2x1024x3584, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S2048, .f32⟩
  | .hbm, ⟨13, _⟩ => ⟨S2048x1, .f32⟩
  | .hbm, ⟨14, _⟩ => ⟨S1x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x128, .f32⟩
  | .hbm, ⟨21, _⟩ => ⟨S2048x64, .f32⟩
  | .hbm, ⟨22, _⟩ => ⟨S2048x128, .f32⟩
  | .hbm, ⟨23, _⟩ => ⟨S_, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S1x1024, .f32⟩
  | .hbm, ⟨30, _⟩ => ⟨S16384x3584, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024x3584, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x3584, .bf16⟩
  | .local _ .vmem, ⟨15, _⟩ => ⟨S1024x3584, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x3584 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InprojIdeal.lean ====
variable {F : FTy → Type} [FloatOps F] [Named F]
def κ : String → Option EReal := fun
  | "q_scale" => some (((8 * (Real.log 2))⁻¹ : ℝ) : EReal)
  | _ => none
-- ==== InprojRefIdeal.lean ====
abbrev S16384x1024 : Shape := ⟨2, ![16384, 1024]⟩
abbrev S8x6x1024 : Shape := ⟨3, ![8, 6, 1024]⟩
abbrev S1024 : Shape := ⟨1, ![1024]⟩
abbrev S2x1024x3584 : Shape := ⟨3, ![2, 1024, 3584]⟩
abbrev S8x2048x1024 : Shape := ⟨3, ![8, 2048, 1024]⟩
abbrev S8x1x1024 : Shape := ⟨3, ![8, 1, 1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x3584 : Shape := ⟨3, ![1, 1024, 3584]⟩
abbrev S1024x3584 : Shape := ⟨2, ![1024, 3584]⟩
abbrev S8x2048x3584 : Shape := ⟨3, ![8, 2048, 3584]⟩
abbrev S8x2048x512 : Shape := ⟨3, ![8, 2048, 512]⟩
abbrev S8x2048x4x128 : Shape := ⟨4, ![8, 2048, 4, 128]⟩
abbrev S64 : Shape := ⟨1, ![64]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S8x2048x4x64 : Shape := ⟨4, ![8, 2048, 4, 64]⟩
abbrev S16384x3584 : Shape := ⟨2, ![16384, 3584]⟩

abbrev nBuf : Space → Nat
  | .hbm => 123
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S2x1024x3584, .f32⟩
  | .hbm, ⟨4, _⟩ => ⟨S8x2048x1024, .f32⟩
  | .hbm, ⟨5, _⟩ => ⟨S8x1x1024, .f32⟩
  | .hbm, ⟨6, _⟩ => ⟨S8x1024, .f32⟩
  | .hbm, ⟨7, _⟩ => ⟨S8x1x1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S1x1024x3584, .f32⟩
  | .hbm, ⟨35, _⟩ => ⟨S1024x3584, .f32⟩
  | .hbm, ⟨36, _⟩ => ⟨S8x2048x3584, .f32⟩
  | .hbm, ⟨37, _⟩ => ⟨S8x2048x512, .f32⟩
  | .hbm, ⟨38, _⟩ => ⟨S8x2048x512, .f32⟩
  | .hbm, ⟨39, _⟩ => ⟨S8x2048x512, .f32⟩
  | .hbm, ⟨40, _⟩ => ⟨S8x2048x512, .f32⟩
  | .hbm, ⟨41, _⟩ => ⟨S8x2048x512, .f32⟩
  | .hbm, ⟨42, _⟩ => ⟨S8x2048x512, .f32⟩
  | .hbm, ⟨43, _⟩ => ⟨S8x2048x512, .f32⟩
  | .hbm, ⟨44, _⟩ => ⟨S_, .f32⟩
  | .hbm, ⟨45, _⟩ => ⟨S8x2048x512, .f32⟩
  | .hbm, ⟨46, _⟩ => ⟨S8x2048x512, .f32⟩
  | .hbm, ⟨47, _⟩ => ⟨S_, .f32⟩
  | .hbm, ⟨48, _⟩ => ⟨S_, .f32⟩
  | .hbm, ⟨49, _⟩ => ⟨S8x2048x512, .f32⟩
  | .hbm, ⟨50, _⟩ => ⟨S8x2048x512, .f32⟩
  | .hbm, ⟨51, _⟩ => ⟨S8x2048x4x128, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S2048, .f32⟩
  | .hbm, ⟨61, _⟩ => ⟨S2048x1, .f32⟩
  | .hbm, ⟨62, _⟩ => ⟨S1x64, .f32⟩
  | .hbm, ⟨63, _⟩ => ⟨S2048x64, .f32⟩
  | .hbm, ⟨64, _⟩ => ⟨S2048x64, .f32⟩
  | .hbm, ⟨65, _⟩ => ⟨S2048x64, .f32⟩
  | .hbm, ⟨66, _⟩ => ⟨S2048x64, .f32⟩
  | .hbm, ⟨67, _⟩ => ⟨S1x2048x1x64, .f32⟩
  | .hbm, ⟨68, _⟩ => ⟨S2048x64, .f32⟩
  | .hbm, ⟨69, _⟩ => ⟨S1x2048x1x64, .f32⟩
  | .hbm, ⟨70, _⟩ => ⟨S8x2048x4x64, .f32⟩
  | .hbm, ⟨71, _⟩ => ⟨S8x2048x4x64, .f32⟩
  | .hbm, ⟨72, _⟩ => ⟨S8x2048x4x64, .f32⟩
  | .hbm, ⟨73, _⟩ => ⟨S8x2048x4x64, .f32⟩
  | .hbm, ⟨74, _⟩ => ⟨S8x2048x4x64, .f32⟩
  | .hbm, ⟨75, _⟩ => ⟨S8x2048x4x64, .f32⟩
  | .hbm, ⟨76, _⟩ => ⟨S8x2048x4x64, .f32⟩
  | .hbm, ⟨77, _⟩ => ⟨S8x2048x4x64, .f32⟩
  | .hbm, ⟨78, _⟩ => ⟨S8x2048x4x64, .f32⟩
  | .hbm, ⟨79, _⟩ => ⟨S8x2048x4x64, .f32⟩
  | .hbm, ⟨80, _⟩ => ⟨S8x2048x4x64, .f32⟩
  | .hbm, ⟨81, _⟩ => ⟨S8x2048x4x64, .f32⟩
  | .hbm, ⟨82, _⟩ => ⟨S8x2048x4x128, .f32⟩
  | .hbm, ⟨83, _⟩ => ⟨S8x2048x512, .f32⟩
  | .hbm, ⟨84, _⟩ => ⟨S8x2048x4x128, .f32⟩
  | .hbm, ⟨85, _⟩ => ⟨S64, .f32⟩
  | .hbm, ⟨86, _⟩ => ⟨S64, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S2048, .f32⟩
  | .hbm, ⟨94, _⟩ => ⟨S2048x1, .f32⟩
  | .hbm, ⟨95, _⟩ => ⟨S1x64, .f32⟩
  | .hbm, ⟨96, _⟩ => ⟨S2048x64, .f32⟩
  | .hbm, ⟨97, _⟩ => ⟨S2048x64, .f32⟩
  | .hbm, ⟨98, _⟩ => ⟨S2048x64, .f32⟩
  | .hbm, ⟨99, _⟩ => ⟨S2048x64, .f32⟩
  | .hbm, ⟨100, _⟩ => ⟨S1x2048x1x64, .f32⟩
  | .hbm, ⟨101, _⟩ => ⟨S2048x64, .f32⟩
  | .hbm, ⟨102, _⟩ => ⟨S1x2048x1x64, .f32⟩
  | .hbm, ⟨103, _⟩ => ⟨S8x2048x4x64, .f32⟩
  | .hbm, ⟨104, _⟩ => ⟨S8x2048x4x64, .f32⟩
  | .hbm, ⟨105, _⟩ => ⟨S8x2048x4x64, .f32⟩
  | .hbm, ⟨106, _⟩ => ⟨S8x2048x4x64, .f32⟩
  | .hbm, ⟨107, _⟩ => ⟨S8x2048x4x64, .f32⟩
  | .hbm, ⟨108, _⟩ => ⟨S8x2048x4x64, .f32⟩
  | .hbm, ⟨109, _⟩ => ⟨S8x2048x4x64, .f32⟩
  | .hbm, ⟨110, _⟩ => ⟨S8x2048x4x64, .f32⟩
  | .hbm, ⟨111, _⟩ => ⟨S8x2048x4x64, .f32⟩
  | .hbm, ⟨112, _⟩ => ⟨S8x2048x4x64, .f32⟩
  | .hbm, ⟨113, _⟩ => ⟨S8x2048x4x64, .f32⟩
  | .hbm, ⟨114, _⟩ => ⟨S8x2048x4x64, .f32⟩
  | .hbm, ⟨115, _⟩ => ⟨S8x2048x4x128, .f32⟩
  | .hbm, ⟨116, _⟩ => ⟨S_, .f32⟩
  | .hbm, ⟨117, _⟩ => ⟨S8x2048x4x128, .f32⟩
  | .hbm, ⟨118, _⟩ => ⟨S8x2048x4x128, .f32⟩
  | .hbm, ⟨119, _⟩ => ⟨S8x2048x512, .f32⟩
  | .hbm, ⟨120, _⟩ => ⟨S8x2048x3584, .f32⟩
  | .hbm, ⟨121, _⟩ => ⟨S16384x3584, .f32⟩
  | .hbm, ⟨122, _⟩ => ⟨S16384x3584, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_cst_7 : Ref sig .tc := ⟨.hbm, 87, rfl⟩
abbrev main_v75 : Ref sig .tc := ⟨.hbm, 88, rfl⟩
abbrev main_v76 : Ref sig .tc := ⟨.hbm, 89, rfl⟩
abbrev main_cst_8 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_cst_9 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩

abbrev nD : Nat := 1
abbrev τ : Topo := Topo.v7x

variable {F : FTy → Type} [FloatOps F]
-- ==== Experts.lean ====
abbrev S294912x128 : Shape := ⟨2, ![294912, 128]⟩
abbrev S72 : Shape := ⟨1, ![72]⟩
abbrev S8x1024x2816 : Shape := ⟨3, ![8, 1024, 2816]⟩
abbrev S8x2816x1024 : Shape := ⟨3, ![8, 2816, 1024]⟩
abbrev S4096x128 : Shape := ⟨2, ![4096, 128]⟩
abbrev S1x1024x2816 : Shape := ⟨3, ![1, 1024, 2816]⟩
abbrev S1 : Shape := ⟨1, ![1]⟩
abbrev S1x2816x1024 : Shape := ⟨3, ![1, 2816, 1024]⟩
abbrev S512x1024 : Shape := ⟨2, ![512, 1024]⟩
abbrev S512x2816 : Shape := ⟨2, ![512, 2816]⟩
abbrev S512x128 : Shape := ⟨2, ![512, 128]⟩
abbrev S1024x2816 : Shape := ⟨2, ![1024, 2816]⟩
abbrev S1024x256 : Shape := ⟨2, ![1024, 256]⟩
abbrev S512x256 : Shape := ⟨2, ![512, 256]⟩
abbrev S2816x1024 : Shape := ⟨2, ![2816, 1024]⟩
abbrev S256x128 : Shape := ⟨2, ![256, 128]⟩
abbrev S256x1024 : Shape := ⟨2, ![256, 1024]⟩
abbrev S256x256 : Shape := ⟨2, ![256, 256]⟩
abbrev S256x2816 : Shape := ⟨2, ![256, 2816]⟩
abbrev S2048x128 : Shape := ⟨2, ![2048, 128]⟩

abbrev nBuf : Space → Nat
  | .hbm => 5
  | .vmem => 12
  | .smem => 2
  | _ => 0

abbrev bufTy : (tb : Table) → Fin (tcTables nBuf tb) → BufTy
  | .hbm, ⟨0, _⟩ => ⟨S294912x128, .f32⟩
  | .hbm, ⟨1, _⟩ => ⟨S8x1024x2816, .bf16⟩
  | .hbm, ⟨2, _⟩ => ⟨S8x1024x2816, .bf16⟩
  | .hbm, ⟨3, _⟩ => ⟨S8x2816x1024, .bf16⟩
  | .hbm, ⟨4, _⟩ => ⟨S294912x128, .f32⟩
  | .local _ .vmem, ⟨0, _⟩ => ⟨S4096x128, .f32⟩
  | .local _ .vmem, ⟨1, _⟩ => ⟨S4096x128, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S4096x128, .f32⟩
  | .local _ .vmem, ⟨9, _⟩ => ⟨S4096x128, .f32⟩
  | .local _ .vmem, ⟨10, _⟩ => ⟨S512x1024, .bf16⟩
  | .local _ .vmem, ⟨11, _⟩ => ⟨S512x2816, .bf16⟩
  | .local _ .smem, ⟨0, _⟩ => ⟨S72, .i32⟩
  | .local _ .smem, ⟨1, _⟩ => ⟨S72, .i32⟩
  | _, _ => ⟨S294912x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![72], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c256_i32 : BitVec 32 := 256#32
  let v2 : BitVec 1 := Scalar.cmpi .sgt v1 c256_i32
  let v3 : BitVec 32 := Scalar.extui v2
  let c0_i32 : BitVec 32 := 0#32
  let v4 : BitVec 1 := Scalar.cmpi .ne v3 c0_i32
  v4

def k0_cond2 (v1 : BitVec 32) : BitVec 1 :=
  let c0_i32_0 : BitVec 32 := 0#32
  let v5 : BitVec 1 := Scalar.cmpi .sgt v1 c0_i32_0
  let c256_i32_1 : BitVec 32 := 256#32
  let v6 : BitVec 1 := Scalar.cmpi .sle v1 c256_i32_1
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (v1 : BitVec 32) : BitVec 1 :=
  let c0_i32_3 : BitVec 32 := 0#32
  let v10 : BitVec 1 := Scalar.cmpi .eq v1 c0_i32_3
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S294912x128 : Shape := ⟨2, ![294912, 128]⟩
abbrev S72 : Shape := ⟨1, ![72]⟩
abbrev S8x1024x2816 : Shape := ⟨3, ![8, 1024, 2816]⟩
abbrev S8x2816x1024 : Shape := ⟨3, ![8, 2816, 1024]⟩
abbrev S72x512x1024 : Shape := ⟨3, ![72, 512, 1024]⟩
abbrev S_ : Shape := ⟨0, ![]⟩
abbrev S72x1 : Shape := ⟨2, ![72, 1]⟩
abbrev S72x1024x2816 : Shape := ⟨3, ![72, 1024, 2816]⟩
abbrev S72x512x2816 : Shape := ⟨3, ![72, 512, 2816]⟩
abbrev S72x2816x1024 : Shape := ⟨3, ![72, 2816, 1024]⟩

abbrev nBuf : Space → Nat
  | .hbm => 51
  | .vmem => 0
  | .smem => 0
  | _ => 0

abbrev bufTy : (tb : Table) → Fin (tcTables nBuf tb) → BufTy
  | .hbm, ⟨0, _⟩ => ⟨S294912x128, .f32⟩
  | .hbm, ⟨1, _⟩ => ⟨S72, .i32⟩
  | .hbm, ⟨2, _⟩ => ⟨S72, .i32⟩
  | .hbm, ⟨3, _⟩ => ⟨S8x1024x2816, .bf16⟩
  | .hbm, ⟨4, _⟩ => ⟨S8x1024x2816, .bf16⟩
  | .hbm, ⟨5, _⟩ => ⟨S8x2816x1024, .bf16⟩
  | .hbm, ⟨6, _⟩ => ⟨S72x512x1024, .f32⟩
  | .hbm, ⟨7, _⟩ => ⟨S_, .i32⟩
  | .hbm, ⟨8, _⟩ => ⟨S72, .i32⟩
  | .hbm, ⟨9, _⟩ => ⟨S72, .i1⟩
  | .hbm, ⟨10, _⟩ => ⟨S_, .i32⟩
  | .hbm, ⟨11, _⟩ => ⟨S72, .i32⟩
  | .hbm, ⟨12, _⟩ => ⟨S72, .i32⟩
  | .hbm, ⟨13, _⟩ => ⟨S72, .i32⟩
  | .hbm, ⟨14, _⟩ => ⟨S72x1, .i32⟩
  | .hbm, ⟨15, _⟩ => ⟨S72x1024x2816, .bf16⟩
  | .hbm, ⟨16, _⟩ => ⟨S72x1024x2816, .f32⟩
  | .hbm, ⟨17, _⟩ => ⟨S72x512x2816, .f32⟩
  | .hbm, ⟨18, _⟩ => ⟨S_, .i32⟩
  | .hbm, ⟨19, _⟩ => ⟨S72, .i32⟩
  | .hbm, ⟨20, _⟩ => ⟨S72, .i1⟩
  | .hbm, ⟨21, _⟩ => ⟨S_, .i32⟩
  | .hbm, ⟨22, _⟩ => ⟨S72, .i32⟩
  | .hbm, ⟨23, _⟩ => ⟨S72, .i32⟩
  | .hbm, ⟨24, _⟩ => ⟨S72, .i32⟩
  | .hbm, ⟨25, _⟩ => ⟨S72x1, .i32⟩
  | .hbm, ⟨26, _⟩ => ⟨S72x1024x2816, .bf16⟩
  | .hbm, ⟨27, _⟩ => ⟨S72x1024x2816, .f32⟩
  | .hbm, ⟨28, _⟩ => ⟨S72x512x2816, .f32⟩
  | .hbm, ⟨29, _⟩ => ⟨S72x512x2816, .f32⟩
  | .hbm, ⟨30, _⟩ => ⟨S72x512x2816, .f32⟩
  | .hbm, ⟨31, _⟩ => ⟨S_, .f32⟩
  | .hbm, ⟨32, _⟩ => ⟨S72x512x2816, .f32⟩
  | .hbm, ⟨33, _⟩ => ⟨S72x512x2816, .f32⟩
  | .hbm, ⟨34, _⟩ => ⟨S_, .f32⟩
  | .hbm, ⟨35, _⟩ => ⟨S72x512x2816, .f32⟩
  | .hbm, ⟨36, _⟩ => ⟨S72x512x2816, .f32⟩
  | .hbm, ⟨37, _⟩ => ⟨S72x512x2816, .f32⟩
  | .hbm, ⟨38, _⟩ => ⟨S72x512x2816, .f32⟩
  | .hbm, ⟨39, _⟩ => ⟨S_, .i32⟩
  | .hbm, ⟨40, _⟩ => ⟨S72, .i32⟩
  | .hbm, ⟨41, _⟩ => ⟨S72, .i1⟩
  | .hbm, ⟨42, _⟩ => ⟨S_, .i32⟩
  | .hbm, ⟨43, _⟩ => ⟨S72, .i32⟩
  | .hbm, ⟨44, _⟩ => ⟨S72, .i32⟩
  | .hbm, ⟨45, _⟩ => ⟨S72, .i32⟩
  | .hbm, ⟨46, _⟩ => ⟨S72x1, .i32⟩
  | .hbm, ⟨47, _⟩ => ⟨S72x2816x1024, .bf16⟩
  | .hbm, ⟨48, _⟩ => ⟨S72x2816x1024, .f32⟩
  | .hbm, ⟨49, _⟩ => ⟨S72x512x1024, .f32⟩
  | .hbm, ⟨50, _⟩ => ⟨S294912x128, .f32⟩
  | _, _ => ⟨S294912x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== Proof.Moba.Softmax.lean ====
/-
  The mathematics of one attention row over the extended reals, away from either program: a masked softmax-weighted sum
  of values does not depend on the real number its exponents are shifted by (`kernel_row`, `reference_row`).
-/
module

public import Idealize.ShloMosaic.Lib.Pointwise
public import Idealize.ShloMosaic.Lib.IdealHost
public import Idealize.ShloMosaic.Lib.SortPrefix

@[expose] public section

noncomputable section

namespace Cert.Attn

open Idealize.ShloMosaic

/-- A nonnegative real factor moves into a finite sum of extended reals. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of extended reals by a nonzero real is the product with its real reciprocal. -/
theorem div_real (x : EReal) {l : ℝ} (hl : l ≠ 0) : Ideal.div x (l : EReal) = x * ((l⁻¹ : ℝ) : EReal) := by
  unfold Ideal.div
  rw [if_neg (by exact_mod_cast hl), EReal.coe_inv]

/-- `exp2` of a real, and of the masked entry. -/
theorem exp2_coe (r : ℝ) : Ideal.exp2 (r : EReal) = (((2 : ℝ) ^ r : ℝ) : EReal) := rfl
theorem exp2_bot : Ideal.exp2 ⊥ = 0 := rfl
theorem exp_coe (r : ℝ) : Ideal.exp (r : EReal) = ((Real.exp r : ℝ) : EReal) := rfl
theorem exp_bot : Ideal.exp ⊥ = 0 := rfl

/-- The attended value: the weighted sum of the values over the sum of the (real, nonnegative) weights. -/
def attend {ι : Type} [Fintype ι] (w : ι → ℝ) (v : ι → EReal) : EReal :=
  (∑ t, (w t : EReal) * v t) * (((∑ t, w t)⁻¹ : ℝ) : EReal)

/-- Weights scaled by a common positive real, summed and divided: the quotient form. -/
theorem attend_scaled {ι : Type} [Fintype ι] (w : ι → ℝ) (v : ι → EReal) (c : ℝ) (hc : 0 < c) (hw : ∀ t, 0 ≤ w t)
    (hl : (∑ t, w t) ≠ 0) :
    Ideal.div (∑ t, ((c * w t : ℝ) : EReal) * v t) (∑ t, ((c * w t : ℝ) : EReal)) = attend w v := by
  have h1 : (∑ t, ((c * w t : ℝ) : EReal) * v t) = (c : EReal) * ∑ t, (w t : EReal) * v t := by
    rw [coe_mul_sum _ _ hc.le]
    exact Finset.sum_congr rfl fun t _ => by rw [EReal.coe_mul, mul_assoc]
  have h2 : (∑ t, ((c * w t : ℝ) : EReal)) = ((c * ∑ t, w t : ℝ) : EReal) := by
    rw [← coe_sum, Finset.mul_sum]
  rw [h1, h2, div_real _ (mul_ne_zero hc.ne' hl), attend, mul_inv, EReal.coe_mul]
  rw [mul_mul_mul_comm]
  rw [← EReal.coe_mul, mul_inv_cancel₀ hc.ne', EReal.coe_one, one_mul]

/-- The same with each weight divided before the sum. -/
theorem attend_normalised {ι : Type} [Fintype ι] (w : ι → ℝ) (v : ι → EReal) (c : ℝ) (hc : 0 < c) (hw : ∀ t, 0 ≤ w t)
    (hl : 0 < ∑ t, w t) :
    (∑ t, ((c * w t / (c * ∑ u, w u) : ℝ) : EReal) * v t) = attend w v := by
  have h : ∀ t, ((c * w t / (c * ∑ u, w u) : ℝ) : EReal) * v t
      = (((∑ u, w u)⁻¹ : ℝ) : EReal) * ((w t : EReal) * v t) := fun t => by
    rw [mul_div_mul_left _ _ hc.ne', div_eq_inv_mul, EReal.coe_mul, mul_assoc]
  rw [Finset.sum_congr rfl fun t _ => h t, ← coe_mul_sum _ _ (inv_nonneg.mpr hl.le), attend, mul_comm]

/-- A sum over a prefix of the positions is the sum over all of them of what is zero past the prefix. -/
theorem sum_prefix {M : Type} [AddCommMonoid M] {n N : Nat} (h : n ≤ N) (f : Fin N → M) (hf : ∀ t : Fin N, n ≤ t.val → f t = 0) :
    (∑ c : Fin n, f (Fin.castLE h c)) = ∑ t : Fin N, f t := by
  classical
  rw [← Finset.sum_subset (Finset.subset_univ (Finset.univ.map (Fin.castLEEmb h)))]
  · rw [Finset.sum_map]; rfl
  · intro t _ ht
    refine hf t (Nat.le_of_not_lt fun hlt => ht ?_)
    exact Finset.mem_map.mpr ⟨⟨t.val, hlt⟩, Finset.mem_univ _, by ext; rfl⟩

/-- The contents of all blocks summed, when only one block of its own and some of the distinct selected blocks are
    nonzero: the own block's and the selected ones'. -/
theorem sum_selected {M : Type} [AddCommMonoid M] {n k : Nat} (F : Fin n → M) (own : Fin n) (e : Fin k → Fin n)
    (he : Function.Injective e) (hF : ∀ j, j ≠ own → (¬ ∃ i, e i = j ∧ j < own) → F j = 0) :
    (∑ j, F j) = F own + ∑ i, if e i < own then F (e i) else 0 := by
  classical
  rw [← Finset.add_sum_erase _ _ (Finset.mem_univ own)]
  congr 1
  rw [← Finset.sum_filter]
  have hm := Finset.sum_map (Finset.univ.filter fun i => e i < own) (⟨e, he⟩ : Fin k ↪ Fin n) F
  refine Eq.trans ?_ hm
  symm
  refine Finset.sum_subset ?_ ?_
  · intro j hj
    obtain ⟨i, hi, rfl⟩ := Finset.mem_map.mp hj
    exact Finset.mem_erase.mpr ⟨(Finset.mem_filter.mp hi).2.ne, Finset.mem_univ _⟩
  · intro j hj hn
    refine hF j (Finset.ne_of_mem_erase hj) fun ⟨i, hi, hlt⟩ => hn ?_
    exact Finset.mem_map.mpr ⟨i, Finset.mem_filter.mpr ⟨Finset.mem_univ _, by rw [hi]; exact hlt⟩, hi⟩

/-- The positions of `n` blocks of `w`: a sum over all positions, block by block. -/
theorem sum_blocks {M : Type} [AddCommMonoid M] (f : Fin 2048 → M) :
    (∑ t, f t) = ∑ j : Fin 8, ∑ k : Fin 256, f ⟨256 * j.val + k.val, by omega⟩ := by
  rw [← Finset.sum_product' (f := fun (j : Fin 8) (k : Fin 256) => f ⟨256 * j.val + k.val, by omega⟩)]
  rw [Finset.univ_product_univ]
  refine (Fintype.sum_equiv (finProdFinEquiv (m := 8) (n := 256)) _ _ fun p => ?_).symm
  congr 1
  ext
  simp [finProdFinEquiv]
  ring

/-! ## Which positions a query sees -/

/-- The pooled-key score of a query against a block: the query against the mean of the block's keys. -/
def gate (q k : Fin 2048 → Fin 64 → ℝ) (r : Fin 2048) (j : Fin 8) : ℝ :=
  ∑ d, q r d * ((∑ i : Fin 256, k ⟨256 * j.val + i.val, by omega⟩ d) / 256)

/-- The number of past blocks that come before block `j`: a larger score, or an equal one at a lower index. -/
def rank (q k : Fin 2048 → Fin 64 → ℝ) (r : Fin 2048) (j : Fin 8) : Nat :=
  (Finset.univ.filter fun i : Fin 8 => i.val < r.val / 256 ∧
    (gate q k r j < gate q k r i ∨ (gate q k r i = gate q k r j ∧ i < j))).card

/-- A query sees its own block up to itself, and the past blocks among the three of the largest pooled-key scores. -/
def Sees (q k : Fin 2048 → Fin 64 → ℝ) (r t : Fin 2048) : Prop :=
  (t.val / 256 = r.val / 256 ∧ t ≤ r) ∨ (t.val / 256 < r.val / 256 ∧ rank q k r ⟨t.val / 256, by omega⟩ < 3)

/-- A query's score against a key. -/
def score (q k : Fin 2048 → Fin 64 → ℝ) (r t : Fin 2048) : ℝ := ∑ d, q r d * k t d

open Classical in
/-- The weight of a position: the power of two of its score, or nothing where it is not seen. -/
def weight (q k : Fin 2048 → Fin 64 → ℝ) (r t : Fin 2048) : ℝ := if Sees q k r t then (2 : ℝ) ^ score q k r t else 0

theorem weight_nonneg (q k : Fin 2048 → Fin 64 → ℝ) (r t : Fin 2048) : 0 ≤ weight q k r t := by
  unfold weight; split
  · exact (Real.rpow_pos_of_pos two_pos _).le
  · exact le_rfl

theorem sees_self (q k : Fin 2048 → Fin 64 → ℝ) (r : Fin 2048) : Sees q k r r := Or.inl ⟨rfl, le_rfl⟩

theorem weight_sum_pos (q k : Fin 2048 → Fin 64 → ℝ) (r : Fin 2048) : 0 < ∑ t, weight q k r t := by
  refine lt_of_lt_of_le ?_ (Finset.single_le_sum (fun t _ => weight_nonneg q k r t) (Finset.mem_univ r))
  rw [weight, if_pos (sees_self q k r)]
  exact Real.rpow_pos_of_pos two_pos _

/-- A query sees nothing past its own position, hence nothing past its own block. -/
theorem weight_future (q k : Fin 2048 → Fin 64 → ℝ) (r t : Fin 2048) (h : r < t) : weight q k r t = 0 := by
  rw [weight, if_neg]
  rintro (⟨_, h2⟩ | ⟨h1, _⟩)
  · exact absurd h2 (not_le.mpr h)
  · have := Nat.div_le_div_right (c := 256) (Fin.lt_def.mp h).le; omega

/-- One head's output at a row, for one column of the values. -/
def head (q k : Fin 2048 → Fin 64 → ℝ) (v : Fin 2048 → EReal) (r : Fin 2048) : EReal := attend (weight q k r) v

/-- A masked score less a real, under `exp2`. -/
theorem exp2_masked (P : Prop) [Decidable P] (s m : ℝ) :
    Ideal.exp2 ((if P then (s : EReal) else ⊥) - (m : EReal)) = (((2 : ℝ) ^ (-m) * (if P then (2 : ℝ) ^ s else 0) : ℝ) : EReal) := by
  split
  · rw [← EReal.coe_sub, exp2_coe, sub_eq_add_neg, Real.rpow_add two_pos, mul_comm]
  · rw [EReal.bot_sub, exp2_bot, mul_zero, EReal.coe_zero]

/-- A masked score times `log 2`, less a real, under `exp`. -/
theorem exp_masked (P : Prop) [Decidable P] (s m : ℝ) :
    Ideal.exp ((if P then (s : EReal) * ((Real.log 2 : ℝ) : EReal) else ⊥) - (m : EReal))
      = ((Real.exp (-m) * (if P then (2 : ℝ) ^ s else 0) : ℝ) : EReal) := by
  split
  · rw [← EReal.coe_mul, ← EReal.coe_sub, exp_coe, sub_eq_add_neg, Real.exp_add, Real.rpow_def_of_pos two_pos, mul_comm, mul_comm s]
  · rw [EReal.bot_sub, exp_bot, mul_zero, EReal.coe_zero]

/-- What a maximum of masked scores is, when one of them is seen: a real. -/
theorem real_of_bounds {x : EReal} (h1 : x ≠ ⊤) (h2 : x ≠ ⊥) : ∃ m : ℝ, x = (m : EReal) := ⟨x.toReal, (EReal.coe_toReal h1 h2).symm⟩

end Cert.Attn

end
-- ==== Proof.Moba.Rank.lean ====
/-
  The three greatest of a row of scores, equal ones in index order, are those with fewer than three scores before them:
  the place a stable descending sort gives a position is the number of positions before it.
-/
module

public import proofs.«01_k».proof.Proof.Moba.Softmax

@[expose] public section

noncomputable section

namespace Cert.Attn

open Idealize.ShloMosaic

variable {n : Nat} (g : Fin n → EReal)

/-- Position `i` is before position `j`: a greater score, or an equal one at a lower index. -/
def before (i j : Fin n) : Bool := decide (g j < g i) || (decide (g i = g j) && decide (i < j))

theorem before_strict : StrictTotalBefore (before g) :=
  StrictTotalBefore.of_key_then_position (fun a b => decide (b < a)) g (fun a => by simp)
    (fun a b c h1 h2 => by simp only [decide_eq_true_eq] at *; exact h2.trans h1)
    (fun a b => by
      rcases lt_trichotomy a b with h | h | h
      · exact Or.inr (Or.inr (by simpa using h))
      · exact Or.inr (Or.inl h)
      · exact Or.inl (by simpa using h))

/-- Sorting stably by the score alone keeps equal scores in index order. -/
theorem stableSort_position (l : List (Fin n)) (hl : l.Pairwise (· < ·)) :
    stableSort (fun i j => decide (g j < g i)) l = stableSort (before g) l := by
  induction l with
  | nil => rfl
  | cons a l ih =>
    rw [List.pairwise_cons] at hl
    unfold stableSort
    rw [ih hl.2]
    refine insertBefore_congr _ _ a _ fun b hb => ?_
    have hlt : a < b := hl.1 b ((perm_stableSort _ l).mem_iff.mp hb)
    simp [before, not_lt.mpr hlt.le]

theorem sortedFrom_position (k : Fin n) :
    sortedFrom (fun i j => decide (g j < g i)) k = sortedFrom (before g) k := by
  have h : sortPositions n (fun i j => decide (g j < g i)) = sortPositions n (before g) :=
    stableSort_position g _ (List.pairwise_lt_finRange n)
  simp only [sortedFrom, List.get_eq_getElem, h, Fin.val_cast]

theorem before_sortedFrom {i j : Fin n} : before g (sortedFrom (before g) i) (sortedFrom (before g) j) = true ↔ i < j := by
  have hB := before_strict g
  have hlt : ∀ {i j : Fin n}, i < j → before g (sortedFrom (before g) i) (sortedFrom (before g) j) = true := by
    intro i j h
    have h1 := sortedFrom_noInversion (before g) (before g) hB.asymm (fun _ _ h => h) hB.negTrans i j h
    rcases hB.total _ _ (fun e => h.ne (sortedFrom_injective _ e)) with h2 | h2
    · exact h2
    · rw [h1] at h2; exact absurd h2 (by decide)
  refine ⟨fun h => ?_, hlt⟩
  rcases lt_trichotomy i j with h1 | h1 | h1
  · exact h1
  · subst h1; rw [hB.irrefl] at h; exact absurd h (by decide)
  · rw [hB.asymm _ _ (hlt h1)] at h; exact absurd h (by decide)

/-- The number of positions before the one sorted to place `k` is `k`. -/
theorem card_before_sortedFrom (k : Fin n) :
    (Finset.univ.filter fun i => before g i (sortedFrom (before g) k) = true).card = k.val := by
  have : (Finset.univ.filter fun i => before g i (sortedFrom (before g) k) = true)
      = (Finset.univ.filter fun i : Fin n => i < k).map ⟨sortedFrom (before g), sortedFrom_injective _⟩ := by
    ext i
    obtain ⟨i, rfl⟩ := sortedFrom_surjective (before g) i
    simp only [Finset.mem_filter, Finset.mem_univ, true_and, Finset.mem_map, Function.Embedding.coeFn_mk, before_sortedFrom]
    exact ⟨fun h => ⟨i, h, rfl⟩, fun ⟨j, h, e⟩ => sortedFrom_injective _ e ▸ h⟩
  rw [this, Finset.card_map]
  have := Fin.card_Iio k
  rw [← this]
  congr 1
  ext; simp

/-- A position is among the first `m` sorted exactly when fewer than `m` positions are before it. -/
theorem exists_sortedFrom_iff (m : Nat) (j : Fin n) :
    (∃ k : Fin n, k.val < m ∧ sortedFrom (fun i j => decide (g j < g i)) k = j)
      ↔ (Finset.univ.filter fun i => before g i j = true).card < m := by
  obtain ⟨k, rfl⟩ := sortedFrom_surjective (before g) j
  rw [card_before_sortedFrom]
  constructor
  · rintro ⟨i, hi, e⟩
    rw [sortedFrom_position] at e
    exact sortedFrom_injective _ e ▸ hi
  · exact fun h => ⟨k, h, sortedFrom_position g k⟩

/-- Scores masked to the least extended real away from the past: the positions before a past block are past blocks. -/
theorem rank_masked (q k : Fin 2048 → Fin 64 → ℝ) (r : Fin 2048) (gm : Fin 8 → EReal)
    (hg : ∀ j : Fin 8, gm j = if j.val < r.val / 256 then (gate q k r j : EReal) else ⊥) (j : Fin 8) (hj : j.val < r.val / 256) :
    (Finset.univ.filter fun i => before gm i j = true).card = rank q k r j := by
  unfold rank
  congr 1
  ext i
  simp only [Finset.mem_filter, Finset.mem_univ, true_and, before, Bool.or_eq_true, Bool.and_eq_true, decide_eq_true_eq, hg,
    if_pos hj]
  by_cases hi : i.val < r.val / 256
  · simp [hi]
  · simp [hi]

end Cert.Attn

end
-- ==== Proof.Moba.Terms.lean ====
/-
  The attention kernel's body in its own vector operations, stage by stage: the block ranking of one head, the queries
  and keys extended by the block mask, the scores of a block of queries, and its softmax-weighted values.
-/
module

public import proofs.«01_k».proof.Proof.Gen.MobaIdeal.Value
public import proofs.«01_k».proof.Proof.Moba.Rank

@[expose] public section

set_option maxRecDepth 16384

noncomputable section

namespace Cert.MobaIdeal.Terms

open Cert.MobaIdeal Cert.MobaIdeal.Gen Idealize.ShloMosaic Idealize.SL.Sem

variable {F : FTy → Type} [FloatOps F] [Named F]

/-- The lanes of a pair that belong to head `w` of the two, the others zero. -/
def headLanes (w : BitVec 32) (q : Vec F S2048x128 .bf16) : Vec F S2048x128 .bf16 :=
  select (broadcastTo S2048x128 (shapeCast S1x128 (cmpi .eq k0_pay2 (broadcast S1x128 w)) shapeCasts_S1x128_S1x128)
    broadcasts_S1x128_S2048x128) q (broadcast S2048x128 (Scalar.ofBits .bf16 0x0000#16))

/-- The pooled-key scores of a head, masked away from the past blocks: block by query. -/
def gateMasked (w : BitVec 32) (q k : Vec F S2048x128 .bf16) : FVec F S8x2048 .f32 :=
  select k0_pay6 (extractStridedSlice S8x2048 ![0, 0]
      (matmul dot_S16x128_S2048x128_S16x2048_1_1_0_0_n_n none (k0_pay13 k0_pay7 k) (headLanes w q) (constant S16x2048 .f32 0x00000000#32))
      slices_S16x2048_o0_0_S8x2048)
    (broadcast S8x2048 (Named.named κ "mask" 0xF149F2CA#32))

/-- The block numbers, down the rows. -/
def blockId : IVec S8x2048 32 := iota .tc S8x2048 32 [0] iota_S8x2048_d0_w32

/-- One block's turn in the ranking: one more wherever it is before. -/
def rankStep (g : FVec F S8x2048 .f32) (o : Fin 2 → Nat) (h : S8x2048.Slices o S1x2048) (w : BitVec 32) (acc : IVec S8x2048 32) :
    IVec S8x2048 32 :=
  addi acc (select
    (ori (cmpf .ogt (broadcastTo S8x2048 (extractStridedSlice S1x2048 o g h) broadcasts_S1x2048_S8x2048) g)
      (andi (cmpf .oeq (broadcastTo S8x2048 (extractStridedSlice S1x2048 o g h) broadcasts_S1x2048_S8x2048) g)
        (cmpi .sgt blockId (broadcast S8x2048 w))))
    (broadcast S8x2048 1#32) (broadcast S8x2048 0#32))

/-- The ranking over the eight blocks. -/
def ranks (g : FVec F S8x2048 .f32) : IVec S8x2048 32 :=
  rankStep g ![7, 0] slices_S8x2048_o7_0_S1x2048 7#32 (rankStep g ![6, 0] slices_S8x2048_o6_0_S1x2048 6#32
    (rankStep g ![5, 0] slices_S8x2048_o5_0_S1x2048 5#32 (rankStep g ![4, 0] slices_S8x2048_o4_0_S1x2048 4#32
      (rankStep g ![3, 0] slices_S8x2048_o3_0_S1x2048 3#32 (rankStep g ![2, 0] slices_S8x2048_o2_0_S1x2048 2#32
        (rankStep g ![1, 0] slices_S8x2048_o1_0_S1x2048 1#32 (rankStep g ![0, 0] slices_S8x2048_o0_0_S1x2048 0#32
          (broadcast S8x2048 0#32))))))))

/-- The bias of a block for a query, block by query: nothing for the three first ranked of the past and for the rest from
    the query's own block on, the mask elsewhere; eight rows of padding. -/
def biasT (g : FVec F S8x2048 .f32) : FVec F S16x2048 .bf16 :=
  truncf .bf16 (concatenate S16x2048 0
    [⟨S8x2048, select (ori (andi (cmpi .slt (ranks g) (broadcast S8x2048 3#32)) k0_pay6) (cmpi .sge blockId k0_pay5))
        (broadcast S8x2048 (Scalar.ofBits .f32 0x00000000#32)) (broadcast S8x2048 (Named.named κ "mask" 0xF149F2CA#32))⟩,
      ⟨S8x2048, (k0_pay8 (F := F))⟩] concatenates_S8x2048_S8x2048_S16x2048_d0) bitsLt_bf16_f32

/-- A head's queries with their block biases beside them. -/
def headAug (w : BitVec 32) (q k : Vec F S2048x128 .bf16) : FVec F S2048x256 .bf16 :=
  concatenate S2048x256 1 [⟨S2048x128, headLanes w q⟩, ⟨S2048x128, truncf .bf16
    (matmul dot_S16x2048_S16x128_S2048x128_0_0_1_1_n_n none (biasT (gateMasked w q k)) (k0_pay9 (F := F)) (constant S2048x128 .f32 0x00000000#32))
    bitsLt_bf16_f32⟩] concatenates_S2048x128_S2048x128_S2048x256_d1

/-- The keys with their block numbers beside them, one-hot. -/
def keysAug (k : Vec F S2048x128 .bf16) : FVec F S2048x256 .bf16 := k0_pay11 (k0_pay3 (F := F)) k

/-- The values with ones beside them. -/
def valuesAug (v : Vec F S2048x128 .bf16) : FVec F S2048x256 .bf16 := k0_pay12 (k0_pay4 (F := F)) v

/-- The causal mask within a block, for the queries of both heads. -/
def causal : FVec F S512x256 .f32 :=
  k0_pay10 (F := F) (iota .tc S512x256 32 [0] iota_S512x256_d0_w32) (iota .tc S512x256 32 [1] iota_S512x256_d1_w32) 255#32

/-- A block's queries of both heads, one head above the other. -/
def queryBlock (o : Fin 2 → Nat) (h : S2048x256.Slices o S256x256) (q0 q1 : FVec F S2048x256 .bf16) : FVec F S512x256 .bf16 :=
  concatenate S512x256 0 [⟨S256x256, extractStridedSlice S256x256 o q0 h⟩, ⟨S256x256, extractStridedSlice S256x256 o q1 h⟩]
    concatenates_S256x256_S256x256_S512x256_d0

/-- The greatest of each row. -/
def rowMax (M : FVec F S512x128 .f32) : FVec F S512x1 .f32 :=
  shapeCast S512x1 (multiReduction .maximumf [1] S512 M 0xFF800000#32 reduces_S512x128_S512 (.inl rfl) rfl) shapeCasts_S512_S512x1

/-- The exponentials of a block's scores less their row's greatest: the past blocks' and the own block's. -/
def probs {n m : Nat} (sc : FVec F ⟨2, ![512, m]⟩ .f32) (own : FVec F S512x256 .f32) (mx : FVec F S512x1 .f32)
    (h1 : (⟨2, ![512, m]⟩ : Shape).Slices ![0, 0] ⟨2, ![512, n]⟩) (h2 : S512x1.Broadcasts ⟨2, ![512, n]⟩)
    (h3 : Shape.Concatenates [⟨2, ![512, n]⟩, S512x256] ⟨2, ![512, m]⟩ 1) : FVec F ⟨2, ![512, m]⟩ .bf16 :=
  truncf .bf16 (concatenate ⟨2, ![512, m]⟩ 1
    [⟨⟨2, ![512, n]⟩, exp2 (subf (extractStridedSlice ⟨2, ![512, n]⟩ ![0, 0] sc h1) (broadcastTo ⟨2, ![512, n]⟩ mx h2))⟩,
      ⟨S512x256, exp2 (subf own (broadcastTo S512x256 mx broadcasts_S512x1_S512x256))⟩] h3) bitsLt_bf16_f32

/-- The same for the first block, which has no past. -/
def probsFirst (own : FVec F S512x256 .f32) (mx : FVec F S512x1 .f32) : FVec F S512x256 .bf16 :=
  truncf .bf16 (exp2 (subf own (broadcastTo S512x256 mx broadcasts_S512x1_S512x256))) bitsLt_bf16_f32

/-- The weighted values over the weights, each head's lanes from its own rows. -/
def output (o : FVec F S512x256 .f32) : FVec F S256x128 .bf16 :=
  truncf .bf16 (select
    (broadcastTo S256x128 (shapeCast S1x128 (cmpi .eq k0_pay2 (broadcast S1x128 0#32)) shapeCasts_S1x128_S1x128) broadcasts_S1x128_S256x128)
    (extractStridedSlice S256x128 ![0, 0]
      (divf (extractStridedSlice S512x128 ![0, 0] o slices_S512x256_o0_0_S512x128) (extractStridedSlice S512x128 ![0, 128] o slices_S512x256_o0_128_S512x128))
      slices_S512x128_o0_0_S256x128)
    (extractStridedSlice S256x128 ![256, 0]
      (divf (extractStridedSlice S512x128 ![0, 0] o slices_S512x256_o0_0_S512x128) (extractStridedSlice S512x128 ![0, 128] o slices_S512x256_o0_128_S512x128))
      slices_S512x128_o256_0_S256x128)) bitsLt_bf16_f32

variable (x0 x1 x2 : Vec F S2048x256 .bf16) (x3 : Vec F S512x2816 .f32)

/-! The values that the body's pieces share are those stages at the two pairs' lanes. -/

theorem pay176_eq : k0_pay176 x0 x1 x2 x3 = headAug 0#32 (View.ld x0 r0_1) (View.ld x1 r0_1) := rfl
theorem pay182_eq : k0_pay182 x0 x1 x2 x3 = headAug 1#32 (View.ld x0 r0_1) (View.ld x1 r0_1) := rfl
theorem pay186_eq : k0_pay186 x0 x1 x2 x3 = headAug 0#32 (View.ld x0 r0_3) (View.ld x1 r0_3) := rfl
theorem pay194_eq : k0_pay194 x0 x1 x2 x3 = headAug 1#32 (View.ld x0 r0_3) (View.ld x1 r0_3) := rfl
theorem pay172_eq : k0_pay172 x0 x1 x2 x3 = keysAug (View.ld x1 r0_1) := rfl
theorem pay183_eq : k0_pay183 x0 x1 x2 x3 = keysAug (View.ld x1 r0_3) := rfl
theorem pay173_eq : k0_pay173 x0 x1 x2 x3 = valuesAug (View.ld x2 r0_1) := rfl
theorem pay184_eq : k0_pay184 x0 x1 x2 x3 = valuesAug (View.ld x2 r0_3) := rfl
theorem pay171_eq : k0_pay171 x0 x1 x2 x3 = causal := rfl

end Cert.MobaIdeal.Terms

end
-- ==== Proof.Moba.Heads.lean ====
/-
  One head of a pair, read at an index: its masked pooled-key scores, its block ranking, its block biases, and what its
  extended queries give against the extended keys: the score where the key's block is visible, the mask elsewhere.
-/
module

public import proofs.«01_k».proof.Proof.Moba.Terms
public import Idealize.ShloMosaic.Lib.StableHlo.Predicate

@[expose] public section

set_option maxRecDepth 16384

noncomputable section

namespace Cert.Attn

open Idealize.ShloMosaic Idealize.ShloMosaic.StableHlo.Predicate

/-- A selection by a bit that says `P`. -/
theorem select_of {α : Type} {c : BitVec 1} {P : Prop} [Decidable P] (h : c = 1#1 ↔ P) (a b : α) :
    Scalar.select c a b = if P then a else b := by
  show (if c = 1#1 then a else b) = _
  by_cases hp : P
  · rw [if_pos hp, if_pos (h.mpr hp)]
  · rw [if_neg hp, if_neg (fun hc => hp (h.mp hc))]

theorem ofNat_eq_iff {a b : Nat} (ha : a < 2 ^ 31) (hb : b < 2 ^ 31) : BitVec.ofNat 32 a = BitVec.ofNat 32 b ↔ a = b := by
  constructor
  · intro h
    have := congrArg BitVec.toNat h
    simp only [BitVec.toNat_ofNat] at this
    omega
  · rintro rfl; rfl

theorem eq_ofNat_iff {a b : Nat} (ha : a < 2 ^ 31) (hb : b < 2 ^ 31) :
    IntOp.cmpi .eq (BitVec.ofNat 32 a) (BitVec.ofNat 32 b) = 1#1 ↔ a = b :=
  cmpi_eq_iff.trans (ofNat_eq_iff ha hb)

theorem toNat_small {a : Nat} (ha : a < 2 ^ 31) : (BitVec.ofNat 32 a).toNat = a := by
  simp only [BitVec.toNat_ofNat]; omega

theorem lt_ofNat_iff {a b : Nat} (ha : a < 2 ^ 31) (hb : b < 2 ^ 31) :
    IntOp.cmpi .slt (BitVec.ofNat 32 a) (BitVec.ofNat 32 b) = 1#1 ↔ a < b := by
  rw [slt_iff_toNat (by rw [toNat_small ha]; exact ha) (by rw [toNat_small hb]; exact hb), toNat_small ha, toNat_small hb]

theorem gt_ofNat_iff {a b : Nat} (ha : a < 2 ^ 31) (hb : b < 2 ^ 31) :
    IntOp.cmpi .sgt (BitVec.ofNat 32 a) (BitVec.ofNat 32 b) = 1#1 ↔ b < a := by
  rw [sgt_iff_toNat (by rw [toNat_small ha]; exact ha) (by rw [toNat_small hb]; exact hb), toNat_small ha, toNat_small hb]

theorem ge_ofNat_iff {a b : Nat} (ha : a < 2 ^ 31) (hb : b < 2 ^ 31) :
    IntOp.cmpi .sge (BitVec.ofNat 32 a) (BitVec.ofNat 32 b) = 1#1 ↔ b ≤ a := by
  rw [sge_iff_toNat (by rw [toNat_small ha]; exact ha) (by rw [toNat_small hb]; exact hb), toNat_small ha, toNat_small hb]

theorem le_ofNat_iff {a b : Nat} (ha : a < 2 ^ 31) (hb : b < 2 ^ 31) :
    IntOp.cmpi .sle (BitVec.ofNat 32 a) (BitVec.ofNat 32 b) = 1#1 ↔ a ≤ b := by
  rw [sle_iff_toNat (by rw [toNat_small ha]; exact ha) (by rw [toNat_small hb]; exact hb), toNat_small ha, toNat_small hb]

theorem andi_iff {a b : BitVec 1} : IntOp.andi a b = 1#1 ↔ a = 1#1 ∧ b = 1#1 := by revert a b; decide
theorem ori_iff {a b : BitVec 1} : IntOp.ori a b = 1#1 ↔ a = 1#1 ∨ b = 1#1 := by revert a b; decide

theorem ofBool_decide_iff {P : Prop} [Decidable P] : BitVec.ofBool (decide P) = 1#1 ↔ P := by
  by_cases h : P <;> simp [h]

/-- A block number is a position's 256ths, a head number a lane's 64ths. -/
theorem shift_block (t : Fin 2048) : IntOp.shrsi .vector (BitVec.ofNat 32 t.val) 8#32 = BitVec.ofNat 32 (t.val / 256) := by
  revert t; decide +kernel

theorem shift_head (e : Fin 128) : IntOp.shrsi .vector (BitVec.ofNat 32 e.val) 6#32 = BitVec.ofNat 32 (e.val / 64) := by
  revert e; decide +kernel

theorem mask_row (r : Fin 512) : IntOp.andi (BitVec.ofNat 32 r.val) 255#32 = BitVec.ofNat 32 (r.val % 256) := by
  revert r; decide +kernel

/-- Zero times anything is zero: a weighted sum against an indicator is the indicated entry. -/
theorem sum_indicator {n : Nat} (f : Fin n → EReal) (i : Fin n) : (∑ j, f j * (if j = i then (1 : EReal) else 0)) = f i := by
  simp [Finset.sum_ite_eq']

end Cert.Attn

namespace Cert.MobaIdeal.Terms

open Cert.MobaIdeal Cert.MobaIdeal.Gen Idealize.ShloMosaic Idealize.SL.Sem Cert.Attn

theorem mask_eq : (Named.named κ "mask" 0xF149F2CA#32 : Ideal .f32) = ⊥ :=
  IdealRules.named_const.ideal_named_scalar _ _ _ _ rfl

theorem inv256_eq : Ideal.ofBits .f32 0x3B800000#32 = (((1 : ℝ) / 256 : ℝ) : EReal) := by
  simp [Ideal.ofBits, Ideal.ieee, -EReal.coe_mul]; norm_num

theorem headLanes_apply (w : Fin 2) (q : Vec Ideal S2048x128 .bf16) (r : Fin 2048) (e : Fin 128) :
    headLanes (BitVec.ofNat 32 w.val) q (ix2 r e) = if e.val / 64 = w.val then q (ix2 r e) else 0 := by
  pointwise [headLanes, k0_pay2]
  rw [shift_head, select_of (eq_ofNat_iff (by omega) (by omega))]

theorem onehot_apply (r : Fin 2048) (e : Fin 128) :
    k0_pay3 (F := Ideal) (ix2 r e) = if e.val = r.val / 256 then (1 : EReal) else 0 := by
  pointwise [k0_pay3]
  rw [shift_block, select_of (eq_ofNat_iff (by omega) (by omega))]
  simp only [eq_comm]

theorem pool_apply (j : Fin 16) (t : Fin 2048) :
    k0_pay7 (F := Ideal) (ix2 j t) = if t.val / 256 = j.val then (((1 : ℝ) / 256 : ℝ) : EReal) else 0 := by
  pointwise [k0_pay7]
  rw [shift_block, select_of (eq_ofNat_iff (by omega) (by omega))]
  rw [← inv256_eq]

theorem past_iff (j : Fin 8) (t : Fin 2048) : k0_pay6 (ix2 j t) = 1#1 ↔ j.val < t.val / 256 := by
  pointwise [k0_pay6, k0_pay5]
  rw [shift_block, lt_ofNat_iff (by omega) (by omega)]

theorem eye_apply (j : Fin 16) (e : Fin 128) : k0_pay9 (F := Ideal) (ix2 j e) = if j.val = e.val then (1 : EReal) else 0 := by
  pointwise [k0_pay9]
  rw [select_of (eq_ofNat_iff (by omega) (by omega))]

theorem causal_apply (r : Fin 512) (c : Fin 256) :
    causal (F := Ideal) (ix2 r c) = if c.val ≤ r.val % 256 then (0 : EReal) else ⊥ := by
  pointwise [causal, k0_pay10]
  rw [mask_row, select_of (le_ofNat_iff (by omega) (by omega))]
  simp only [mask_eq]

/-! ## One head of a pair -/

section Head

variable (w : Fin 2) (q k : Vec Ideal S2048x128 .bf16) (qr kr : Fin 2048 → Fin 128 → ℝ)
variable (hq : ∀ r e, q (ix2 r e) = (qr r e : EReal)) (hk : ∀ r e, k (ix2 r e) = (kr r e : EReal))

/-- The head's own lanes of a pair's. -/
def lanes (w : Fin 2) (x : Fin 2048 → Fin 128 → ℝ) : Fin 2048 → Fin 64 → ℝ := fun r d => x r ⟨64 * w.val + d.val, by omega⟩

/-- A sum over the pair's lanes of what is zero off the head's. -/
theorem sum_lanes {M : Type} [AddCommMonoid M] (w : Fin 2) (f : Fin 128 → M) :
    (∑ e : Fin 128, if e.val / 64 = w.val then f e else 0) = ∑ d : Fin 64, f ⟨64 * w.val + d.val, by omega⟩ := by
  classical
  rw [← Finset.sum_filter]
  symm
  refine Finset.sum_bij (fun d _ => ⟨64 * w.val + d.val, by omega⟩) (fun d _ => ?_) (fun a _ b _ h => ?_) (fun e he => ?_) (fun d _ => rfl)
  · simp only [Finset.mem_filter, Finset.mem_univ, true_and]; omega
  · simp only [Fin.mk.injEq] at h; exact Fin.ext (by omega)
  · simp only [Finset.mem_filter, Finset.mem_univ, true_and] at he
    exact ⟨⟨e.val - 64 * w.val, by omega⟩, Finset.mem_univ _, Fin.ext (by simp only; omega)⟩

/-- A sum over all positions of what is zero off one block. -/
theorem sum_block {M : Type} [AddCommMonoid M] (j : Fin 8) (f : Fin 2048 → M) :
    (∑ t : Fin 2048, if t.val / 256 = j.val then f t else 0) = ∑ i : Fin 256, f ⟨256 * j.val + i.val, by omega⟩ := by
  classical
  rw [← Finset.sum_filter]
  symm
  refine Finset.sum_bij (fun d _ => ⟨256 * j.val + d.val, by omega⟩) (fun d _ => ?_) (fun a _ b _ h => ?_) (fun e he => ?_) (fun d _ => rfl)
  · simp only [Finset.mem_filter, Finset.mem_univ, true_and]; omega
  · simp only [Fin.mk.injEq] at h; exact Fin.ext (by omega)
  · simp only [Finset.mem_filter, Finset.mem_univ, true_and] at he
    exact ⟨⟨e.val - 256 * j.val, by omega⟩, Finset.mem_univ _, Fin.ext (by simp only; omega)⟩

include hk in
theorem mean_apply (j : Fin 8) (e : Fin 128) :
    (∑ t : Fin 2048, k0_pay7 (F := Ideal) (ix2 (⟨j.val, by omega⟩ : Fin 16) t) * k (ix2 t e))
      = (((∑ i : Fin 256, kr ⟨256 * j.val + i.val, by omega⟩ e) / 256 : ℝ) : EReal) := by
  have h : ∀ t : Fin 2048, k0_pay7 (F := Ideal) (ix2 (⟨j.val, by omega⟩ : Fin 16) t) * k (ix2 t e)
      = ((if t.val / 256 = j.val then kr t e / 256 else 0 : ℝ) : EReal) := fun t => by
    rw [pool_apply, hk]
    split
    · rw [← EReal.coe_mul]; congr 1; ring
    · rw [zero_mul, EReal.coe_zero]
  rw [Finset.sum_congr rfl fun t _ => h t, ← coe_sum, sum_block j (fun t => kr t e / 256), Finset.sum_div]

include hq hk in
theorem gateMasked_apply (j : Fin 8) (r : Fin 2048) :
    gateMasked (F := Ideal) (BitVec.ofNat 32 w.val) q k (ix2 j r)
      = if j.val < r.val / 256 then (gate (lanes w qr) (lanes w kr) r j : EReal) else ⊥ := by
  pointwise [gateMasked, k0_pay13]
  rw [select_of (past_iff j r), mask_eq]
  congr 1
  have h : ∀ e : Fin 128, (∑ t : Fin 2048, k0_pay7 (F := Ideal) (ix2 (⟨j.val, by omega⟩ : Fin 16) t) * k (ix2 t e))
        * headLanes (BitVec.ofNat 32 w.val) q (ix2 r e)
      = ((if e.val / 64 = w.val then qr r e * ((∑ i : Fin 256, kr ⟨256 * j.val + i.val, by omega⟩ e) / 256) else 0 : ℝ) : EReal) := fun e => by
    rw [mean_apply k kr hk, headLanes_apply, hq]
    split
    · rw [← EReal.coe_mul, mul_comm]
    · rw [mul_zero, EReal.coe_zero]
  rw [Finset.sum_congr rfl fun e _ => h e, ← coe_sum,
    sum_lanes w (fun e => qr r e * ((∑ i : Fin 256, kr ⟨256 * j.val + i.val, by omega⟩ e) / 256))]
  rfl

/-! ## The ranking -/

theorem rankStep_apply (g : FVec Ideal S8x2048 .f32) (i : Fin 8) (h : S8x2048.Slices ![i.val, 0] S1x2048) (acc : IVec S8x2048 32)
    (j : Fin 8) (r : Fin 2048) :
    rankStep (F := Ideal) g ![i.val, 0] h (BitVec.ofNat 32 i.val) acc (ix2 j r)
      = acc (ix2 j r) + (if before (fun i => g (ix2 i r)) i j = true then 1#32 else 0#32) := by
  pointwise [rankStep, blockId]
  rw [select_of (P := before (fun i => g (ix2 i r)) i j = true)]
  · rfl
  · rw [ori_iff, andi_iff, ofBool_decide_iff, ofBool_decide_iff, gt_ofNat_iff (by omega) (by omega)]
    simp only [before, Bool.or_eq_true, Bool.and_eq_true, decide_eq_true_eq, Fin.lt_def]

theorem ranks_apply (g : FVec Ideal S8x2048 .f32) (j : Fin 8) (r : Fin 2048) :
    ranks (F := Ideal) g (ix2 j r)
      = BitVec.ofNat 32 (Finset.univ.filter fun i => before (fun i => g (ix2 i r)) i j = true).card := by
  unfold ranks
  have e : ∀ (P : Prop) [Decidable P], (if P then 1#32 else 0#32) = BitVec.ofNat 32 (if P then 1 else 0) := fun P _ => by split <;> rfl
  refine (rankStep_apply g 7 _ _ j r).trans ?_
  refine (congrArg (· + _) (rankStep_apply g 6 _ _ j r)).trans ?_
  refine (congrArg (· + _ + _) (rankStep_apply g 5 _ _ j r)).trans ?_
  refine (congrArg (· + _ + _ + _) (rankStep_apply g 4 _ _ j r)).trans ?_
  refine (congrArg (· + _ + _ + _ + _) (rankStep_apply g 3 _ _ j r)).trans ?_
  refine (congrArg (· + _ + _ + _ + _ + _) (rankStep_apply g 2 _ _ j r)).trans ?_
  refine (congrArg (· + _ + _ + _ + _ + _ + _) (rankStep_apply g 1 _ _ j r)).trans ?_
  refine (congrArg (· + _ + _ + _ + _ + _ + _ + _) (rankStep_apply g 0 _ _ j r)).trans ?_
  rw [Finset.card_filter, Fin.sum_univ_eight]
  simp only [e]
  show (0#32 + _ + _ + _ + _ + _ + _ + _ + _) = _
  simp only [← BitVec.ofNat_add, zero_add]

theorem biasT_apply (g : FVec Ideal S8x2048 .f32) (j : Fin 8) (r : Fin 2048) :
    biasT (F := Ideal) g (ix2 (⟨j.val, by omega⟩ : Fin 16) r)
      = if ((Finset.univ.filter fun i => before (fun i => g (ix2 i r)) i j = true).card < 3 ∧ j.val < r.val / 256) ∨ r.val / 256 ≤ j.val
        then (0 : EReal) else ⊥ := by
  pointwise [biasT, blockId, k0_pay8, k0_pay5]
  rw [ranks_apply, shift_block, mask_eq, select_of (P := ((Finset.univ.filter fun i => before (fun i => g (ix2 i r)) i j = true).card < 3
    ∧ j.val < r.val / 256) ∨ r.val / 256 ≤ j.val)]
  rw [ori_iff, andi_iff, ge_ofNat_iff (by omega) (by omega), past_iff]
  rw [show (3#32 : BitVec 32) = BitVec.ofNat 32 3 from rfl, lt_ofNat_iff _ (by omega)]
  refine lt_of_le_of_lt (Finset.card_le_univ _) ?_
  simp

include hq hk in
/-- What a head's extended queries give against the extended keys of the blocks up to the query's own. -/
theorem headAug_dot (r t : Fin 2048) (ht : t.val / 256 ≤ r.val / 256) :
    (∑ e : Fin 256, headAug (F := Ideal) (BitVec.ofNat 32 w.val) q k (ix2 r e) * keysAug (F := Ideal) k (ix2 t e))
      = if t.val / 256 = r.val / 256 ∨ rank (lanes w qr) (lanes w kr) r ⟨t.val / 256, by omega⟩ < 3
        then (score (lanes w qr) (lanes w kr) r t : EReal) else ⊥ := by
  have hb : t.val / 256 < 8 := by omega
  rw [show (∑ e : Fin 256, headAug (F := Ideal) (BitVec.ofNat 32 w.val) q k (ix2 r e) * keysAug (F := Ideal) k (ix2 t e))
      = ∑ e : Fin (128 + 128), headAug (F := Ideal) (BitVec.ofNat 32 w.val) q k (ix2 r e) * keysAug (F := Ideal) k (ix2 t e) from rfl,
    Fin.sum_univ_add]
  have h1 : ∀ e : Fin 128, headAug (F := Ideal) (BitVec.ofNat 32 w.val) q k (ix2 r (Fin.castAdd 128 e))
        * keysAug (F := Ideal) k (ix2 t (Fin.castAdd 128 e))
      = ((if e.val / 64 = w.val then qr r e * kr t e else 0 : ℝ) : EReal) := fun e => by
    pointwise [headAug, keysAug, k0_pay11]
    simp only [Fin.val_castAdd, e.isLt, dite_true, Fin.eta]
    rw [headLanes_apply, hq, hk]
    split
    · rw [← EReal.coe_mul]
    · rw [zero_mul, EReal.coe_zero]
  have h2 : ∀ e : Fin 128, headAug (F := Ideal) (BitVec.ofNat 32 w.val) q k (ix2 r (Fin.natAdd 128 e))
        * keysAug (F := Ideal) k (ix2 t (Fin.natAdd 128 e))
      = (∑ g : Fin 16, biasT (F := Ideal) (gateMasked (BitVec.ofNat 32 w.val) q k) (ix2 g r) * (if g.val = e.val then (1 : EReal) else 0))
        * (if e = (⟨t.val / 256, by omega⟩ : Fin 128) then (1 : EReal) else 0) := fun e => by
    pointwise [headAug, keysAug, k0_pay11]
    simp only [Fin.val_natAdd, Nat.not_lt.mpr (Nat.le_add_right 128 e.val), dite_false, Nat.add_sub_cancel_left, Fin.eta,
      eye_apply, onehot_apply, Fin.ext_iff]
  rw [Finset.sum_congr rfl fun e _ => h1 e, Finset.sum_congr rfl fun e _ => h2 e, ← coe_sum, sum_indicator,
    sum_lanes w (fun e => qr r e * kr t e)]
  have h3 : ∀ g : Fin 16, (if g.val = (⟨t.val / 256, by omega⟩ : Fin 128).val then (1 : EReal) else 0)
      = if g = (⟨(⟨t.val / 256, hb⟩ : Fin 8).val, by omega⟩ : Fin 16) then 1 else 0 := fun g => by simp only [Fin.ext_iff]
  simp only [h3]
  rw [sum_indicator, biasT_apply _ ⟨t.val / 256, hb⟩ r]
  have hscore : (∑ d : Fin 64, qr r ⟨64 * w.val + d.val, by omega⟩ * kr t ⟨64 * w.val + d.val, by omega⟩)
      = score (lanes w qr) (lanes w kr) r t := rfl
  rw [hscore]
  by_cases hown : t.val / 256 = r.val / 256
  · rw [if_pos (Or.inr (by simp only; omega)), if_pos (Or.inl hown), add_zero]
  · have hlt : t.val / 256 < r.val / 256 := by omega
    have hrank := rank_masked (lanes w qr) (lanes w kr) r (fun i => gateMasked (F := Ideal) (BitVec.ofNat 32 w.val) q k (ix2 i r))
      (fun j => gateMasked_apply w q k qr kr hq hk j r) ⟨t.val / 256, hb⟩ hlt
    rw [hrank]
    by_cases hr : rank (lanes w qr) (lanes w kr) r ⟨t.val / 256, hb⟩ < 3
    · rw [if_pos (Or.inl ⟨hr, hlt⟩), if_pos (Or.inr hr), add_zero]
    · rw [if_neg (by rintro (⟨h, _⟩ | h); exacts [hr h, absurd h (by simp only; omega)]), if_neg (by rintro (h | h); exacts [hown h, hr h])]
      exact EReal.add_bot _

end Head

end Cert.MobaIdeal.Terms

end
-- ==== Proof.Moba.Pieces.lean ====
/-
  One block of queries: its scores, their greatest, the exponentials and the weighted values, for the two heads of a pair,
  and that the quotient is the head's output.
-/
module

public import proofs.«01_k».proof.Proof.Moba.Heads

@[expose] public section

set_option maxRecDepth 16384

noncomputable section

namespace Cert.MobaIdeal.Terms

open Cert.MobaIdeal Cert.MobaIdeal.Gen Idealize.ShloMosaic Idealize.SL.Sem Cert.Attn

section Stages

variable {F : FTy → Type} [FloatOps F] [Named F] {n m : Nat}

theorem slices_chunk {k : Nat} (h : 128 * (k + 1) ≤ m) : (⟨2, ![512, m]⟩ : Shape).Slices ![0, 128 * k] S512x128 := by
  refine ⟨rfl, fun a => ?_⟩
  match a with
  | ⟨0, _⟩ => show 0 + 512 ≤ 512; omega
  | ⟨1, _⟩ => show 128 * k + 128 ≤ m; omega

/-- The greatest, chunk of 128 columns by chunk: of the own block's two chunks and the first `k` of the scores. -/
def chunks (sc : FVec F ⟨2, ![512, m]⟩ .f32) (own : FVec F S512x256 .f32) : (k : Nat) → 128 * k ≤ m → FVec F S512x128 .f32
  | 0, _ => maximumf (extractStridedSlice S512x128 ![0, 0] own slices_S512x256_o0_0_S512x128)
      (extractStridedSlice S512x128 ![0, 128] own slices_S512x256_o0_128_S512x128)
  | k + 1, h => maximumf (chunks sc own k (by omega)) (extractStridedSlice S512x128 ![0, 128 * k] sc (slices_chunk h))

/-- The own block's scores, causal. -/
def ownOf (n : Nat) (sc : FVec F ⟨2, ![512, m]⟩ .f32) (h : (⟨2, ![512, m]⟩ : Shape).Slices ![0, n] S512x256) : FVec F S512x256 .f32 :=
  addf (extractStridedSlice S512x256 ![0, n] sc h) causal

end Stages

variable {n m : Nat}

theorem queryBlock_apply (q0 q1 : FVec Ideal S2048x256 .bf16) (h : S2048x256.Slices ![n, 0] S256x256) (hn : n + 256 ≤ 2048)
    (w : Fin 2) (r e : Fin 256) :
    queryBlock (F := Ideal) ![n, 0] h q0 q1 (ix2 (⟨256 * w.val + r.val, by omega⟩ : Fin 512) e)
      = (if w = 0 then q0 else q1) (ix2 (⟨n + r.val, by omega⟩ : Fin 2048) e) := by
  pointwise [queryBlock]
  match w with
  | 0 => simp
  | 1 => simp

theorem output_apply (o : FVec Ideal S512x256 .f32) (w : Fin 2) (r : Fin 256) (e : Fin 128) (hw : e.val / 64 = w.val) :
    output (F := Ideal) o (ix2 r e)
      = Ideal.div (o (ix2 (⟨256 * w.val + r.val, by omega⟩ : Fin 512) (⟨e.val, by omega⟩ : Fin 256)))
          (o (ix2 (⟨256 * w.val + r.val, by omega⟩ : Fin 512) (⟨128 + e.val, by omega⟩ : Fin 256))) := by
  pointwise [output, k0_pay2]
  rw [shift_head, select_of (eq_ofNat_iff (a := e.val / 64) (b := 0) (by omega) (by omega))]
  match w with
  | 0 => simp at hw; simp [hw]
  | 1 => simp at hw; simp [hw]

theorem valuesAug_left (v : Vec Ideal S2048x128 .bf16) (t : Fin 2048) (e : Fin 128) :
    valuesAug (F := Ideal) v (ix2 t (⟨e.val, by omega⟩ : Fin 256)) = v (ix2 t e) := by
  pointwise [valuesAug, k0_pay12, k0_pay4]

theorem valuesAug_right (v : Vec Ideal S2048x128 .bf16) (t : Fin 2048) (e : Fin 128) :
    valuesAug (F := Ideal) v (ix2 t (⟨128 + e.val, by omega⟩ : Fin 256)) = (1 : EReal) := by
  pointwise [valuesAug, k0_pay12, k0_pay4]

theorem chunks_bounds (sc : FVec Ideal ⟨2, ![512, m]⟩ .f32) (own : FVec Ideal S512x256 .f32) (r : Fin 512) (x : Fin 128) :
    (k : Nat) → (h : 128 * k ≤ m) →
    own (ix2 r (⟨x.val, by omega⟩ : Fin 256)) ≤ chunks (F := Ideal) sc own k h (ix2 r x)
      ∧ own (ix2 r (⟨128 + x.val, by omega⟩ : Fin 256)) ≤ chunks (F := Ideal) sc own k h (ix2 r x)
      ∧ ((∀ c, own (ix2 r c) < (⊤ : EReal)) → (∀ c, sc (ix2 r c) < (⊤ : EReal)) → chunks (F := Ideal) sc own k h (ix2 r x) < (⊤ : EReal))
  | 0, h => by
    have e : chunks (F := Ideal) sc own 0 h (ix2 r x)
        = max (own (ix2 r (⟨x.val, by omega⟩ : Fin 256)) : EReal) (own (ix2 r (⟨128 + x.val, by omega⟩ : Fin 256))) := by
      pointwise [chunks]
    rw [e]
    exact ⟨le_max_left _ _, le_max_right _ _, fun h1 h2 => max_lt (h1 _) (h1 _)⟩
  | k + 1, h => by
    obtain ⟨i1, i2, i3⟩ := chunks_bounds sc own r x k (by omega)
    have e : chunks (F := Ideal) sc own (k + 1) h (ix2 r x)
        = max (chunks (F := Ideal) sc own k (by omega) (ix2 r x) : EReal) (sc (ix2 r (⟨128 * k + x.val, by omega⟩ : Fin m))) := by
      show max _ _ = _
      congr 1
      refine extractStridedSlice_apply _ _ _ _ _ fun a => ?_
      match a with
      | ⟨0, _⟩ => simp [ix2]
      | ⟨1, _⟩ => simp [ix2]
    rw [e]
    exact ⟨le_max_of_le_left i1, le_max_of_le_left i2, fun h1 h2 => max_lt (i3 h1 h2) (h2 _)⟩

theorem rowMax_bounds (M : FVec Ideal S512x128 .f32) (r : Fin 512) :
    (∀ x, (M (ix2 r x) : EReal) ≤ rowMax (F := Ideal) M (ix2 r (0 : Fin 1)))
      ∧ ((∀ x, M (ix2 r x) < (⊤ : EReal)) → rowMax (F := Ideal) M (ix2 r (0 : Fin 1)) < (⊤ : EReal)) := by
  have e : rowMax (F := Ideal) M (ix2 r (0 : Fin 1)) = Finset.fold max (Ideal.ofBits .f32 4286578688#32) (fun x => M (ix2 r x)) Finset.univ := by
    pointwise [rowMax]
  rw [e]
  have hb : Ideal.ofBits .f32 4286578688#32 = ⊥ := by simp [Ideal.ofBits, Ideal.ieee]
  refine ⟨fun x => (Finset.le_fold_max _).mpr (Or.inr ⟨x, Finset.mem_univ _, le_rfl⟩), fun h => (Finset.fold_max_lt _).mpr ⟨?_, fun x _ => h x⟩⟩
  rw [hb]; exact bot_lt_top

section Block

variable (q k v : Vec Ideal S2048x128 .bf16) (qr kr : Fin 2048 → Fin 128 → ℝ)
variable (hq : ∀ r e, q (ix2 r e) = (qr r e : EReal)) (hk : ∀ r e, k (ix2 r e) = (kr r e : EReal))

include hq hk in
/-- One block of queries: from its scores, their greatest, the exponentials and the weighted values, read at an index, the
    head's output. -/
theorem block_output (hm : m = n + 256) (hm' : m ≤ 2048) (hn : n % 256 = 0) (hs : S2048x256.Slices ![n, 0] S256x256)
    (sc : FVec Ideal ⟨2, ![512, m]⟩ .f32) (own : FVec Ideal S512x256 .f32) (kc : Nat) (hkc : 128 * kc ≤ m)
    (p : FVec Ideal ⟨2, ![512, m]⟩ .bf16) (pv : FVec Ideal S512x256 .f32)
    (hsc : ∀ (r : Fin 512) (c : Fin m), sc (ix2 r c) = ∑ e : Fin 256,
      queryBlock (F := Ideal) ![n, 0] hs (headAug (F := Ideal) 0#32 q k) (headAug (F := Ideal) 1#32 q k) (ix2 r e)
        * keysAug (F := Ideal) k (ix2 (⟨c.val, by omega⟩ : Fin 2048) e))
    (hown : ∀ (r : Fin 512) (c : Fin 256), own (ix2 r c) = sc (ix2 r (⟨n + c.val, by omega⟩ : Fin m)) + causal (F := Ideal) (ix2 r c))
    (hp : ∀ (r : Fin 512) (c : Fin m), p (ix2 r c)
      = if h : c.val < n then Ideal.exp2 (sc (ix2 r c) - rowMax (F := Ideal) (chunks (F := Ideal) sc own kc hkc) (ix2 r (0 : Fin 1)))
        else Ideal.exp2 (own (ix2 r (⟨c.val - n, by omega⟩ : Fin 256)) - rowMax (F := Ideal) (chunks (F := Ideal) sc own kc hkc) (ix2 r (0 : Fin 1))))
    (hpv : ∀ (r : Fin 512) (e : Fin 256), pv (ix2 r e) = ∑ c : Fin m, p (ix2 r c) * valuesAug (F := Ideal) v (ix2 (⟨c.val, by omega⟩ : Fin 2048) e))
    (w : Fin 2) (r : Fin 256) (e : Fin 128) (hw : e.val / 64 = w.val) :
    output (F := Ideal) pv (ix2 r e)
      = head (lanes w qr) (lanes w kr) (fun t => v (ix2 t e)) (⟨n + r.val, by omega⟩ : Fin 2048) := by
  classical
  have hR : (n + r.val) / 256 = n / 256 := by omega
  obtain ⟨R, hRdef⟩ : ∃ R : Fin 2048, R = ⟨n + r.val, by omega⟩ := ⟨_, rfl⟩
  have hRv : R.val = n + r.val := by rw [hRdef]
  obtain ⟨ρ, hρ⟩ : ∃ ρ : Fin 512, ρ = ⟨256 * w.val + r.val, by omega⟩ := ⟨_, rfl⟩
  have hS : ∀ c : Fin m, sc (ix2 ρ c)
      = if c.val / 256 = R.val / 256 ∨ rank (lanes w qr) (lanes w kr) R ⟨c.val / 256, by omega⟩ < 3
        then (score (lanes w qr) (lanes w kr) R ⟨c.val, by omega⟩ : EReal) else ⊥ := fun c => by
    rw [hsc, ← headAug_dot w q k qr kr hq hk R ⟨c.val, by omega⟩ (by simp only; omega)]
    refine Finset.sum_congr rfl fun x _ => ?_
    rw [hρ, queryBlock_apply _ _ hs (by omega) w r x, ← hRdef]
    match w with
    | 0 => rfl
    | 1 => rfl
  have hSee : ∀ c : Fin m, c.val < n → sc (ix2 ρ c)
      = if Sees (lanes w qr) (lanes w kr) R ⟨c.val, by omega⟩ then (score (lanes w qr) (lanes w kr) R ⟨c.val, by omega⟩ : EReal) else ⊥ :=
    fun c hc => by
    rw [hS]
    refine if_congr ?_ rfl rfl
    simp only [Sees]
    constructor
    · rintro (h | h)
      · omega
      · exact Or.inr ⟨by omega, h⟩
    · rintro (⟨h, _⟩ | ⟨_, h⟩)
      · exact Or.inl h
      · exact Or.inr h
  have hOwn : ∀ c : Fin 256, own (ix2 ρ c)
      = if Sees (lanes w qr) (lanes w kr) R ⟨n + c.val, by omega⟩ then (score (lanes w qr) (lanes w kr) R ⟨n + c.val, by omega⟩ : EReal) else ⊥ :=
    fun c => by
    rw [hown, hS, causal_apply, if_pos (Or.inl (by simp only; omega))]
    have hiff : Sees (lanes w qr) (lanes w kr) R ⟨n + c.val, by omega⟩ ↔ c.val ≤ ρ.val % 256 := by
      simp only [Sees, Fin.le_def, hRv, hρ]
      constructor
      · rintro (⟨_, h⟩ | ⟨h, _⟩) <;> omega
      · intro h; exact Or.inl (by omega)
    by_cases h : c.val ≤ ρ.val % 256
    · rw [if_pos h, if_pos (hiff.mpr h), add_zero]
    · rw [if_neg h, if_neg (fun hh => h (hiff.mp hh))]; exact EReal.add_bot _
  obtain ⟨mx, hmx⟩ : ∃ mx : ℝ, rowMax (F := Ideal) (chunks (F := Ideal) sc own kc hkc) (ix2 ρ (0 : Fin 1)) = (mx : EReal) := by
    have hlt : ∀ (P : Prop) [Decidable P] (x : ℝ), (if P then (x : EReal) else ⊥) < ⊤ := fun P _ x => by
      split
      · exact EReal.coe_lt_top _
      · exact bot_lt_top
    have hb := rowMax_bounds (chunks (F := Ideal) sc own kc hkc) ρ
    refine real_of_bounds (hb.2 fun x => ?_).ne ?_
    · exact (chunks_bounds sc own ρ x kc hkc).2.2 (fun c => by rw [hOwn]; exact hlt _ _) (fun c => by rw [hS]; exact hlt _ _)
    · have hself : own (ix2 ρ r) = (score (lanes w qr) (lanes w kr) R ⟨n + r.val, by omega⟩ : EReal) := by
        rw [hOwn, if_pos]
        rw [← hRdef]; exact sees_self _ _ _
      have hle : own (ix2 ρ r) ≤ rowMax (F := Ideal) (chunks (F := Ideal) sc own kc hkc) (ix2 ρ (0 : Fin 1)) := by
        by_cases hr : r.val < 128
        · exact le_trans (chunks_bounds sc own ρ ⟨r.val, hr⟩ kc hkc).1 (hb.1 _)
        · have h2 := (chunks_bounds sc own ρ ⟨r.val - 128, by omega⟩ kc hkc).2.1
          have hi : (⟨128 + (r.val - 128), by omega⟩ : Fin 256) = r := Fin.ext (by simp only; omega)
          simp only [hi] at h2
          exact le_trans h2 (hb.1 _)
      rw [hself] at hle
      exact (lt_of_lt_of_le (EReal.bot_lt_coe _) hle).ne'
  have hP : ∀ c : Fin m, p (ix2 ρ c)
      = (((2 : ℝ) ^ (-mx) * weight (lanes w qr) (lanes w kr) R (Fin.castLE hm' c) : ℝ) : EReal) := fun c => by
    rw [hp, hmx]
    split
    · rename_i hc
      rw [hSee c hc]
      exact exp2_masked _ _ _
    · rename_i hc
      have hi : (⟨n + (c.val - n), by omega⟩ : Fin 2048) = Fin.castLE hm' c := Fin.ext (by simp only [Fin.val_castLE]; omega)
      rw [hOwn]
      simp only [hi]
      exact exp2_masked _ _ _
  rw [output_apply pv w r e hw, ← hρ, hpv, hpv, ← hRdef]
  have hv : ∀ c : Fin m, p (ix2 ρ c) * valuesAug (F := Ideal) v (ix2 (⟨c.val, by omega⟩ : Fin 2048) (⟨e.val, by omega⟩ : Fin 256))
      = (fun t : Fin 2048 => (((2 : ℝ) ^ (-mx) * weight (lanes w qr) (lanes w kr) R t : ℝ) : EReal) * v (ix2 t e)) (Fin.castLE hm' c) := fun c => by
    rw [hP, valuesAug_left]; rfl
  have h1 : ∀ c : Fin m, p (ix2 ρ c) * valuesAug (F := Ideal) v (ix2 (⟨c.val, by omega⟩ : Fin 2048) (⟨128 + e.val, by omega⟩ : Fin 256))
      = (fun t : Fin 2048 => (((2 : ℝ) ^ (-mx) * weight (lanes w qr) (lanes w kr) R t : ℝ) : EReal)) (Fin.castLE hm' c) := fun c => by
    rw [hP, valuesAug_right, mul_one]
  have hfut : ∀ t : Fin 2048, m ≤ t.val → weight (lanes w qr) (lanes w kr) R t = 0 := fun t ht =>
    weight_future _ _ _ _ (Fin.lt_def.mpr (by omega))
  refine (congrArg₂ Ideal.div
    ((Finset.sum_congr rfl fun c _ => hv c).trans (sum_prefix hm' (fun t : Fin 2048 =>
      (((2 : ℝ) ^ (-mx) * weight (lanes w qr) (lanes w kr) R t : ℝ) : EReal) * v (ix2 t e))
      (fun t ht => by simp only [hfut t ht, mul_zero, EReal.coe_zero, zero_mul])))
    ((Finset.sum_congr rfl fun c _ => h1 c).trans (sum_prefix hm' (fun t : Fin 2048 =>
      (((2 : ℝ) ^ (-mx) * weight (lanes w qr) (lanes w kr) R t : ℝ) : EReal))
      (fun t ht => by simp only [hfut t ht, mul_zero, EReal.coe_zero])))).trans ?_
  exact attend_scaled _ _ _ (Real.rpow_pos_of_pos two_pos _) (fun t => weight_nonneg _ _ _ _) (weight_sum_pos _ _ _).ne'

end Block

end Cert.MobaIdeal.Terms

end
-- ==== Proof.Moba.Blocks.lean ====
/-
  The eight blocks of queries of a pair of heads, in the body's own operations, and that each piece the body stores is
  the head's output at the block's rows.
-/
module

public import proofs.«01_k».proof.Proof.Moba.Pieces

@[expose] public section

set_option maxRecDepth 16384

noncomputable section

namespace Cert.MobaIdeal.Terms

open Cert.MobaIdeal Cert.MobaIdeal.Gen Idealize.ShloMosaic Idealize.SL.Sem Cert.Attn

section Stages

variable {F : FTy → Type} [FloatOps F] [Named F]

/-- A block of queries with a past: `n` positions before it, `m` with it. -/
def pastBlock {n m : Nat} (D1 : DotDims S512x256 ⟨2, ![m, 256]⟩ ⟨2, ![512, m]⟩) (D2 : DotDims ⟨2, ![512, m]⟩ ⟨2, ![m, 256]⟩ S512x256)
    (hs : S2048x256.Slices ![n, 0] S256x256) (ho : (⟨2, ![512, m]⟩ : Shape).Slices ![0, n] S512x256) (kc : Nat) (hkc : 128 * kc ≤ m)
    (h1 : (⟨2, ![512, m]⟩ : Shape).Slices ![0, 0] ⟨2, ![512, n]⟩) (h2 : S512x1.Broadcasts ⟨2, ![512, n]⟩)
    (h3 : Shape.Concatenates [⟨2, ![512, n]⟩, S512x256] ⟨2, ![512, m]⟩ 1)
    (q0 q1 : FVec F S2048x256 .bf16) (kb vb : FVec F ⟨2, ![m, 256]⟩ .bf16) : FVec F S256x128 .bf16 :=
  output (matmul D2 none
    (probs (matmul D1 none (queryBlock ![n, 0] hs q0 q1) kb (constant ⟨2, ![512, m]⟩ .f32 0x00000000#32))
      (ownOf n (matmul D1 none (queryBlock ![n, 0] hs q0 q1) kb (constant ⟨2, ![512, m]⟩ .f32 0x00000000#32)) ho)
      (rowMax (chunks (matmul D1 none (queryBlock ![n, 0] hs q0 q1) kb (constant ⟨2, ![512, m]⟩ .f32 0x00000000#32))
        (ownOf n (matmul D1 none (queryBlock ![n, 0] hs q0 q1) kb (constant ⟨2, ![512, m]⟩ .f32 0x00000000#32)) ho) kc hkc)) h1 h2 h3)
    vb (constant S512x256 .f32 0x00000000#32))

/-- The first block's scores. -/
def firstScores (q0 q1 kb : FVec F S2048x256 .bf16) : FVec F S512x256 .f32 :=
  matmul dot_S512x256_S256x256_S512x256_1_1_0_0_n_n none (queryBlock ![0, 0] slices_S2048x256_o0_0_S256x256 q0 q1)
    (extractStridedSlice S256x256 ![0, 0] kb slices_S2048x256_o0_0_S256x256) (constant S512x256 .f32 0x00000000#32)

/-- The first block of queries, which has no past. -/
def block0 (q0 q1 kb vb : FVec F S2048x256 .bf16) : FVec F S256x128 .bf16 :=
  output (matmul dot_S512x256_S256x256_S512x256_1_0_0_1_n_n none
    (probsFirst (addf (firstScores q0 q1 kb) causal)
      (rowMax (chunks (m := 256) (firstScores q0 q1 kb) (addf (firstScores q0 q1 kb) causal) 0 (by omega))))
    (extractStridedSlice S256x256 ![0, 0] vb slices_S2048x256_o0_0_S256x256) (constant S512x256 .f32 0x00000000#32))

/-- Block 1. -/
def block1 (q0 q1 kb vb : FVec F S2048x256 .bf16) : FVec F S256x128 .bf16 :=
  pastBlock (n := 256) (m := 512) dot_S512x256_S512x256_S512x512_1_1_0_0_n_n dot_S512x512_S512x256_S512x256_1_0_0_1_n_n
    slices_S2048x256_o256_0_S256x256 slices_S512x512_o0_256_S512x256 2 (by omega) slices_S512x512_o0_0_S512x256
    broadcasts_S512x1_S512x256 concatenates_S512x256_S512x256_S512x512_d1 q0 q1
    (extractStridedSlice S512x256 ![0, 0] kb slices_S2048x256_o0_0_S512x256) (extractStridedSlice S512x256 ![0, 0] vb slices_S2048x256_o0_0_S512x256)

/-- Block 2. -/
def block2 (q0 q1 kb vb : FVec F S2048x256 .bf16) : FVec F S256x128 .bf16 :=
  pastBlock (n := 512) (m := 768) dot_S512x256_S768x256_S512x768_1_1_0_0_n_n dot_S512x768_S768x256_S512x256_1_0_0_1_n_n
    slices_S2048x256_o512_0_S256x256 slices_S512x768_o0_512_S512x256 4 (by omega) slices_S512x768_o0_0_S512x512
    broadcasts_S512x1_S512x512 concatenates_S512x512_S512x256_S512x768_d1 q0 q1
    (extractStridedSlice S768x256 ![0, 0] kb slices_S2048x256_o0_0_S768x256) (extractStridedSlice S768x256 ![0, 0] vb slices_S2048x256_o0_0_S768x256)

/-- Block 3. -/
def block3 (q0 q1 kb vb : FVec F S2048x256 .bf16) : FVec F S256x128 .bf16 :=
  pastBlock (n := 768) (m := 1024) dot_S512x256_S1024x256_S512x1024_1_1_0_0_n_n dot_S512x1024_S1024x256_S512x256_1_0_0_1_n_n
    slices_S2048x256_o768_0_S256x256 slices_S512x1024_o0_768_S512x256 6 (by omega) slices_S512x1024_o0_0_S512x768
    broadcasts_S512x1_S512x768 concatenates_S512x768_S512x256_S512x1024_d1 q0 q1
    (extractStridedSlice S1024x256 ![0, 0] kb slices_S2048x256_o0_0_S1024x256) (extractStridedSlice S1024x256 ![0, 0] vb slices_S2048x256_o0_0_S1024x256)

/-- Block 4. -/
def block4 (q0 q1 kb vb : FVec F S2048x256 .bf16) : FVec F S256x128 .bf16 :=
  pastBlock (n := 1024) (m := 1280) dot_S512x256_S1280x256_S512x1280_1_1_0_0_n_n dot_S512x1280_S1280x256_S512x256_1_0_0_1_n_n
    slices_S2048x256_o1024_0_S256x256 slices_S512x1280_o0_1024_S512x256 8 (by omega) slices_S512x1280_o0_0_S512x1024
    broadcasts_S512x1_S512x1024 concatenates_S512x1024_S512x256_S512x1280_d1 q0 q1
    (extractStridedSlice S1280x256 ![0, 0] kb slices_S2048x256_o0_0_S1280x256) (extractStridedSlice S1280x256 ![0, 0] vb slices_S2048x256_o0_0_S1280x256)

/-- Block 5. -/
def block5 (q0 q1 kb vb : FVec F S2048x256 .bf16) : FVec F S256x128 .bf16 :=
  pastBlock (n := 1280) (m := 1536) dot_S512x256_S1536x256_S512x1536_1_1_0_0_n_n dot_S512x1536_S1536x256_S512x256_1_0_0_1_n_n
    slices_S2048x256_o1280_0_S256x256 slices_S512x1536_o0_1280_S512x256 10 (by omega) slices_S512x1536_o0_0_S512x1280
    broadcasts_S512x1_S512x1280 concatenates_S512x1280_S512x256_S512x1536_d1 q0 q1
    (extractStridedSlice S1536x256 ![0, 0] kb slices_S2048x256_o0_0_S1536x256) (extractStridedSlice S1536x256 ![0, 0] vb slices_S2048x256_o0_0_S1536x256)

/-- Block 6. -/
def block6 (q0 q1 kb vb : FVec F S2048x256 .bf16) : FVec F S256x128 .bf16 :=
  pastBlock (n := 1536) (m := 1792) dot_S512x256_S1792x256_S512x1792_1_1_0_0_n_n dot_S512x1792_S1792x256_S512x256_1_0_0_1_n_n
    slices_S2048x256_o1536_0_S256x256 slices_S512x1792_o0_1536_S512x256 12 (by omega) slices_S512x1792_o0_0_S512x1536
    broadcasts_S512x1_S512x1536 concatenates_S512x1536_S512x256_S512x1792_d1 q0 q1
    (extractStridedSlice S1792x256 ![0, 0] kb slices_S2048x256_o0_0_S1792x256) (extractStridedSlice S1792x256 ![0, 0] vb slices_S2048x256_o0_0_S1792x256)

/-- Block 7. -/
def block7 (q0 q1 kb vb : FVec F S2048x256 .bf16) : FVec F S256x128 .bf16 :=
  pastBlock (n := 1792) (m := 2048) dot_S512x256_S2048x256_S512x2048_1_1_0_0_n_n dot_S512x2048_S2048x256_S512x256_1_0_0_1_n_n
    slices_S2048x256_o1792_0_S256x256 slices_S512x2048_o0_1792_S512x256 14 (by omega) slices_S512x2048_o0_0_S512x1792
    broadcasts_S512x1_S512x1792 concatenates_S512x1792_S512x256_S512x2048_d1 q0 q1
    kb vb

/-- A pair's block, from its lanes of the queries, the keys and the values. -/
def ofPair (B : (q0 q1 kb vb : FVec F S2048x256 .bf16) → FVec F S256x128 .bf16) (q k v : Vec F S2048x128 .bf16) : FVec F S256x128 .bf16 :=
  B (headAug 0#32 q k) (headAug 1#32 q k) (keysAug k) (valuesAug v)

/-- The pieces of the output block are the eight blocks of the two pairs. -/
theorem out_pieces (x0 x1 x2 : Vec F S2048x256 .bf16) (x3 : Vec F S512x2816 .f32) : out0_4 x0 x1 x2 x3 = View.canon [
    ⟨r0_18, ofPair block0 (View.ld x0 r0_3) (View.ld x1 r0_3) (View.ld x2 r0_3)⟩,
    ⟨r0_17, ofPair block0 (View.ld x0 r0_1) (View.ld x1 r0_1) (View.ld x2 r0_1)⟩,
    ⟨r0_16, ofPair block1 (View.ld x0 r0_3) (View.ld x1 r0_3) (View.ld x2 r0_3)⟩,
    ⟨r0_15, ofPair block1 (View.ld x0 r0_1) (View.ld x1 r0_1) (View.ld x2 r0_1)⟩,
    ⟨r0_14, ofPair block2 (View.ld x0 r0_3) (View.ld x1 r0_3) (View.ld x2 r0_3)⟩,
    ⟨r0_13, ofPair block2 (View.ld x0 r0_1) (View.ld x1 r0_1) (View.ld x2 r0_1)⟩,
    ⟨r0_12, ofPair block3 (View.ld x0 r0_3) (View.ld x1 r0_3) (View.ld x2 r0_3)⟩,
    ⟨r0_11, ofPair block3 (View.ld x0 r0_1) (View.ld x1 r0_1) (View.ld x2 r0_1)⟩,
    ⟨r0_10, ofPair block4 (View.ld x0 r0_3) (View.ld x1 r0_3) (View.ld x2 r0_3)⟩,
    ⟨r0_9, ofPair block4 (View.ld x0 r0_1) (View.ld x1 r0_1) (View.ld x2 r0_1)⟩,
    ⟨r0_8, ofPair block5 (View.ld x0 r0_3) (View.ld x1 r0_3) (View.ld x2 r0_3)⟩,
    ⟨r0_7, ofPair block5 (View.ld x0 r0_1) (View.ld x1 r0_1) (View.ld x2 r0_1)⟩,
    ⟨r0_6, ofPair block6 (View.ld x0 r0_3) (View.ld x1 r0_3) (View.ld x2 r0_3)⟩,
    ⟨r0_5, ofPair block6 (View.ld x0 r0_1) (View.ld x1 r0_1) (View.ld x2 r0_1)⟩,
    ⟨r0_4, ofPair block7 (View.ld x0 r0_3) (View.ld x1 r0_3) (View.ld x2 r0_3)⟩,
    ⟨r0_2, ofPair block7 (View.ld x0 r0_1) (View.ld x1 r0_1) (View.ld x2 r0_1)⟩] := rfl

end Stages

section Block

variable (q k v : Vec Ideal S2048x128 .bf16) (qr kr : Fin 2048 → Fin 128 → ℝ)
variable (hq : ∀ r e, q (ix2 r e) = (qr r e : EReal)) (hk : ∀ r e, k (ix2 r e) = (kr r e : EReal))

/-- The output of the head that a lane belongs to. -/
def headAt (r : Fin 2048) (e : Fin 128) : EReal :=
  head (lanes ⟨e.val / 64, by omega⟩ qr) (lanes ⟨e.val / 64, by omega⟩ kr) (fun t => v (ix2 t e)) r

include hq hk in
theorem pastBlock_apply {n m : Nat} (hm : m = n + 256) (hm' : m ≤ 2048) (hn : n % 256 = 0)
    (D1 : DotDims S512x256 ⟨2, ![m, 256]⟩ ⟨2, ![512, m]⟩) (D2 : DotDims ⟨2, ![512, m]⟩ ⟨2, ![m, 256]⟩ S512x256)
    (hs : S2048x256.Slices ![n, 0] S256x256) (ho : (⟨2, ![512, m]⟩ : Shape).Slices ![0, n] S512x256) (kc : Nat) (hkc : 128 * kc ≤ m)
    (h1 : (⟨2, ![512, m]⟩ : Shape).Slices ![0, 0] ⟨2, ![512, n]⟩) (h2 : S512x1.Broadcasts ⟨2, ![512, n]⟩)
    (h3 : Shape.Concatenates [⟨2, ![512, n]⟩, S512x256] ⟨2, ![512, m]⟩ 1) (kb vb : FVec Ideal ⟨2, ![m, 256]⟩ .bf16)
    (hD1 : ∀ (a : FVec Ideal S512x256 .bf16) (b : FVec Ideal ⟨2, ![m, 256]⟩ .bf16) (r : Fin 512) (c : Fin m),
      matmul (F := Ideal) D1 none a b (constant ⟨2, ![512, m]⟩ .f32 0x00000000#32) (ix2 r c) = ∑ e : Fin 256, a (ix2 r e) * b (ix2 c e))
    (hD2 : ∀ (a : FVec Ideal ⟨2, ![512, m]⟩ .bf16) (b : FVec Ideal ⟨2, ![m, 256]⟩ .bf16) (r : Fin 512) (e : Fin 256),
      matmul (F := Ideal) D2 none a b (constant S512x256 .f32 0x00000000#32) (ix2 r e) = ∑ c : Fin m, a (ix2 r c) * b (ix2 c e))
    (hP : ∀ (sc : FVec Ideal ⟨2, ![512, m]⟩ .f32) (own : FVec Ideal S512x256 .f32) (mx : FVec Ideal S512x1 .f32) (r : Fin 512) (c : Fin m),
      probs (F := Ideal) sc own mx h1 h2 h3 (ix2 r c) = if h : c.val < n then Ideal.exp2 (sc (ix2 r c) - mx (ix2 r (0 : Fin 1)))
        else Ideal.exp2 (own (ix2 r (⟨c.val - n, by omega⟩ : Fin 256)) - mx (ix2 r (0 : Fin 1))))
    (hkb : ∀ (c : Fin m) (e : Fin 256), kb (ix2 c e) = keysAug (F := Ideal) k (ix2 (⟨c.val, by omega⟩ : Fin 2048) e))
    (hvb : ∀ (c : Fin m) (e : Fin 256), vb (ix2 c e) = valuesAug (F := Ideal) v (ix2 (⟨c.val, by omega⟩ : Fin 2048) e))
    (r : Fin 256) (e : Fin 128) :
    pastBlock (F := Ideal) D1 D2 hs ho kc hkc h1 h2 h3 (headAug (F := Ideal) 0#32 q k) (headAug (F := Ideal) 1#32 q k) kb vb (ix2 r e)
      = headAt v qr kr (⟨n + r.val, by omega⟩ : Fin 2048) e := by
  obtain ⟨sc, hsc⟩ : ∃ sc, sc = matmul (F := Ideal) D1 none (queryBlock (F := Ideal) ![n, 0] hs (headAug (F := Ideal) 0#32 q k) (headAug (F := Ideal) 1#32 q k)) kb
      (constant ⟨2, ![512, m]⟩ .f32 0x00000000#32) := ⟨_, rfl⟩
  unfold pastBlock
  rw [← hsc]
  refine block_output q k v qr kr hq hk hm hm' hn hs sc (ownOf n sc ho) kc hkc
    (probs sc (ownOf n sc ho) (rowMax (chunks sc (ownOf n sc ho) kc hkc)) h1 h2 h3) _ (fun ρ c => ?_) (fun ρ c => ?_) (fun ρ c => hP _ _ _ ρ c) (fun ρ x => ?_)
    ⟨e.val / 64, by omega⟩ r e rfl
  · rw [hsc, hD1]; exact Finset.sum_congr rfl fun x _ => by rw [hkb]
  · show _ + _ = _ + _
    congr 1
    refine extractStridedSlice_apply _ _ _ _ _ fun a => ?_
    match a with
    | ⟨0, _⟩ => simp [ix2]
    | ⟨1, _⟩ => simp [ix2]
  · rw [hD2]; exact Finset.sum_congr rfl fun x _ => by rw [hvb]

include hq hk in
theorem block0_apply (r : Fin 256) (e : Fin 128) :
    ofPair (F := Ideal) block0 q k v (ix2 r e) = headAt v qr kr (⟨0 + r.val, by omega⟩ : Fin 2048) e := by
  obtain ⟨sc, hsc⟩ : ∃ sc, sc = firstScores (headAug (F := Ideal) 0#32 q k) (headAug (F := Ideal) 1#32 q k) (keysAug k) := ⟨_, rfl⟩
  unfold ofPair block0
  rw [← hsc]
  have h := block_output (n := 0) (m := 256) q k v qr kr hq hk rfl (by omega) rfl slices_S2048x256_o0_0_S256x256
    sc (addf sc causal) 0 (by omega) (probsFirst (addf sc causal) (rowMax (chunks (m := 256) sc (addf sc causal) 0 (by omega))))
    (matmul dot_S512x256_S256x256_S512x256_1_0_0_1_n_n none
      (probsFirst (addf sc causal) (rowMax (chunks (m := 256) sc (addf sc causal) 0 (by omega))))
      (extractStridedSlice S256x256 ![0, 0] (valuesAug v) slices_S2048x256_o0_0_S256x256) (constant S512x256 .f32 0x00000000#32))
    (fun ρ c => by rw [hsc]; pointwise [firstScores]) (fun ρ c => ?_) (fun ρ c => ?_) (fun ρ x => by pointwise)
    ⟨e.val / 64, by omega⟩ r e rfl
  · exact h
  · simp only [Nat.zero_add]; rfl
  · rw [dif_neg (by omega)]; pointwise [probsFirst]; rfl

include hq hk in
theorem block1_apply (r : Fin 256) (e : Fin 128) :
    ofPair (F := Ideal) block1 q k v (ix2 r e) = headAt v qr kr (⟨256 + r.val, by omega⟩ : Fin 2048) e :=
  pastBlock_apply (n := 256) (m := 512) q k v qr kr hq hk rfl (by omega) rfl _ _ _ _ _ _ _ _ _ _ _ (fun a b r c => by pointwise) (fun a b r c => by pointwise)
    (fun a b d r c => by pointwise [probs]; rfl) (fun c e => by pointwise) (fun c e => by pointwise) r e

include hq hk in
theorem block2_apply (r : Fin 256) (e : Fin 128) :
    ofPair (F := Ideal) block2 q k v (ix2 r e) = headAt v qr kr (⟨512 + r.val, by omega⟩ : Fin 2048) e :=
  pastBlock_apply (n := 512) (m := 768) q k v qr kr hq hk rfl (by omega) rfl _ _ _ _ _ _ _ _ _ _ _ (fun a b r c => by pointwise) (fun a b r c => by pointwise)
    (fun a b d r c => by pointwise [probs]; rfl) (fun c e => by pointwise) (fun c e => by pointwise) r e

include hq hk in
theorem block3_apply (r : Fin 256) (e : Fin 128) :
    ofPair (F := Ideal) block3 q k v (ix2 r e) = headAt v qr kr (⟨768 + r.val, by omega⟩ : Fin 2048) e :=
  pastBlock_apply (n := 768) (m := 1024) q k v qr kr hq hk rfl (by omega) rfl _ _ _ _ _ _ _ _ _ _ _ (fun a b r c => by pointwise) (fun a b r c => by pointwise)
    (fun a b d r c => by pointwise [probs]; rfl) (fun c e => by pointwise) (fun c e => by pointwise) r e

include hq hk in
theorem block4_apply (r : Fin 256) (e : Fin 128) :
    ofPair (F := Ideal) block4 q k v (ix2 r e) = headAt v qr kr (⟨1024 + r.val, by omega⟩ : Fin 2048) e :=
  pastBlock_apply (n := 1024) (m := 1280) q k v qr kr hq hk rfl (by omega) rfl _ _ _ _ _ _ _ _ _ _ _ (fun a b r c => by pointwise) (fun a b r c => by pointwise)
    (fun a b d r c => by pointwise [probs]; rfl) (fun c e => by pointwise) (fun c e => by pointwise) r e

include hq hk in
theorem block5_apply (r : Fin 256) (e : Fin 128) :
    ofPair (F := Ideal) block5 q k v (ix2 r e) = headAt v qr kr (⟨1280 + r.val, by omega⟩ : Fin 2048) e :=
  pastBlock_apply (n := 1280) (m := 1536) q k v qr kr hq hk rfl (by omega) rfl _ _ _ _ _ _ _ _ _ _ _ (fun a b r c => by pointwise) (fun a b r c => by pointwise)
    (fun a b d r c => by pointwise [probs]; rfl) (fun c e => by pointwise) (fun c e => by pointwise) r e

include hq hk in
theorem block6_apply (r : Fin 256) (e : Fin 128) :
    ofPair (F := Ideal) block6 q k v (ix2 r e) = headAt v qr kr (⟨1536 + r.val, by omega⟩ : Fin 2048) e :=
  pastBlock_apply (n := 1536) (m := 1792) q k v qr kr hq hk rfl (by omega) rfl _ _ _ _ _ _ _ _ _ _ _ (fun a b r c => by pointwise) (fun a b r c => by pointwise)
    (fun a b d r c => by pointwise [probs]; rfl) (fun c e => by pointwise) (fun c e => by pointwise) r e

include hq hk in
theorem block7_apply (r : Fin 256) (e : Fin 128) :
    ofPair (F := Ideal) block7 q k v (ix2 r e) = headAt v qr kr (⟨1792 + r.val, by omega⟩ : Fin 2048) e :=
  pastBlock_apply (n := 1792) (m := 2048) q k v qr kr hq hk rfl (by omega) rfl _ _ _ _ _ _ _ _ _ _ _ (fun a b r c => by pointwise) (fun a b r c => by pointwise)
    (fun a b d r c => by pointwise [probs]; rfl) (fun c e => by pointwise) (fun c e => by pointwise) r e

end Block

end Cert.MobaIdeal.Terms

end
-- ==== Proof.Moba.Array.lean ====
/-
  The attention kernel's two results: every block of the first is the heads' outputs, hence the array is; the second is
  its argument.
-/
module

public import proofs.«01_k».proof.Proof.Moba.Blocks
public import Idealize.ShloMosaic.Lib.Pipeline.ValueKit

@[expose] public section

set_option maxRecDepth 16384

noncomputable section

namespace Cert.Attn

open Idealize.ShloMosaic

/-- The attention of one head of one batch row, from the array of queries, keys and values side by side. -/
def attn (A : (⟨2, ![16384, 3584]⟩ : Shape).Idx → EReal) (b h : Fin 8) (d : Fin 64) (r : Fin 2048) : EReal :=
  head (fun r d => (A (ix2 (⟨2048 * b.val + r.val, by omega⟩ : Fin 16384) (⟨64 * h.val + d.val, by omega⟩ : Fin 3584))).toReal)
    (fun r d => (A (ix2 (⟨2048 * b.val + r.val, by omega⟩ : Fin 16384) (⟨512 + (64 * h.val + d.val), by omega⟩ : Fin 3584))).toReal)
    (fun t => A (ix2 (⟨2048 * b.val + t.val, by omega⟩ : Fin 16384) (⟨1024 + (64 * h.val + d.val), by omega⟩ : Fin 3584))) r

/-- All the heads' outputs, side by side. -/
def attnAll (A : (⟨2, ![16384, 3584]⟩ : Shape).Idx → EReal) : (⟨2, ![16384, 512]⟩ : Shape).Idx → EReal := fun i =>
  attn A ⟨(i 0).val / 2048, by have := (i 0).isLt; simp at this; omega⟩ ⟨(i 1).val / 64, by have := (i 1).isLt; simp at this; omega⟩
    ⟨(i 1).val % 64, by omega⟩ ⟨(i 0).val % 2048, by omega⟩

/-- The queries and the keys are real. -/
def RealQK (A : (⟨2, ![16384, 3584]⟩ : Shape).Idx → EReal) : Prop :=
  ∀ (r : Fin 16384) (c : Fin 1024), A (ix2 r (⟨c.val, by omega⟩ : Fin 3584)) = ((A (ix2 r (⟨c.val, by omega⟩ : Fin 3584))).toReal : EReal)

end Cert.Attn

namespace Cert.MobaIdeal.Terms

open Cert.MobaIdeal Cert.MobaIdeal.Gen Idealize.ShloMosaic Idealize.SL.Sem Cert.Attn

theorem ld_left (x : Vec Ideal S2048x256 .bf16) (r : Fin 2048) (e : Fin 128) :
    View.ld x r0_1 (ix2 r e) = x (ix2 r (⟨e.val, by omega⟩ : Fin 256)) :=
  View.ld_unit_apply_of x _ _ _ _ _ fun a => by
    match a with
    | ⟨0, _⟩ => simp [ix2]
    | ⟨1, _⟩ => simp [ix2]

theorem ld_right (x : Vec Ideal S2048x256 .bf16) (r : Fin 2048) (e : Fin 128) :
    View.ld x r0_3 (ix2 r e) = x (ix2 r (⟨128 + e.val, by omega⟩ : Fin 256)) :=
  View.ld_unit_apply_of x _ _ _ _ _ fun a => by
    match a with
    | ⟨0, _⟩ => simp [ix2]
    | ⟨1, _⟩ => simp [ix2]

/-- One head of a block of four, from the blocks of queries, keys and values. -/
def blockHead (x0 x1 x2 : Vec Ideal S2048x256 .bf16) (R : Fin 2048) (c : Fin 256) : EReal :=
  head (fun r d => (x0 (ix2 r (⟨64 * (c.val / 64) + d.val, by omega⟩ : Fin 256)) : EReal).toReal)
    (fun r d => (x1 (ix2 r (⟨64 * (c.val / 64) + d.val, by omega⟩ : Fin 256)) : EReal).toReal) (fun t => x2 (ix2 t c)) R

theorem left_head (x0 x1 x2 : Vec Ideal S2048x256 .bf16) (R : Fin 2048) (c : Fin 256) (e : Fin 128) (hc : c.val = e.val) :
    headAt (View.ld x2 r0_1) (fun r e => (View.ld x0 r0_1 (ix2 r e) : EReal).toReal) (fun r e => (View.ld x1 r0_1 (ix2 r e) : EReal).toReal) R e
      = blockHead x0 x1 x2 R c := by
  unfold headAt blockHead lanes
  congr 1
  · funext r d
    exact congrArg EReal.toReal ((ld_left x0 r _).trans (congrArg (fun i => x0 (ix2 r i)) (Fin.ext (by simp only; omega))))
  · funext r d
    exact congrArg EReal.toReal ((ld_left x1 r _).trans (congrArg (fun i => x1 (ix2 r i)) (Fin.ext (by simp only; omega))))
  · funext t
    exact (ld_left x2 t _).trans (congrArg (fun i => x2 (ix2 t i)) (Fin.ext (by simp only; omega)))

theorem right_head (x0 x1 x2 : Vec Ideal S2048x256 .bf16) (R : Fin 2048) (c : Fin 256) (e : Fin 128) (hc : c.val = 128 + e.val) :
    headAt (View.ld x2 r0_3) (fun r e => (View.ld x0 r0_3 (ix2 r e) : EReal).toReal) (fun r e => (View.ld x1 r0_3 (ix2 r e) : EReal).toReal) R e
      = blockHead x0 x1 x2 R c := by
  unfold headAt blockHead lanes
  congr 1
  · funext r d
    exact congrArg EReal.toReal ((ld_right x0 r _).trans (congrArg (fun i => x0 (ix2 r i)) (Fin.ext (by simp only; omega))))
  · funext r d
    exact congrArg EReal.toReal ((ld_right x1 r _).trans (congrArg (fun i => x1 (ix2 r i)) (Fin.ext (by simp only; omega))))
  · funext t
    exact (ld_right x2 t _).trans (congrArg (fun i => x2 (ix2 t i)) (Fin.ext (by simp only; omega)))

section Out

variable (x0 x1 x2 : Vec Ideal S2048x256 .bf16) (x3 : Vec Ideal S512x2816 .f32)
variable (h0 : ∀ r c, (x0 (ix2 r c) : EReal) = ((x0 (ix2 r c) : EReal).toReal : EReal))
variable (h1 : ∀ r c, (x1 (ix2 r c) : EReal) = ((x1 (ix2 r c) : EReal).toReal : EReal))

include h0 h1 in
/-- A left piece, a block of queries from row `n` on. -/
theorem left_tile (B : (q0 q1 kb vb : FVec Ideal S2048x256 .bf16) → FVec Ideal S256x128 .bf16) (n : Nat) (hn : n + 256 ≤ 2048)
    (hB : ∀ (q k v : Vec Ideal S2048x128 .bf16) (qr kr : Fin 2048 → Fin 128 → ℝ), (∀ r e, q (ix2 r e) = (qr r e : EReal)) →
      (∀ r e, k (ix2 r e) = (kr r e : EReal)) → ∀ (r : Fin 256) (e : Fin 128),
      ofPair (F := Ideal) B q k v (ix2 r e) = headAt v qr kr (⟨n + r.val, by omega⟩ : Fin 2048) e)
    (R : Fin 2048) (c : Fin 256) (x : S256x128.Idx) (hR : R.val = n + (x 0).val) (hc : c.val = (x 1).val) :
    ofPair (F := Ideal) B (View.ld x0 r0_1) (View.ld x1 r0_1) (View.ld x2 r0_1) x = blockHead x0 x1 x2 R c := by
  have hx : x = ix2 (x 0 : Fin 256) (x 1 : Fin 128) := by funext a; match a with | 0 => rfl | 1 => rfl
  rw [hx]
  refine (hB _ _ _ (fun r e => (View.ld x0 r0_1 (ix2 r e) : EReal).toReal) (fun r e => (View.ld x1 r0_1 (ix2 r e) : EReal).toReal)
    (fun r e => ?_) (fun r e => ?_) _ _).trans ?_
  · rw [ld_left]; exact h0 _ _
  · rw [ld_left]; exact h1 _ _
  · rw [← left_head x0 x1 x2 R c (x 1) hc]
    exact congrArg (fun R => headAt _ _ _ R _) (Fin.ext hR.symm)

include h0 h1 in
/-- A right piece, a block of queries from row `n` on. -/
theorem right_tile (B : (q0 q1 kb vb : FVec Ideal S2048x256 .bf16) → FVec Ideal S256x128 .bf16) (n : Nat) (hn : n + 256 ≤ 2048)
    (hB : ∀ (q k v : Vec Ideal S2048x128 .bf16) (qr kr : Fin 2048 → Fin 128 → ℝ), (∀ r e, q (ix2 r e) = (qr r e : EReal)) →
      (∀ r e, k (ix2 r e) = (kr r e : EReal)) → ∀ (r : Fin 256) (e : Fin 128),
      ofPair (F := Ideal) B q k v (ix2 r e) = headAt v qr kr (⟨n + r.val, by omega⟩ : Fin 2048) e)
    (R : Fin 2048) (c : Fin 256) (x : S256x128.Idx) (hR : R.val = n + (x 0).val) (hc : c.val = 128 + (x 1).val) :
    ofPair (F := Ideal) B (View.ld x0 r0_3) (View.ld x1 r0_3) (View.ld x2 r0_3) x = blockHead x0 x1 x2 R c := by
  have hx : x = ix2 (x 0 : Fin 256) (x 1 : Fin 128) := by funext a; match a with | 0 => rfl | 1 => rfl
  rw [hx]
  refine (hB _ _ _ (fun r e => (View.ld x0 r0_3 (ix2 r e) : EReal).toReal) (fun r e => (View.ld x1 r0_3 (ix2 r e) : EReal).toReal)
    (fun r e => ?_) (fun r e => ?_) _ _).trans ?_
  · rw [ld_right]; exact h0 _ _
  · rw [ld_right]; exact h1 _ _
  · rw [← right_head x0 x1 x2 R c (x 1) hc]
    exact congrArg (fun R => headAt _ _ _ R _) (Fin.ext hR.symm)

include h0 h1 in
/-- What the body leaves in the first result's block. -/
theorem out_apply (R : Fin 2048) (c : Fin 256) : out0_4 (F := Ideal) x0 x1 x2 x3 (ix2 R c) = blockHead x0 x1 x2 R c := by
  have f0 := h0
  have f1 := h1
  have fl := left_tile x0 x1 x2 f0 f1
  have fr := right_tile x0 x1 x2 f0 f1
  clear h0 h1
  rw [out_pieces]
  canon_tiles x h
  · exact fr block0 0 (by omega) block0_apply R c x (h0.trans (Nat.zero_add _).symm) h1
  · exact fl block0 0 (by omega) block0_apply R c x (h0.trans (Nat.zero_add _).symm) h1
  · exact fr block1 256 (by omega) block1_apply R c x h0 h1
  · exact fl block1 256 (by omega) block1_apply R c x h0 h1
  · exact fr block2 512 (by omega) block2_apply R c x h0 h1
  · exact fl block2 512 (by omega) block2_apply R c x h0 h1
  · exact fr block3 768 (by omega) block3_apply R c x h0 h1
  · exact fl block3 768 (by omega) block3_apply R c x h0 h1
  · exact fr block4 1024 (by omega) block4_apply R c x h0 h1
  · exact fl block4 1024 (by omega) block4_apply R c x h0 h1
  · exact fr block5 1280 (by omega) block5_apply R c x h0 h1
  · exact fl block5 1280 (by omega) block5_apply R c x h0 h1
  · exact fr block6 1536 (by omega) block6_apply R c x h0 h1
  · exact fl block6 1536 (by omega) block6_apply R c x h0 h1
  · exact fr block7 1792 (by omega) block7_apply R c x h0 h1
  · exact fl block7 1792 (by omega) block7_apply R c x h0 h1

end Out

section Run

variable (m : (ℓ : Loc nD τ sig) → Buf (Elt Ideal) ℓ)

theorem index0 : ∀ t : Fin cfg0.N, win0_0.index t = ![(grid0.coords t 0).val, (grid0.coords t 1).val] :=
  (by decide +kernel : ∀ t : Fin grid0.N, _)
theorem index1 : ∀ t : Fin cfg0.N, win0_1.index t = ![(grid0.coords t 0).val, 2 + (grid0.coords t 1).val] :=
  (by decide +kernel : ∀ t : Fin grid0.N, _)
theorem index2 : ∀ t : Fin cfg0.N, win0_2.index t = ![(grid0.coords t 0).val, 4 + (grid0.coords t 1).val] :=
  (by decide +kernel : ∀ t : Fin grid0.N, _)
theorem index3 : ∀ t : Fin cfg0.N, win0_3.index t = win0_5.index t :=
  (by decide +kernel : ∀ t : Fin grid0.N, _)
theorem index4 : ∀ t : Fin cfg0.N, win0_4.index t = ![(grid0.coords t 0).val, (grid0.coords t 1).val] :=
  (by decide +kernel : ∀ t : Fin grid0.N, _)

theorem coords_lt (t : Fin cfg0.N) : (grid0.coords t 0).val < 8 ∧ (grid0.coords t 1).val < 2 := ⟨(grid0.coords t 0).isLt, (grid0.coords t 1).isLt⟩

theorem block0_at (c : Dev nD) (t : Fin cfg0.N) (r : Fin 2048) (e : Fin 256) : iblk m c 0 t (ix2 r e)
    = V m c main_arg0 (ix2 (⟨2048 * (grid0.coords t 0).val + r.val, by have := coords_lt t; omega⟩ : Fin 16384)
      (⟨256 * (grid0.coords t 1).val + e.val, by have := coords_lt t; omega⟩ : Fin 3584)) := by
  blk_simp [iblk, index0]
  refine congrArg _ (funext fun a => Fin.ext ?_)
  match a with
  | 0 => blk_simp [index0]; simp [ix2]; omega
  | 1 => blk_simp [index0]; simp [ix2]; omega

theorem block1_at (c : Dev nD) (t : Fin cfg0.N) (r : Fin 2048) (e : Fin 256) : iblk m c 1 t (ix2 r e)
    = V m c main_arg0 (ix2 (⟨2048 * (grid0.coords t 0).val + r.val, by have := coords_lt t; omega⟩ : Fin 16384)
      (⟨512 + (256 * (grid0.coords t 1).val + e.val), by have := coords_lt t; omega⟩ : Fin 3584)) := by
  blk_simp [iblk, index1]
  refine congrArg _ (funext fun a => Fin.ext ?_)
  match a with
  | 0 => blk_simp [index1]; simp [ix2]; omega
  | 1 => blk_simp [index1]; simp [ix2]; omega

theorem block2_at (c : Dev nD) (t : Fin cfg0.N) (r : Fin 2048) (e : Fin 256) : iblk m c 2 t (ix2 r e)
    = V m c main_arg0 (ix2 (⟨2048 * (grid0.coords t 0).val + r.val, by have := coords_lt t; omega⟩ : Fin 16384)
      (⟨1024 + (256 * (grid0.coords t 1).val + e.val), by have := coords_lt t; omega⟩ : Fin 3584)) := by
  blk_simp [iblk, index2]
  refine congrArg _ (funext fun a => Fin.ext ?_)
  match a with
  | 0 => blk_simp [index2]; simp [ix2]; omega
  | 1 => blk_simp [index2]; simp [ix2]; omega

/-- The first result's array, when the queries and keys are real: all the heads' outputs. -/
theorem result0 (c : Dev nD) (hA : RealQK (V m c main_arg0)) :
    (dats m 0 c).arrAt 4 cfg0.N = attnAll (V m c main_arg0) := by
  refine (dats m 0 c).arrAt_eq_of_covers 4 _ (by decide +kernel) fun t hf y => ?_
  blk_simp
  rw [after0_4]
  obtain ⟨R, C, rfl⟩ : ∃ (R : Fin 2048) (C : Fin 256), y = ix2 R C :=
    ⟨y 0, y 1, by funext a; match a with | 0 => rfl | 1 => rfl⟩
  have hc := coords_lt t
  refine (out_apply _ _ _ _ (fun r e => ?_) (fun r e => ?_) R C).trans ?_
  · rw [block0_at]
    exact hA _ ⟨256 * (grid0.coords t 1).val + e.val, by omega⟩
  · rw [block1_at]
    exact hA _ ⟨512 + (256 * (grid0.coords t 1).val + e.val), by omega⟩
  · have h0 : (((win0_4.blk t).view.emb (ix2 R C)) 0).val = 2048 * (grid0.coords t 0).val + R.val := by
      blk_simp [index4]; simp [ix2]; omega
    have h1 : (((win0_4.blk t).view.emb (ix2 R C)) 1).val = 256 * (grid0.coords t 1).val + C.val := by
      blk_simp [index4]; simp [ix2]; omega
    unfold attnAll attn blockHead
    simp only [h0, h1]
    have hR : (⟨(2048 * (grid0.coords t 0).val + R.val) % 2048, by omega⟩ : Fin 2048) = R := Fin.ext (by simp only; omega)
    rw [hR]
    have hb : (2048 * (grid0.coords t 0).val + R.val) / 2048 = (grid0.coords t 0).val := by omega
    congr 1
    · funext r d
      refine congrArg EReal.toReal ((block0_at m c t r _).trans (congrArg (V m c main_arg0) ?_))
      congr 1 <;> refine Fin.ext ?_ <;> simp only <;> omega
    · funext r d
      refine congrArg EReal.toReal ((block1_at m c t r _).trans (congrArg (V m c main_arg0) ?_))
      congr 1 <;> refine Fin.ext ?_ <;> simp only <;> omega
    · funext r
      refine (block2_at m c t r _).trans (congrArg (V m c main_arg0) ?_)
      congr 1 <;> refine Fin.ext ?_ <;> simp only <;> omega

/-- The second result's array: the second argument's. -/
theorem result1 (c : Dev nD) :
    (dats m 0 c).arrAt 5 cfg0.N = (V m c main_arg1 : S8192x2816.Idx → EReal) := by
  refine (dats m 0 c).arrAt_eq_of_covers 5 _ (by decide +kernel) fun t hf y => ?_
  blk_simp
  rw [after0_5]
  frame_out
  show iblk m c 3 t y = _
  blk_simp [iblk]
  refine congrArg _ (funext fun a => Fin.ext ?_)
  blk_simp [index3]

end Run

end Cert.MobaIdeal.Terms

end
-- ==== Proof.Moba.Indices.lean ====
/-
  The attention reference's integer arrays read at an index: the block of a query, the selected blocks, and the gathers
  through them.
-/
module

public import proofs.«01_k».proof.Proof.Moba.Array
public import proofs.«01_k».proof.Proof.Gen.MobaRefIdeal.Run

@[expose] public section

set_option maxRecDepth 16384

noncomputable section

namespace Cert.MobaRefIdeal.Value

open Cert.MobaRefIdeal Cert.MobaRefIdeal.Gen Idealize.ShloMosaic Idealize.ShloMosaic.TcCoe Idealize.SL.Sem
open Idealize.ShloMosaic.StableHlo

/-- The values of the reference's buffers, at the ideal instance. -/
abbrev Vals := Valuation τ sig (Elt Ideal)

/-- The array of queries, keys and values. -/
abbrev argA (V : Vals) : S16384x3584.Idx → EReal := V (Proc.devRef .tc main_arg0)

theorem q_apply (V : Vals) (b h : Fin 8) (r : Fin 2048) (d : Fin 64) :
    res_main_v3 V (ix4 b h r d) = argA V (ix2 ⟨2048 * b.val + r.val, by omega⟩ ⟨64 * h.val + d.val, by omega⟩) := by
  pointwise [res_main_v3]
  congr 2 <;> exact Fin.ext (by simp only; omega)

theorem k_apply (V : Vals) (b h j : Fin 8) (k : Fin 256) (d : Fin 64) :
    res_main_v13 V (ix5 b h j k d)
      = argA V (ix2 ⟨2048 * b.val + (256 * j.val + k.val), by omega⟩ ⟨512 + (64 * h.val + d.val), by omega⟩) := by
  pointwise [res_main_v13]
  congr 2 <;> exact Fin.ext (by simp only; omega)

theorem v_apply (V : Vals) (b h j : Fin 8) (k : Fin 256) (d : Fin 64) :
    res_main_v14 V (ix5 b h j k d)
      = argA V (ix2 ⟨2048 * b.val + (256 * j.val + k.val), by omega⟩ ⟨1024 + (64 * h.val + d.val), by omega⟩) := by
  pointwise [res_main_v14]
  congr 2 <;> exact Fin.ext (by simp only; omega)

/-- The block of a query. -/
theorem block_apply (V : Vals) (r : Fin 2048) : res_main_v16 V (ix1 r) = BitVec.ofNat 32 (r.val / 256) := by
  pointwise [res_main_v16, res_main_call0_v2, res_main_call0_v0, res_main_v15]
  revert r
  decide +kernel

/-- The positions, row by row. -/
theorem pos_apply (V : Vals) (j : Fin 8) (k : Fin 256) : res_main_v37 V (ix2 j k) = BitVec.ofNat 32 (256 * j.val + k.val) := by
  pointwise [res_main_v37]
  congr 1
  omega

/-- The masked block scores of a query. -/
def scores (V : Vals) (b h : Fin 8) (r : Fin 2048) (j : Fin 8) : EReal := res_main_v28 V (ix4 b h r j)

/-- The `n`-th block that a query selects. -/
def sel (V : Vals) (b h : Fin 8) (r : Fin 2048) (n : Fin 3) : Fin 8 :=
  sortedFrom (fun i j => decide (scores V b h r j < scores V b h r i)) (Fin.castLE (by decide) n)

theorem sel_injective (V : Vals) (b h : Fin 8) (r : Fin 2048) : Function.Injective (sel V b h r) :=
  fun _ _ e => Fin.castLE_injective _ (sortedFrom_injective _ e)

/-- The positions that a top-3 selection returns. -/
theorem top_apply (x : S8x8x2048x8.Idx → Ideal .f32) (hs : S8x8x2048x8.Slices (fun _ => 0) S8x8x2048x3) (b h : Fin 8) (r : Fin 2048)
    (n : Fin 3) :
    (Host.topK S8x8x2048x3 3 (FloatOps.cmpfTotal .gt) x hs).2 (ix4 b h r n)
      = BitVec.ofNat 32 (sortedFrom (fun i j : Fin 8 => decide ((x (ix4 b h r j) : EReal) < x (ix4 b h r i)))
          (Fin.castLE (by decide : 3 ≤ 8) n)).val := by
  have hk : ∀ k : Fin 8, (ix4 b h r (Fin.castLE (by decide : 3 ≤ 8) n) : S8x8x2048x8.Idx).along (3 : Fin 4) k = ix4 b h r k := fun k => by
    funext a
    fin_cases a <;> rfl
  have hf : (fun k k' : Fin 8 => FloatOps.cmpfTotal (F := Ideal) (φ := .f32) .gt
        (x ((ix4 b h r (Fin.castLE (by decide : 3 ≤ 8) n) : S8x8x2048x8.Idx).along (3 : Fin 4) k))
        (x ((ix4 b h r (Fin.castLE (by decide : 3 ≤ 8) n) : S8x8x2048x8.Idx).along (3 : Fin 4) k')) == 1#1)
      = fun i j : Fin 8 => decide ((x (ix4 b h r j) : EReal) < x (ix4 b h r i)) := by
    funext k k'
    rw [hk, hk]
    show (BitVec.ofBool (decide ((x (ix4 b h r k') : EReal) < x (ix4 b h r k))) == 1#1) = _
    cases decide ((x (ix4 b h r k') : EReal) < x (ix4 b h r k)) <;> rfl
  unfold Host.topK
  dsimp only
  refine (extractStridedSlice_apply (fun _ => 0) _ hs (ix4 b h r n) (ix4 b h r (Fin.castLE (by decide : 3 ≤ 8) n)) ?_).trans ?_
  · intro a; fin_cases a <;> exact (Nat.zero_add _).symm
  · exact congrArg (fun f => BitVec.ofNat 32 (sortedFrom f (Fin.castLE (by decide : 3 ≤ 8) n)).val) hf

theorem indices_apply (V : Vals) (b h : Fin 8) (r : Fin 2048) (n : Fin 3) :
    res_main_indices V (ix4 b h r n) = BitVec.ofNat 32 (sel V b h r n).val :=
  top_apply (res_main_v28 V) sliceFits_S8x8x2048x8_S8x8x2048x3 b h r n

/-- The gather of a block through an array of index triples whose entries name batch row, head and block. -/
theorem gather_apply (x : S8x8x8x256x64.Idx → EReal) (idx : IVec S8x8x2048x3x3 32) (b h e : Fin 8) (r : Fin 2048) (n : Fin 3)
    (k : Fin 256) (d : Fin 64) (h0 : idx (ix5 b h r n 0) = BitVec.ofNat 32 b.val) (h1 : idx (ix5 b h r n 1) = BitVec.ofNat 32 h.val)
    (h2 : idx (ix5 b h r n 2) = BitVec.ofNat 32 e.val) :
    Host.gather gather_S8x8x8x256x64_S8x8x2048x3x3_S8x8x2048x3x256x64_45_012_n_n_012_4_11125664 x idx (ix6 b h r n k d)
      = x (ix5 b h e k d) := by
  have hw : ∀ u : Fin 8, min (BitVec.ofNat 32 u.val).toInt.toNat 7 = u.val := by decide
  have hi : ∀ c : Fin 3, gather_S8x8x8x256x64_S8x8x2048x3x3_S8x8x2048x3x256x64_45_012_n_n_012_4_11125664.siIdx (ix6 b h r n k d) c
      = ix5 b h r n c := fun c => by
    funext a
    fin_cases a <;> rfl
  unfold Host.gather
  congr 1
  funext a
  fin_cases a
  · refine Fin.ext ((congrArg (fun z => min (BitVec.toInt (idx z)).toNat 7) (hi 0)).trans ?_)
    simp only [h0]; exact hw b
  · refine Fin.ext ((congrArg (fun z => min (BitVec.toInt (idx z)).toNat 7) (hi 1)).trans ?_)
    simp only [h1]; exact hw h
  · refine Fin.ext ((congrArg (fun z => min (BitVec.toInt (idx z)).toNat 7) (hi 2)).trans ?_)
    simp only [h2]; exact hw e
  · exact Fin.ext (Nat.zero_add _)
  · exact Fin.ext (Nat.zero_add _)

/-- The index triples that the reference gathers through. -/
abbrev triples (V : Vals) : IVec S8x8x2048x3x3 32 :=
  concatenate S8x8x2048x3x3 4 [⟨S8x8x2048x3x1, ((broadcastInDim S8x8x2048x3x1 ![0, 1, 2, 3] bcast_S8x8x2048x3_S8x8x2048x3x1_0_1_2_3 (broadcastInDim S8x8x2048x3 ![0, 1, 2, 3] bcast_S8x1x1x1_S8x8x2048x3_0_1_2_3 (select (cmpi .slt (res_main_v33 V) (broadcastInDim S8x1x1x1 ![] bcast_S_S8x1x1x1 (constantI S_ 32 0#32))) (addi (res_main_v33 V) (broadcastInDim S8x1x1x1 ![] bcast_S_S8x1x1x1 (constantI S_ 32 8#32))) (res_main_v33 V)))) : (⟨S8x8x2048x3x1, .i32⟩ : BufTy).Contents (Elt Ideal))⟩, ⟨S8x8x2048x3x1, ((broadcastInDim S8x8x2048x3x1 ![0, 1, 2, 3] bcast_S8x8x2048x3_S8x8x2048x3x1_0_1_2_3 (broadcastInDim S8x8x2048x3 ![0, 1, 2, 3] bcast_S1x8x1x1_S8x8x2048x3_0_1_2_3 (select (cmpi .slt (res_main_v35 V) (broadcastInDim S1x8x1x1 ![] bcast_S_S1x8x1x1 (constantI S_ 32 0#32))) (addi (res_main_v35 V) (broadcastInDim S1x8x1x1 ![] bcast_S_S1x8x1x1 (constantI S_ 32 8#32))) (res_main_v35 V)))) : (⟨S8x8x2048x3x1, .i32⟩ : BufTy).Contents (Elt Ideal))⟩, ⟨S8x8x2048x3x1, ((broadcastInDim S8x8x2048x3x1 ![0, 1, 2, 3] bcast_S8x8x2048x3_S8x8x2048x3x1_0_1_2_3 (select (cmpi .slt (res_main_indices V) (broadcastInDim S8x8x2048x3 ![] bcast_S_S8x8x2048x3 (constantI S_ 32 0#32))) (addi (res_main_indices V) (broadcastInDim S8x8x2048x3 ![] bcast_S_S8x8x2048x3 (constantI S_ 32 8#32))) (res_main_indices V))) : (⟨S8x8x2048x3x1, .i32⟩ : BufTy).Contents (Elt Ideal))⟩] concatenates_S8x8x2048x3x1_S8x8x2048x3x1_S8x8x2048x3x1_S8x8x2048x3x3_d4

/-- A small word is not negative, so it is not wrapped. -/
theorem unwrapped (u : Fin 8) :
    Scalar.select (IntOp.cmpi .slt (BitVec.ofNat 32 u.val) 0#32) (IntOp.addi (BitVec.ofNat 32 u.val) 8#32) (BitVec.ofNat 32 u.val)
      = BitVec.ofNat 32 u.val := by
  revert u; decide

theorem triples_batch (V : Vals) (b h : Fin 8) (r : Fin 2048) (n : Fin 3) :
    triples V (ix5 b h r n 0) = BitVec.ofNat 32 b.val := by
  pointwise [triples, res_main_v33]
  exact unwrapped b

theorem triples_head (V : Vals) (b h : Fin 8) (r : Fin 2048) (n : Fin 3) :
    triples V (ix5 b h r n 1) = BitVec.ofNat 32 h.val := by
  pointwise [triples, res_main_v35]
  exact unwrapped h

theorem triples_block (V : Vals) (b h : Fin 8) (r : Fin 2048) (n : Fin 3) :
    triples V (ix5 b h r n 2) = BitVec.ofNat 32 (sel V b h r n).val := by
  pointwise [triples]
  rw [indices_apply]
  exact unwrapped _

/-- A gather through the triples reads the selected block of the same batch row and head. -/
theorem selected_apply (V : Vals) (x : S8x8x8x256x64.Idx → EReal) (b h : Fin 8) (r : Fin 2048) (n : Fin 3) (k : Fin 256) (d : Fin 64) :
    Host.gather gather_S8x8x8x256x64_S8x8x2048x3x3_S8x8x2048x3x256x64_45_012_n_n_012_4_11125664 x (triples V) (ix6 b h r n k d)
      = x (ix5 b h (sel V b h r n) k d) :=
  gather_apply x (triples V) b h (sel V b h r n) r n k d (triples_batch V b h r n) (triples_head V b h r n) (triples_block V b h r n)

end Cert.MobaRefIdeal.Value

end
-- ==== Proof.Moba.Rows.lean ====
/-
  The attention reference's floating-point arrays read at an index.
-/
module

public import proofs.«01_k».proof.Proof.Moba.Indices

@[expose] public section

set_option maxRecDepth 16384

noncomputable section

namespace Cert.MobaRefIdeal.Value

open Cert.MobaRefIdeal Cert.MobaRefIdeal.Gen Idealize.ShloMosaic Idealize.ShloMosaic.TcCoe Idealize.SL.Sem
open Idealize.ShloMosaic.StableHlo

/-- The queries, keys and values by head and block, the factor of the scores, and the rows of masked scores, of their
    exponentials and of the probabilities. -/
abbrev queries (V : Vals) : S8x8x2048x64.Idx → EReal := res_main_v3 V
abbrev keys (V : Vals) : S8x8x8x256x64.Idx → EReal := res_main_v13 V
abbrev values (V : Vals) : S8x8x8x256x64.Idx → EReal := res_main_v14 V
abbrev logTwo (V : Vals) : S_.Idx → EReal := res_main_v12 V
abbrev row (V : Vals) : S8x8x2048x1024.Idx → EReal := res_main_v99 V
abbrev exps (V : Vals) : S8x8x2048x1024.Idx → EReal := res_main_v106 V
abbrev probs (V : Vals) : S8x8x2048x1024.Idx → EReal := res_main_v110 V

/-- The masked score of a query against a key of its own block. -/
theorem row_own (V : Vals) (b h : Fin 8) (r : Fin 2048) (k : Fin 256) :
    row V (ix4 b h r (⟨k.val, by omega⟩ : Fin 1024))
      = Scalar.select (IntOp.cmpi .sle (res_main_v37 V (ix2 (⟨r.val / 256, by omega⟩ : Fin 8) k))
          (res_main_v37 V (ix2 (⟨r.val / 256, by omega⟩ : Fin 8) (⟨r.val % 256, by omega⟩ : Fin 256))))
        ((∑ x, queries V (ix4 b h r x) * keys V (ix5 b h (⟨r.val / 256, by omega⟩ : Fin 8) k x)) * logTwo V ix0)
        (Ideal.ofBits .f32 4286578688#32) := by
  pointwise [res_main_v99]
  rfl

/-- The masked score of a query against a key of a selected block. -/
theorem row_sel (V : Vals) (b h : Fin 8) (r : Fin 2048) (n : Fin 3) (k : Fin 256) :
    row V (ix4 b h r (⟨256 + (256 * n.val + k.val), by omega⟩ : Fin 1024))
      = Scalar.select (IntOp.cmpi .slt (res_main_indices V (ix4 b h r n)) (res_main_v16 V (ix1 r)))
        ((∑ x, queries V (ix4 b h r x) * keys V (ix5 b h (sel V b h r n) k x)) * logTwo V ix0)
        (Ideal.ofBits .f32 4286578688#32) := by
  pointwise [res_main_v99]
  exact congrArg (fun z => Scalar.select (IntOp.cmpi .slt (res_main_indices V (ix4 b h r n)) (res_main_v16 V (ix1 r)))
    (z * logTwo V ix0) (Ideal.ofBits .f32 4286578688#32))
    (Finset.sum_congr rfl fun x _ => congrArg (queries V (ix4 b h r x) * ·) (selected_apply V (res_main_v13 V) b h r n k x))

/-- The maximum along the last axis, as a fold over that axis. -/
theorem rowMax_apply (x : S8x8x2048x1024.Idx → Ideal .f32) (init : S_.Idx → Ideal .f32) (b h : Fin 8) (r : Fin 2048) :
    Host.reduce FloatOps.maximumf x init reducesTo_S8x8x2048x1024_S8x8x2048_d3 h_S_ (ix3 b h r)
      = (Finset.univ : Finset (Fin 1024)).fold max (init ix0 : EReal) fun c => (x (ix4 b h r c) : EReal) := by
  have hr : S8x8x2048x1024.Reduces [3] S8x8x2048 := by decide
  have hl : ∀ k : Fin 1024, hr.lift (ix3 b h r) k = ix4 b h r k := fun k => by
    funext a; fin_cases a <;> rfl
  refine (Host.reduce_eq_fold_single _ x init _ hr h_S_ (ix3 b h r)).trans ?_
  have hx : (x ∘ hr.lift (ix3 b h r)) = fun c : Fin 1024 => x (ix4 b h r c) := funext fun k => congrArg x (hl k)
  rw [hx]
  exact congrArg (fun i => (Finset.univ : Finset (Fin 1024)).fold max (init i : EReal) fun c => (x (ix4 b h r c) : EReal)) (funext fun a => a.elim0)

/-- The exponential of an array less another laid along its last axis. -/
theorem exp_less (x : S8x8x2048x1024.Idx → Ideal .f32) (M : S8x8x2048.Idx → Ideal .f32) (w : BitVec 32) (b h : Fin 8) (r : Fin 2048)
    (c : Fin 1024) :
    Host.exp (φ := .f32) (subf x (broadcastInDim S8x8x2048x1024 ![0, 1, 2, 3] bcast_S8x8x2048x1_S8x8x2048x1024_0_1_2_3
        (broadcastInDim S8x8x2048x1 ![0, 1, 2] bcast_S8x8x2048_S8x8x2048x1_0_1_2
          (maximumf (broadcastInDim S8x8x2048 ![] bcast_S_S8x8x2048 (constant S_ .f32 w)) M)))) (ix4 b h r c)
      = Ideal.exp ((x (ix4 b h r c) : EReal) - max (Ideal.ofBits .f32 w) (M (ix3 b h r))) := by
  pointwise

/-- The exponential of a score less its row's maximum. -/
theorem exps_apply (V : Vals) (b h : Fin 8) (r : Fin 2048) (c : Fin 1024) :
    exps V (ix4 b h r c)
      = Ideal.exp (row V (ix4 b h r c) - max (Ideal.ofBits .f32 4286578688#32)
          ((Finset.univ : Finset (Fin 1024)).fold max (Ideal.ofBits .f32 4286578688#32) fun c => row V (ix4 b h r c))) := by
  unfold exps res_main_v106
  refine (exp_less (row V) _ _ b h r c).trans ?_
  exact congrArg (fun z => Ideal.exp (row V (ix4 b h r c) - max (Ideal.ofBits .f32 4286578688#32) z))
    (rowMax_apply (row V) (constant S_ .f32 4286578688#32) b h r)

theorem probs_apply (V : Vals) (b h : Fin 8) (r : Fin 2048) (c : Fin 1024) :
    probs V (ix4 b h r c) = Ideal.div (exps V (ix4 b h r c)) (∑ x, exps V (ix4 b h r x)) := by
  pointwise [res_main_v110]

theorem scores_apply (V : Vals) (b h : Fin 8) (r : Fin 2048) (j : Fin 8) :
    scores V b h r j = Scalar.select (IntOp.cmpi .slt (BitVec.ofNat 32 j.val) (res_main_v16 V (ix1 r)))
      (∑ x, queries V (ix4 b h r x) * Ideal.div (∑ k, keys V (ix5 b h j k x)) (Ideal.ofBits .f32 1132462080#32))
      (Ideal.ofBits .f32 4286578688#32) := by
  unfold scores
  pointwise [res_main_v28]
  rfl

/-- The reference's first result. -/
abbrev outs (V : Vals) : S16384x512.Idx → EReal := val3 V (Proc.devRef .tc main_v121)

end Cert.MobaRefIdeal.Value

end
-- ==== Proof.Moba.Merge.lean ====
/-
  The attention reference's first result read at an index.
-/
module

public import proofs.«01_k».proof.Proof.Moba.Rows

@[expose] public section

set_option maxRecDepth 16384

noncomputable section

namespace Cert.MobaRefIdeal.Value

open Cert.MobaRefIdeal Cert.MobaRefIdeal.Gen Idealize.ShloMosaic Idealize.ShloMosaic.TcCoe Idealize.SL.Sem
open Idealize.ShloMosaic.StableHlo

/-- The product of the own block's probabilities with its values. -/
theorem own_dot (p : S8x8x2048x1024.Idx → Ideal .f32) (v : S8x8x8x256x64.Idx → Ideal .f32) (b h : Fin 8) (r : Fin 2048) (d : Fin 64) :
    shapeCast S8x8x2048x64 (Host.dotGeneral dot_S8x8x8x256x256_S8x8x8x256x64_S8x8x8x256x64_4_3_3_4_012_012 none
        (shapeCast S8x8x8x256x256 (extractStridedSlice S8x8x2048x256 ![0, 0, 0, 0] p slices_S8x8x2048x1024_S8x8x2048x256_0_0_0_0)
          shapeCasts_S8x8x2048x256_S8x8x8x256x256) v) shapeCasts_S8x8x8x256x64_S8x8x2048x64 (ix4 b h r d)
      = ∑ k : Fin 256, (p (ix4 b h r (⟨k.val, by omega⟩ : Fin 1024)) : EReal) * v (ix5 b h (⟨r.val / 256, by omega⟩ : Fin 8) k d) := by
  pointwise

/-- The product of the selected blocks' probabilities with their values. -/
theorem sel_dot (p : S8x8x2048x1024.Idx → Ideal .f32) (g : S8x8x2048x3x256x64.Idx → Ideal .f32) (b h : Fin 8) (r : Fin 2048) (d : Fin 64) :
    Host.dotGeneral dot_S8x8x2048x3x256_S8x8x2048x3x256x64_S8x8x2048x64_43_43_n_5_012_012 none
        (shapeCast S8x8x2048x3x256 (extractStridedSlice S8x8x2048x768 ![0, 0, 0, 256] p slices_S8x8x2048x1024_S8x8x2048x768_0_0_0_256)
          shapeCasts_S8x8x2048x768_S8x8x2048x3x256) g (ix4 b h r d)
      = ∑ k : Fin 256, ∑ n : Fin 3, (p (ix4 b h r (⟨256 + (n.val * 256 + k.val), by omega⟩ : Fin 1024)) : EReal) * g (ix6 b h r n k d) := by
  pointwise

/-- The heads side by side. -/
theorem merge_apply (x : S8x8x2048x64.Idx → Ideal .f32) (b h : Fin 8) (r : Fin 2048) (d : Fin 64) :
    truncf .bf16 (shapeCast S16384x512 (transpose S8x2048x8x64 [0, 2, 1, 3] x transposes_S8x8x2048x64_S8x2048x8x64_0_2_1_3)
        shapeCasts_S8x2048x8x64_S16384x512) bitsLt_bf16_f32
        (ix2 (⟨2048 * b.val + r.val, by omega⟩ : Fin 16384) (⟨64 * h.val + d.val, by omega⟩ : Fin 512))
      = x (ix4 b h r d) := by
  pointwise

theorem addf_read (x y : S8x8x2048x64.Idx → Ideal .f32) (i : S8x8x2048x64.Idx) (u w : EReal) (hx : x i = u) (hy : y i = w) :
    addf x y i = (u + w : EReal) := by
  subst hx hy; rfl

/-- The product of the selected blocks' probabilities with the gathered values. -/
theorem sel_values (p : S8x8x2048x1024.Idx → Ideal .f32) (V : Vals) (b h : Fin 8) (r : Fin 2048) (d : Fin 64) :
    (∑ k : Fin 256, ∑ n : Fin 3, (p (ix4 b h r (⟨256 + (n.val * 256 + k.val), by omega⟩ : Fin 1024)) : EReal)
        * Host.gather gather_S8x8x8x256x64_S8x8x2048x3x3_S8x8x2048x3x256x64_45_012_n_n_012_4_11125664 (values V) (triples V) (ix6 b h r n k d))
      = ∑ k : Fin 256, ∑ n : Fin 3, (p (ix4 b h r (⟨256 + (256 * n.val + k.val), by omega⟩ : Fin 1024)) : EReal)
          * values V (ix5 b h (sel V b h r n) k d) := by
  refine Finset.sum_congr rfl fun k _ => Finset.sum_congr rfl fun n _ => ?_
  have e : (⟨256 + (n.val * 256 + k.val), by omega⟩ : Fin 1024) = ⟨256 + (256 * n.val + k.val), by omega⟩ := Fin.ext (by simp only; omega)
  rw [selected_apply V (values V) b h r n k d, e]

/-- The heads' outputs: the probabilities times the values of the own block, and of the selected blocks. -/
theorem out_apply (V : Vals) (b h : Fin 8) (r : Fin 2048) (d : Fin 64) :
    outs V (ix2 (⟨2048 * b.val + r.val, by omega⟩ : Fin 16384) (⟨64 * h.val + d.val, by omega⟩ : Fin 512))
      = (∑ k : Fin 256, probs V (ix4 b h r (⟨k.val, by omega⟩ : Fin 1024)) * values V (ix5 b h (⟨r.val / 256, by omega⟩ : Fin 8) k d))
        + ∑ k : Fin 256, ∑ n : Fin 3, probs V (ix4 b h r (⟨256 + (256 * n.val + k.val), by omega⟩ : Fin 1024))
            * values V (ix5 b h (sel V b h r n) k d) := by
  refine (congrFun (val3_main_v121 V) _).trans ?_
  refine (merge_apply _ b h r d).trans ?_
  refine addf_read _ _ _ _ _ ?_ ?_
  · exact own_dot (res_main_v110 V) (res_main_v14 V) b h r d
  · refine (sel_dot (res_main_v110 V) _ b h r d).trans ?_
    exact sel_values (probs V) V b h r d

end Cert.MobaRefIdeal.Value

end
-- ==== Proof.Moba.Attend.lean ====
/-
  The softmax over a query's own block and its selected blocks, laid side by side, is the attention over all positions.
-/
module

public import proofs.«01_k».proof.Proof.Moba.Merge

@[expose] public section

noncomputable section

namespace Cert.Attn

open Idealize.ShloMosaic

/-- The maximum of a row with no `+∞` and something above `−∞` is a real. -/
theorem row_max {n : Nat} (x : Fin n → EReal) (h1 : ∀ c, x c ≠ ⊤) (c0 : Fin n) (h2 : x c0 ≠ ⊥) :
    ∃ M : ℝ, max (⊥ : EReal) (Finset.univ.fold max ⊥ x) = (M : EReal) := by
  have hs : Finset.univ.fold max (⊥ : EReal) x = Finset.univ.sup x := rfl
  rw [hs, max_eq_right bot_le]
  refine real_of_bounds (ne_of_lt ((Finset.sup_lt_iff bot_lt_top).mpr fun c _ => lt_top_iff_ne_top.mpr (h1 c))) ?_
  exact ne_of_gt (lt_of_lt_of_le (bot_lt_iff_ne_bot.mpr h2) (Finset.le_sup (f := x) (Finset.mem_univ c0)))

/-- A sum over 1024 as the first 256 and three blocks of 256. -/
theorem sum_four {M : Type} [AddCommMonoid M] (f : Fin 1024 → M) :
    (∑ c, f c) = (∑ k : Fin 256, f ⟨k.val, by omega⟩) + ∑ n : Fin 3, ∑ k : Fin 256, f ⟨256 + (256 * n.val + k.val), by omega⟩ := by
  rw [Fin.sum_univ_add (a := 256) (b := 768) f]
  congr 1
  rw [← Finset.sum_product' (f := fun (n : Fin 3) (k : Fin 256) => f ⟨256 + (256 * n.val + k.val), by omega⟩),
    Finset.univ_product_univ]
  refine (Fintype.sum_equiv (finProdFinEquiv (m := 3) (n := 256)) _ _ fun p => ?_).symm
  congr 1
  ext
  simp [finProdFinEquiv]
  omega

/-- A query's own block. -/
def own (r : Fin 2048) : Fin 8 := ⟨r.val / 256, by omega⟩

/-- The entries of a row of logits that belong to the query's own block. -/
def OwnRow (q k : Fin 2048 → Fin 64 → ℝ) (r : Fin 2048) (x : Fin 1024 → EReal) : Prop :=
  ∀ c : Fin 256, x ⟨c.val, by omega⟩ = if 256 * (r.val / 256) + c.val ≤ r.val
    then (score q k r ⟨256 * (r.val / 256) + c.val, by omega⟩ : EReal) * ((Real.log 2 : ℝ) : EReal) else ⊥

/-- The entries of a row of logits that belong to the selected blocks. -/
def SelRow (q k : Fin 2048 → Fin 64 → ℝ) (r : Fin 2048) (e : Fin 3 → Fin 8) (x : Fin 1024 → EReal) : Prop :=
  ∀ (n : Fin 3) (c : Fin 256), x ⟨256 + (256 * n.val + c.val), by omega⟩ = if e n < own r
    then (score q k r ⟨256 * (e n).val + c.val, by omega⟩ : EReal) * ((Real.log 2 : ℝ) : EReal) else ⊥

/-- The ranks' order of the gates, three of which are taken. -/
def TopThree (gm : Fin 8 → EReal) (e : Fin 3 → Fin 8) : Prop :=
  ∀ n, e n = sortedFrom (fun i j => decide (gm j < gm i)) (Fin.castLE (by decide : 3 ≤ 8) n)

section Row

variable (q k : Fin 2048 → Fin 64 → ℝ) (r : Fin 2048) (gm : Fin 8 → EReal)
  (hg : ∀ j : Fin 8, gm j = if j.val < r.val / 256 then (gate q k r j : EReal) else ⊥)
  (e : Fin 3 → Fin 8)
  (he : TopThree gm e)

include hg he in
/-- A past block of rank below three is one of the three selected. -/
theorem selected_iff (j : Fin 8) (hj : j < own r) : (∃ n, e n = j) ↔ rank q k r j < 3 := by
  rw [← rank_masked q k r gm hg j hj, ← exists_sortedFrom_iff gm 3 j]
  constructor
  · rintro ⟨n, rfl⟩
    exact ⟨Fin.castLE (by decide) n, n.isLt, (he n).symm⟩
  · rintro ⟨i, hi, h⟩
    exact ⟨⟨i.val, hi⟩, (he _).trans h⟩

theorem weight_own (c : Fin 256) :
    weight q k r ⟨256 * (r.val / 256) + c.val, by omega⟩
      = if 256 * (r.val / 256) + c.val ≤ r.val then (2 : ℝ) ^ score q k r ⟨256 * (r.val / 256) + c.val, by omega⟩ else 0 := by
  have hs : Sees q k r ⟨256 * (r.val / 256) + c.val, by omega⟩ ↔ 256 * (r.val / 256) + c.val ≤ r.val := by
    constructor
    · rintro (⟨_, h'⟩ | ⟨h', _⟩)
      · exact h'
      · simp only at h'; omega
    · exact fun h => Or.inl ⟨by simp only; omega, h⟩
  by_cases h : 256 * (r.val / 256) + c.val ≤ r.val
  · rw [if_pos h, weight, if_pos (hs.mpr h)]
  · rw [if_neg h, weight, if_neg (fun s => h (hs.mp s))]

include hg he in
theorem weight_sel (n : Fin 3) (h : e n < own r) (c : Fin 256) :
    weight q k r ⟨256 * (e n).val + c.val, by omega⟩ = (2 : ℝ) ^ score q k r ⟨256 * (e n).val + c.val, by omega⟩ := by
  have hd : (256 * (e n).val + c.val) / 256 = (e n).val := by omega
  rw [weight, if_pos]
  refine Or.inr ⟨by simp only [hd]; exact h, ?_⟩
  simp only [hd]
  exact (selected_iff q k r gm hg e he (e n) h).mp ⟨n, rfl⟩

include hg he in
theorem weight_unselected (j : Fin 8) (h1 : j ≠ own r) (h2 : ¬ ∃ n, e n = j ∧ j < own r) (c : Fin 256) :
    weight q k r ⟨256 * j.val + c.val, by omega⟩ = 0 := by
  have hd : (256 * j.val + c.val) / 256 = j.val := by omega
  have hne : j.val ≠ r.val / 256 := fun h => h1 (Fin.ext h)
  rw [weight, if_neg]
  rintro (⟨h, _⟩ | ⟨h, hr⟩)
  · simp only [hd] at h; exact hne h
  · simp only [hd] at h hr
    obtain ⟨n, hn⟩ := (selected_iff q k r gm hg e he j h).mpr hr
    exact h2 ⟨n, hn, h⟩

variable (x : Fin 1024 → EReal) (hown : OwnRow q k r x) (hsel : SelRow q k r e x)

include hown in
theorem exp_own (M : ℝ) (c : Fin 256) : Ideal.exp (x ⟨c.val, by omega⟩ - (M : EReal))
    = ((Real.exp (-M) * weight q k r ⟨256 * (r.val / 256) + c.val, by omega⟩ : ℝ) : EReal) := by
  rw [hown, exp_masked, weight_own]

include hg he hsel in
theorem exp_sel (M : ℝ) (n : Fin 3) (c : Fin 256) : Ideal.exp (x ⟨256 + (256 * n.val + c.val), by omega⟩ - (M : EReal))
    = ((Real.exp (-M) * (if e n < own r then weight q k r ⟨256 * (e n).val + c.val, by omega⟩ else 0) : ℝ) : EReal) := by
  rw [hsel, exp_masked]
  by_cases h : e n < own r
  · rw [if_pos h, if_pos h, weight_sel q k r gm hg e he n h]
  · rw [if_neg h, if_neg h]

include hg he in
/-- The sum over all positions of something that vanishes with the weight, as the own block's and the selected blocks'. -/
theorem sum_seen {M : Type} [AddCommMonoid M] (f : Fin 2048 → M) (hf : ∀ t, weight q k r t = 0 → f t = 0) :
    (∑ t, f t) = (∑ c : Fin 256, f ⟨256 * (r.val / 256) + c.val, by omega⟩)
      + ∑ n : Fin 3, if e n < own r then ∑ c : Fin 256, f ⟨256 * (e n).val + c.val, by omega⟩ else 0 := by
  have hinj : Function.Injective e := fun a b hab => by
    rw [he, he] at hab
    exact Fin.castLE_injective _ (sortedFrom_injective _ hab)
  rw [sum_blocks f, sum_selected (fun j : Fin 8 => ∑ c : Fin 256, f ⟨256 * j.val + c.val, by omega⟩) (own r) e hinj]
  · rfl
  · intro j h1 h2
    exact Finset.sum_eq_zero fun c _ => hf _ (weight_unselected q k r gm hg e he j h1 h2 c)

include hg he hown hsel in
theorem exp_total (M : ℝ) : (∑ c, Ideal.exp (x c - (M : EReal))) = ((Real.exp (-M) * ∑ t, weight q k r t : ℝ) : EReal) := by
  rw [sum_four, Finset.sum_congr rfl fun c _ => exp_own q k r x hown M c,
    Finset.sum_congr rfl fun n _ => Finset.sum_congr rfl fun c _ => exp_sel q k r gm hg e he x hsel M n c]
  rw [← coe_sum, Finset.sum_congr rfl fun n _ => (coe_sum _ _).symm, ← coe_sum, ← EReal.coe_add, EReal.coe_eq_coe_iff,
    sum_seen q k r gm hg e he (weight q k r) (fun _ h => h), mul_add, Finset.mul_sum, Finset.mul_sum]
  congr 1
  refine Finset.sum_congr rfl fun n _ => ?_
  by_cases h : e n < own r
  · simp only [if_pos h, Finset.mul_sum]
  · simp only [if_neg h, mul_zero, Finset.sum_const_zero]

include hg he hown hsel in
/-- The softmax of the row times the values laid out alike is the head's output. -/
theorem softmax_row (v : Fin 2048 → EReal) (p : Fin 1024 → EReal)
    (hp : ∀ c, p c = Ideal.div (Ideal.exp (x c - max (⊥ : EReal) (Finset.univ.fold max ⊥ x)))
      (∑ c, Ideal.exp (x c - max (⊥ : EReal) (Finset.univ.fold max ⊥ x)))) :
    (∑ c : Fin 256, p ⟨c.val, by omega⟩ * v ⟨256 * (r.val / 256) + c.val, by omega⟩)
        + (∑ c : Fin 256, ∑ n : Fin 3, p ⟨256 + (256 * n.val + c.val), by omega⟩ * v ⟨256 * (e n).val + c.val, by omega⟩)
      = head q k v r := by
  have hreal : ∀ c, x c ≠ ⊤ := fun c => by
    by_cases hc : c.val < 256
    · have := hown ⟨c.val, hc⟩
      rw [show x c = x ⟨(⟨c.val, hc⟩ : Fin 256).val, by omega⟩ from rfl, this]
      split
      · rw [← EReal.coe_mul]; exact EReal.coe_ne_top _
      · exact bot_ne_top
    · have := hsel ⟨(c.val - 256) / 256, by omega⟩ ⟨(c.val - 256) % 256, by omega⟩
      rw [show x c = x ⟨256 + (256 * ((c.val - 256) / 256) + (c.val - 256) % 256), by omega⟩ from
        congrArg x (Fin.ext (by simp only; omega)), this]
      split
      · rw [← EReal.coe_mul]; exact EReal.coe_ne_top _
      · exact bot_ne_top
  have hdiag : x ⟨r.val % 256, by omega⟩ ≠ ⊥ := by
    rw [hown ⟨r.val % 256, by omega⟩, if_pos (by simp only; omega), ← EReal.coe_mul]
    exact EReal.coe_ne_bot _
  obtain ⟨M, hM⟩ := row_max x hreal ⟨r.val % 256, by omega⟩ hdiag
  have hW := weight_sum_pos q k r
  have hcW : Real.exp (-M) * ∑ t, weight q k r t ≠ 0 := (mul_pos (Real.exp_pos _) hW).ne'
  have hpc : ∀ (c : Fin 1024) (y : ℝ), Ideal.exp (x c - (M : EReal)) = ((Real.exp (-M) * y : ℝ) : EReal) →
      p c = ((Real.exp (-M) * y / (Real.exp (-M) * ∑ t, weight q k r t) : ℝ) : EReal) := fun c y hy => by
    rw [hp, hM, hy, exp_total q k r gm hg e he x hown hsel M, div_real _ hcW, ← EReal.coe_mul, div_eq_mul_inv]
  rw [head, ← attend_normalised (weight q k r) v (Real.exp (-M)) (Real.exp_pos _) (weight_nonneg q k r) hW,
    sum_seen q k r gm hg e he _ (fun t h => by rw [h, mul_zero, zero_div, EReal.coe_zero, zero_mul])]
  congr 1
  · exact Finset.sum_congr rfl fun c _ => by rw [hpc _ _ (exp_own q k r x hown M c)]
  · rw [Finset.sum_comm]
    refine Finset.sum_congr rfl fun n _ => ?_
    rw [Finset.sum_congr rfl fun c _ => congrArg (· * _) (hpc _ _ (exp_sel q k r gm hg e he x hsel M n c))]
    by_cases h : e n < own r
    · simp only [if_pos h]
    · simp only [if_neg h, mul_zero, zero_div, EReal.coe_zero, zero_mul, Finset.sum_const_zero]

end Row

end Cert.Attn

end
-- ==== Proof.Moba.Reference.lean ====
/-
  The attention reference's two results: the first is the heads' outputs, the second its argument.
-/
module

public import proofs.«01_k».proof.Proof.Moba.Attend

@[expose] public section

set_option maxRecDepth 16384

noncomputable section

namespace Cert.MobaRefIdeal.Value

open Cert.MobaRefIdeal Cert.MobaRefIdeal.Gen Cert.Attn Idealize.ShloMosaic Idealize.ShloMosaic.TcCoe Idealize.SL.Sem
open Idealize.ShloMosaic.StableHlo

/-- One head's real queries and keys, and a column of its values. -/
def headQ (A : S16384x3584.Idx → EReal) (b h : Fin 8) (r : Fin 2048) (d : Fin 64) : ℝ :=
  (A (ix2 (⟨2048 * b.val + r.val, by omega⟩ : Fin 16384) (⟨64 * h.val + d.val, by omega⟩ : Fin 3584))).toReal
def headK (A : S16384x3584.Idx → EReal) (b h : Fin 8) (r : Fin 2048) (d : Fin 64) : ℝ :=
  (A (ix2 (⟨2048 * b.val + r.val, by omega⟩ : Fin 16384) (⟨512 + (64 * h.val + d.val), by omega⟩ : Fin 3584))).toReal
def headV (A : S16384x3584.Idx → EReal) (b h : Fin 8) (d : Fin 64) (t : Fin 2048) : EReal :=
  A (ix2 (⟨2048 * b.val + t.val, by omega⟩ : Fin 16384) (⟨1024 + (64 * h.val + d.val), by omega⟩ : Fin 3584))

section

variable (V : Vals) (hA : RealQK (argA V)) (b h : Fin 8)

include hA in
theorem queries_real (r : Fin 2048) (d : Fin 64) : queries V (ix4 b h r d) = (headQ (argA V) b h r d : EReal) :=
  (q_apply V b h r d).trans (hA ⟨2048 * b.val + r.val, by omega⟩ ⟨64 * h.val + d.val, by omega⟩)

include hA in
theorem keys_real (j : Fin 8) (k : Fin 256) (d : Fin 64) :
    keys V (ix5 b h j k d) = (headK (argA V) b h ⟨256 * j.val + k.val, by omega⟩ d : EReal) :=
  (k_apply V b h j k d).trans (hA ⟨2048 * b.val + (256 * j.val + k.val), by omega⟩ ⟨512 + (64 * h.val + d.val), by omega⟩)

theorem logTwo_real : logTwo V ix0 = ((Real.log 2 : ℝ) : EReal) := by
  have h2 : (Ideal.ofBits .f32 0x40000000#32 : EReal) = ((2 : ℝ) : EReal) := by
    simp [Ideal.ofBits, Ideal.ieee, -EReal.coe_mul]; norm_num
  have e : logTwo V ix0 = Ideal.log (Ideal.ofBits .f32 0x40000000#32) := by
    pointwise [res_main_v12]
  rw [e, h2, Ideal.log_coe, if_neg (by norm_num)]

theorem mask_bot : (Ideal.ofBits .f32 4286578688#32 : EReal) = ⊥ := by
  simp [Ideal.ofBits, Ideal.ieee]

theorem blockLen : (Ideal.ofBits .f32 1132462080#32 : EReal) = ((256 : ℝ) : EReal) := by
  simp [Ideal.ofBits, Ideal.ieee, -EReal.coe_mul]; norm_num

include hA in
theorem score_real (r : Fin 2048) (j : Fin 8) (k : Fin 256) :
    (∑ x, queries V (ix4 b h r x) * keys V (ix5 b h j k x))
      = (score (headQ (argA V) b h) (headK (argA V) b h) r ⟨256 * j.val + k.val, by omega⟩ : EReal) := by
  rw [score, coe_sum]
  exact Finset.sum_congr rfl fun x _ => by rw [queries_real V hA, keys_real V hA, EReal.coe_mul]

include hA in
theorem scores_real (r : Fin 2048) (j : Fin 8) :
    scores V b h r j = if j.val < r.val / 256 then (gate (headQ (argA V) b h) (headK (argA V) b h) r j : EReal) else ⊥ := by
  rw [scores_apply, block_apply, select_of (P := j.val < r.val / 256) (lt_ofNat_iff (by omega) (by omega)), mask_bot]
  congr 1
  rw [gate, coe_sum]
  refine Finset.sum_congr rfl fun x _ => ?_
  rw [queries_real V hA, blockLen, Finset.sum_congr rfl fun k _ => keys_real V hA b h j k x, ← coe_sum,
    div_real _ (by norm_num), ← EReal.coe_mul, ← EReal.coe_mul, div_eq_mul_inv]

include hA in
theorem row_own_real (r : Fin 2048) (c : Fin 256) :
    row V (ix4 b h r (⟨c.val, by omega⟩ : Fin 1024)) = if 256 * (r.val / 256) + c.val ≤ r.val
      then (score (headQ (argA V) b h) (headK (argA V) b h) r ⟨256 * (r.val / 256) + c.val, by omega⟩ : EReal)
        * ((Real.log 2 : ℝ) : EReal) else ⊥ := by
  rw [row_own, pos_apply, pos_apply, select_of (P := 256 * (r.val / 256) + c.val ≤ r.val)
    ((le_ofNat_iff (by simp only; omega) (by simp only; omega)).trans (by simp only; omega)), mask_bot, score_real V hA, logTwo_real]

include hA in
theorem row_sel_real (r : Fin 2048) (n : Fin 3) (c : Fin 256) :
    row V (ix4 b h r (⟨256 + (256 * n.val + c.val), by omega⟩ : Fin 1024)) = if sel V b h r n < own r
      then (score (headQ (argA V) b h) (headK (argA V) b h) r ⟨256 * (sel V b h r n).val + c.val, by omega⟩ : EReal)
        * ((Real.log 2 : ℝ) : EReal) else ⊥ := by
  rw [row_sel, indices_apply, block_apply, select_of (P := sel V b h r n < own r)
    ((lt_ofNat_iff (b := r.val / 256) (by omega) (by omega)).trans Iff.rfl), mask_bot, score_real V hA, logTwo_real]

include hA in
/-- One entry of the reference's first result. -/
theorem out_entry (r : Fin 2048) (d : Fin 64) :
    outs V (ix2 (⟨2048 * b.val + r.val, by omega⟩ : Fin 16384) (⟨64 * h.val + d.val, by omega⟩ : Fin 512))
      = attn (argA V) b h d r := by
  rw [out_apply]
  refine Eq.trans ?_ (softmax_row (headQ (argA V) b h) (headK (argA V) b h) r (scores V b h r) (scores_real V hA b h r)
    (sel V b h r) (fun _ => rfl) (fun c => row V (ix4 b h r c)) (row_own_real V hA b h r) (row_sel_real V hA b h r)
    (headV (argA V) b h d) (fun c => probs V (ix4 b h r c)) ?_)
  · exact congrArg₂ (· + ·) (Finset.sum_congr rfl fun k _ => congrArg _ (v_apply V b h _ k d))
      (Finset.sum_congr rfl fun k _ => Finset.sum_congr rfl fun n _ => congrArg _ (v_apply V b h _ k d))
  · intro c
    rw [probs_apply]
    simp only [exps_apply, mask_bot]

include hA in
/-- The reference's first result. -/
theorem result0 : outs V = attnAll (argA V) := by
  funext i
  obtain ⟨R, C, rfl⟩ : ∃ (R : Fin 16384) (C : Fin 512), i = ix2 R C :=
    ⟨i 0, i 1, by funext a; match a with | 0 => rfl | 1 => rfl⟩
  have eR : R = ⟨2048 * (R.val / 2048) + R.val % 2048, by omega⟩ := Fin.ext (by simp only; omega)
  have eC : C = ⟨64 * (C.val / 64) + C.val % 64, by omega⟩ := Fin.ext (by simp only; omega)
  refine (congrArg₂ (fun R C => outs V (ix2 R C)) eR eC).trans ?_
  exact out_entry V hA ⟨R.val / 2048, by omega⟩ ⟨C.val / 64, by omega⟩ ⟨R.val % 2048, by omega⟩ ⟨C.val % 64, by omega⟩

/-- The reference's second result is its argument. -/
theorem result1 : (val3 V (Proc.devRef .tc main_v122) : S8192x2816.Idx → EReal) = V (Proc.devRef .tc main_arg1) := by
  rw [val3_main_v122]
  rfl

end

end Cert.MobaRefIdeal.Value

end
-- ==== Proof.Moba.Claims.lean ====
/-
  The block-sparse attention: the three frames, the named mask, and the equality with the reference.
-/
module

public import proofs.«01_k».proof.Defs
public import proofs.«01_k».proof.Proof.Moba.Reference
public import proofs.«01_k».proof.Proof.Gen.Moba.Frame
public import proofs.«01_k».proof.Proof.Gen.MobaIdeal.Frame
public import proofs.«01_k».proof.Proof.Gen.MobaIdeal.Value
public import proofs.«01_k».proof.Proof.Gen.MobaRefIdeal.Run
public import proofs.«01_k».proof.Proof.Gen.Pre_finite
public import Idealize.ShloMosaic.Lib.Quiescent

@[expose] public section

set_option maxRecDepth 16384

noncomputable section

namespace Cert.Proof.Attention

open Cert.Attn Idealize.ShloMosaic Idealize.ShloMosaic.TcCoe Idealize.SL.Sem

theorem frame_kernel : Cert.quiescent_Moba := fun m ρ _ => Cert.Moba.Gen.frame m ρ
theorem frame_ideal : Cert.quiescent_MobaIdeal := fun m ρ _ => Cert.MobaIdeal.Gen.frame m ρ
theorem frame_ideal_finite : Cert.quiescent_MobaIdeal_pre_finite := fun m ρ _ => Cert.MobaIdeal.Gen.frame m ρ
theorem frame_reference : Cert.quiescent_MobaRefIdeal := fun m ρ _ =>
  (θ_run Cert.MobaRefIdeal.defs _ _).mono (fun r h => ⟨fun c => (h c).2.2, sem_eq_zero_of_no_sems (by decide) r.2⟩)
    (Cert.MobaRefIdeal.Value.run (F := Ideal) m ρ)
theorem frame_reference_finite : Cert.quiescent_MobaRefIdeal_pre_finite := fun m ρ _ => frame_reference m ρ trivial

/-- The mask's word is named, and its name stands for `−∞`. -/
theorem preserves : Cert.preserves_Moba_MobaIdeal :=
  IdealRules.named_const.statement Cert.MobaIdeal.κ "mask" .f32 0xF149F2CA#32 ⊥ rfl

/-- A number whose absolute value is below `+∞` is real. -/
theorem real_of_abs (a : EReal)
    (h : BitVec.ofBool (decide ((FloatOps.absf (F := Ideal) (φ := .f32) a : EReal) < Ideal.ofBits .f32 0x7F800000#32)) = 1#1) :
    a = (a.toReal : EReal) := by
  have ht : Ideal.ofBits .f32 0x7F800000#32 = (⊤ : EReal) := by simp [Ideal.ofBits, Ideal.ieee]
  rw [ht, ofBool_decide_iff, Ideal.absf_def] at h
  induction a using EReal.rec with
  | bot => exact absurd h (by simp)
  | top => exact absurd h (by simp)
  | coe x => rfl

theorem real_of_pre (A : Cert.Pre_finite.S16384x3584.Idx → EReal) (B : Cert.Pre_finite.S8192x2816.Idx → EReal)
    (h : Cert.Pre_finite.fn (F := Ideal) A B = fun _ => 1#1) : RealQK A := by
  intro r c
  have hr : (FloatOps.absf (F := Ideal) (φ := .f32) (A (ix2 r (⟨c.val, by omega⟩ : Fin 3584))) : EReal) < Ideal.ofBits .f32 0x7F800000#32 → _ :=
    fun h' => real_of_abs _ (ofBool_decide_iff.mpr h')
  refine hr (ofBool_decide_iff.mp (Eq.trans ?_ (congrFun h (ix2 r c))))
  pointwise [Cert.Pre_finite.fn]

theorem algebraic : Cert.algebraic_MobaIdeal_MobaRefIdeal_pre_finite := by
  intro m ρ m' ρ' hpre hagree
  have hA : ∀ c, RealQK (Cert.MobaIdeal.Gen.V m c Cert.MobaIdeal.main_arg0) := fun c => by
    rw [Cert.MobaIdeal.Gen.V_main_arg0]
    exact real_of_pre _ _ (hpre c)
  refine ⟨_, _, Cert.MobaIdeal.Value.run_blocks (F := Ideal) m ρ, ?_⟩
  refine (θ_run Cert.MobaRefIdeal.defs _ _).mono (fun _ h c => ⟨(h c).1.trans ?_, (h c).2.1.trans ?_, (h c).2.2⟩)
    (Cert.MobaRefIdeal.Value.run (F := Ideal) m' ρ')
  · have e := (hagree c).1
    have h0 : Cert.MobaRefIdeal.Value.argA (StableHlo.launchContents m' c) = Cert.MobaIdeal.Gen.V m c Cert.MobaIdeal.main_arg0 :=
      e.trans (Cert.MobaIdeal.Gen.V_main_arg0 m c).symm
    refine ((Cert.MobaRefIdeal.Value.val3_main_v121 _).symm.trans (Cert.MobaRefIdeal.Value.result0 _ (h0 ▸ hA c))).trans ?_
    rw [h0]
    exact (Cert.MobaIdeal.Terms.result0 m c (hA c)).symm
  · refine Eq.trans ?_ (Cert.MobaIdeal.Terms.result1 m c).symm
    rw [Cert.MobaIdeal.Gen.V_main_arg1]
    exact (hagree c).2

end Cert.Proof.Attention

end
-- ==== Proof.Ffn.Terms.lean ====
/-
  The feed-forward layer's mathematics, one row at a time: the output projection of the two mixers' outputs with its gated
  residual, and the gated feed-forward network with its own. Then the kernel's values over one block of rows, read as these.
-/
module

public import proofs.«01_k».proof.Proof.Gen.FfnIdeal.Value
public import proofs.«01_k».proof.Proof.Moba.Claims
public import Idealize.ShloMosaic.Lib.Pipeline.ValueKit

@[expose] public section

set_option maxRecDepth 16384

noncomputable section

namespace Cert.Feed

open Idealize.ShloMosaic

/-- A row divided by its root mean square (`N` is the row's length, as the programs write it), times a gain. -/
def rms {n : Nat} (N : EReal) (g x : Fin n → EReal) (k : Fin n) : EReal :=
  x k * Ideal.rsqrt (Ideal.div (∑ j, x j * x j) N + Ideal.ofBits .f32 0x358637BD#32) * g k

/-- The two mixers' outputs, the first normalised, through the output projection. -/
def mix (a b ag : Fin 512 → EReal) (w : Fin 1024 → Fin 1024 → EReal) (c : Fin 1024) : EReal :=
  (∑ k : Fin 512, rms (Ideal.ofBits .f32 0x44000000#32) ag a k * w ⟨k.val, by omega⟩ c)
    + ∑ k : Fin 512, b k * w ⟨512 + k.val, by omega⟩ c

/-- A row plus a gated row. -/
def gate (m x y : Fin 1024 → EReal) (c : Fin 1024) : EReal := x c + m c * y c

/-- A row normalised, scaled and shifted. -/
def modulate (sh sc g z : Fin 1024 → EReal) (c : Fin 1024) : EReal :=
  rms (Ideal.ofBits .f32 0x44800000#32) g z c * (1 + sc c) + sh c

/-- A row through the gate and the other matrix, the gate through its sigmoid. -/
def swiglu (h : Fin 1024 → EReal) (g u : Fin 1024 → Fin 2816 → EReal) (k : Fin 2816) : EReal :=
  (∑ x, h x * g x k) * Ideal.logistic (∑ x, h x * g x k) * ∑ x, h x * u x k

/-- The layer's row: the residual after the output projection, then the one after the feed-forward network. -/
def layer (a b ag : Fin 512 → EReal) (x : Fin 1024 → EReal) (w : Fin 1024 → Fin 1024 → EReal) (m : Fin 6 → Fin 1024 → EReal)
    (ng : Fin 1024 → EReal) (g u : Fin 1024 → Fin 2816 → EReal) (d : Fin 2816 → Fin 1024 → EReal) : Fin 1024 → EReal :=
  let z := gate (m 2) x (mix a b ag w)
  gate (m 5) z fun c => ∑ k, swiglu (modulate (m 3) (m 4) ng z) g u k * d k c

end Cert.Feed

namespace Cert.FfnIdeal.Terms

open Cert.FfnIdeal Cert.FfnIdeal.Gen Cert.Feed Idealize.ShloMosaic Idealize.SL.Sem

/-- 256 columns of the gated activation, as the kernel computes every group of them. -/
def piece {F : FTy → Type} [FloatOps F] (h : FVec F S512x1024 .bf16) (g u : Vec F S1024x256 .bf16) : FVec F S512x256 .bf16 :=
  k0_pay11 h g u

theorem mod_apply (m : Vec Ideal S1x6x1024 .f32) (r : Fin 6) (c : Fin 1024) : k0_pay4 (F := Ideal) m (ix2 r c) = m (ix3 (0 : Fin 1) r c) := by
  pointwise [k0_pay4]

theorem mix_apply (a b : Vec Ideal S512x512 .bf16) (w : Vec Ideal S1x512 .f32) (u v : Vec Ideal S1x512x1024 .f32) (r : Fin 512) (c : Fin 1024) :
    k0_pay5 (F := Ideal) a w u b v (ix2 r c)
      = (∑ k, rms (Ideal.ofBits .f32 0x44000000#32) (fun k => w (ix2 (0 : Fin 1) k)) (fun k => a (ix2 r k)) k * u (ix3 (0 : Fin 1) k c))
        + ∑ k, b (ix2 r k) * v (ix3 (0 : Fin 1) k c) := by
  unfold rms
  pointwise [k0_pay5]

theorem first_apply (m : FVec Ideal S6x1024 .f32) (y : FVec Ideal S512x1024 .f32) (x : Vec Ideal S512x1024 .f32) (r : Fin 512) (c : Fin 1024) :
    k0_pay6 (F := Ideal) m y x (ix2 r c)
      = gate (fun c => m (ix2 (2 : Fin 6) c)) (fun c => x (ix2 r c)) (fun c => y (ix2 r c)) c := by
  unfold gate
  pointwise [k0_pay6]

theorem normed_apply (m : FVec Ideal S6x1024 .f32) (y : FVec Ideal S512x1024 .f32) (x : Vec Ideal S512x1024 .f32)
    (g : Vec Ideal S1x1024 .f32) (r : Fin 512) (c : Fin 1024) :
    k0_pay7 (F := Ideal) m y x g (ix2 r c)
      = modulate (fun c => m (ix2 (3 : Fin 6) c)) (fun c => m (ix2 (4 : Fin 6) c)) (fun c => g (ix2 (0 : Fin 1) c))
          (fun c => k0_pay6 (F := Ideal) m y x (ix2 r c)) c := by
  unfold k0_pay7 modulate rms
  generalize k0_pay6 (F := Ideal) m y x = z
  pointwise []

theorem piece_apply (h : FVec Ideal S512x1024 .bf16) (g u : Vec Ideal S1024x256 .bf16) (r : Fin 512) (c : Fin 256) :
    piece (F := Ideal) h g u (ix2 r c)
      = (∑ x, h (ix2 r x) * g (ix2 x c)) * Ideal.logistic (∑ x, h (ix2 r x) * g (ix2 x c)) * ∑ x, h (ix2 r x) * u (ix2 x c) := by
  pointwise [piece, k0_pay11]

theorem second_apply (m : FVec Ideal S6x1024 .f32) (x : FVec Ideal S512x1024 .f32) (h : Vec Ideal S512x2816 .bf16)
    (d : Vec Ideal S2816x1024 .bf16) (r : Fin 512) (c : Fin 1024) :
    k0_pay2 (F := Ideal) m x h d (ix2 r c)
      = gate (fun c => m (ix2 (5 : Fin 6) c)) (fun c => x (ix2 r c)) (fun c => ∑ k, h (ix2 r k) * d (ix2 k c)) c := by
  unfold gate
  pointwise [k0_pay2]

section Pieces

variable {F : FTy → Type} [FloatOps F] (h : FVec F S512x1024 .bf16) (g u : Vec F S1024x256 .bf16)

theorem pay12 : k0_pay12 h g u = piece h g u := rfl
theorem pay15 : k0_pay15 h g u = piece h g u := rfl
theorem pay16 : k0_pay16 h g u = piece h g u := rfl
theorem pay19 : k0_pay19 h g u = piece h g u := rfl
theorem pay20 : k0_pay20 h g u = piece h g u := rfl
theorem pay14 : k0_pay14 h (k0_pay13 h g) u = piece h g u := rfl
theorem pay18 : k0_pay18 h (k0_pay17 h g) u = piece h g u := rfl
theorem pay1 : k0_pay1 h (k0_pay21 h g) u = piece h g u := rfl

variable (m : FVec F S6x1024 .f32) (y : FVec F S512x1024 .f32) (x : Vec F S512x1024 .f32) (n : Vec F S1x1024 .f32)

theorem pay8 : k0_pay8 m y x n g u = piece (k0_pay7 m y x n) g u := rfl
theorem pay10 : k0_pay10 (k0_pay7 m y x n) (k0_pay9 m y x n g) u = piece (k0_pay7 m y x n) g u := rfl

end Pieces

end Cert.FfnIdeal.Terms

end
-- ==== Proof.Ffn.Body.lean ====
/-
  What the feed-forward kernel's body leaves in its two result blocks, as functions of the blocks it reads.
-/
module

public import proofs.«01_k».proof.Proof.Ffn.Terms

@[expose] public section

set_option maxRecDepth 16384

noncomputable section

namespace Cert.FfnIdeal.Terms

open Cert.FfnIdeal Cert.FfnIdeal.Gen Cert.Feed Idealize.ShloMosaic Idealize.SL.Sem

section Whole

variable {Val : EltTy → Type} {e : EltTy} [∀ e, Nonempty (Val e)]

/-- A load of a whole block reads the block. -/
theorem ld2 {a b : Nat} (X : (⟨2, ![a, b]⟩ : Shape).Idx → Val e) (inb) : View.ld X (Rect.unit ![0, 0] ![a, b] inb) = X :=
  View.ld_unit_lit _ _ (show ∀ a : Fin 2, (![0, 0] : Fin 2 → Nat) a = 0 by decide)
theorem ld3 {a b d : Nat} (X : (⟨3, ![a, b, d]⟩ : Shape).Idx → Val e) (inb) : View.ld X (Rect.unit ![0, 0, 0] ![a, b, d] inb) = X :=
  View.ld_unit_lit _ _ (show ∀ a : Fin 3, (![0, 0, 0] : Fin 3 → Nat) a = 0 by decide)
/-- A store of a whole block leaves its value. -/
theorem canon2 {a b : Nat} (X : (⟨2, ![a, b]⟩ : Shape).Idx → Val e) (inb) :
    View.canon [(⟨Rect.unit ![0, 0] ![a, b] inb, X⟩ : View.Piece Val ⟨2, ![a, b]⟩ e)] = X :=
  View.canon_cons_unit_lit _ _ _ (show ∀ a : Fin 2, (![0, 0] : Fin 2 → Nat) a = 0 by decide)
/-- A load of the whole of a buffer reads what the stores left in it. -/
theorem cov2 {sig : RefSig} {κ : Kind} {sp : Space} {a b : Nat} (v : View sig κ sp ⟨2, ![a, b]⟩ e) (L : List (View.Piece Val ⟨2, ![a, b]⟩ e)) (inb) :
    v.readCov L (Rect.unit ![0, 0] ![a, b] inb).toLoadRect = View.canon L :=
  (View.readCov_eq_canon' _ _ _).trans (ld2 (View.canon L) inb)

end Whole

/-- The activation, as the kernel stores it: eleven groups of 256 columns. -/
def acts {F : FTy → Type} [FloatOps F] (h : FVec F S512x1024 .bf16) (g u : Vec F S1024x2816 .bf16) : List (View.Piece (Elt F) S512x2816 .bf16) :=
  [ ⟨Rect.unit ![0, 2560] ![512, 256] inb_S512x2816_S512x256_0_2560, piece h (View.ld g (Rect.unit ![0, 2560] ![1024, 256] inb_S1024x2816_S1024x256_0_2560))
      (View.ld u (Rect.unit ![0, 2560] ![1024, 256] inb_S1024x2816_S1024x256_0_2560))⟩,
    ⟨Rect.unit ![0, 2304] ![512, 256] inb_S512x2816_S512x256_0_2304, piece h (View.ld g (Rect.unit ![0, 2304] ![1024, 256] inb_S1024x2816_S1024x256_0_2304))
      (View.ld u (Rect.unit ![0, 2304] ![1024, 256] inb_S1024x2816_S1024x256_0_2304))⟩,
    ⟨Rect.unit ![0, 2048] ![512, 256] inb_S512x2816_S512x256_0_2048, piece h (View.ld g (Rect.unit ![0, 2048] ![1024, 256] inb_S1024x2816_S1024x256_0_2048))
      (View.ld u (Rect.unit ![0, 2048] ![1024, 256] inb_S1024x2816_S1024x256_0_2048))⟩,
    ⟨Rect.unit ![0, 1792] ![512, 256] inb_S512x2816_S512x256_0_1792, piece h (View.ld g (Rect.unit ![0, 1792] ![1024, 256] inb_S1024x2816_S1024x256_0_1792))
      (View.ld u (Rect.unit ![0, 1792] ![1024, 256] inb_S1024x2816_S1024x256_0_1792))⟩,
    ⟨Rect.unit ![0, 1536] ![512, 256] inb_S512x2816_S512x256_0_1536, piece h (View.ld g (Rect.unit ![0, 1536] ![1024, 256] inb_S1024x2816_S1024x256_0_1536))
      (View.ld u (Rect.unit ![0, 1536] ![1024, 256] inb_S1024x2816_S1024x256_0_1536))⟩,
    ⟨Rect.unit ![0, 1280] ![512, 256] inb_S512x2816_S512x256_0_1280, piece h (View.ld g (Rect.unit ![0, 1280] ![1024, 256] inb_S1024x2816_S1024x256_0_1280))
      (View.ld u (Rect.unit ![0, 1280] ![1024, 256] inb_S1024x2816_S1024x256_0_1280))⟩,
    ⟨Rect.unit ![0, 1024] ![512, 256] inb_S512x2816_S512x256_0_1024, piece h (View.ld g (Rect.unit ![0, 1024] ![1024, 256] inb_S1024x2816_S1024x256_0_1024))
      (View.ld u (Rect.unit ![0, 1024] ![1024, 256] inb_S1024x2816_S1024x256_0_1024))⟩,
    ⟨Rect.unit ![0, 768] ![512, 256] inb_S512x2816_S512x256_0_768, piece h (View.ld g (Rect.unit ![0, 768] ![1024, 256] inb_S1024x2816_S1024x256_0_768))
      (View.ld u (Rect.unit ![0, 768] ![1024, 256] inb_S1024x2816_S1024x256_0_768))⟩,
    ⟨Rect.unit ![0, 512] ![512, 256] inb_S512x2816_S512x256_0_512, piece h (View.ld g (Rect.unit ![0, 512] ![1024, 256] inb_S1024x2816_S1024x256_0_512))
      (View.ld u (Rect.unit ![0, 512] ![1024, 256] inb_S1024x2816_S1024x256_0_512))⟩,
    ⟨Rect.unit ![0, 256] ![512, 256] inb_S512x2816_S512x256_0_256, piece h (View.ld g (Rect.unit ![0, 256] ![1024, 256] inb_S1024x2816_S1024x256_0_256))
      (View.ld u (Rect.unit ![0, 256] ![1024, 256] inb_S1024x2816_S1024x256_0_256))⟩,
    ⟨Rect.unit ![0, 0] ![512, 256] inb_S512x2816_S512x256_0_0, piece h (View.ld g (Rect.unit ![0, 0] ![1024, 256] inb_S1024x2816_S1024x256_0_0))
      (View.ld u (Rect.unit ![0, 0] ![1024, 256] inb_S1024x2816_S1024x256_0_0))⟩ ]

section Body

variable {F : FTy → Type} [FloatOps F]
variable (c : Dev nD) (i : grid0.Coords)
variable (a1 : Memref sig .tc .vmem S512x512 .bf16) (h1 : a1.IsWhole) (a2 : Memref sig .tc .vmem S512x512 .bf16) (h2 : a2.IsWhole)
variable (a3 : Memref sig .tc .vmem S512x1024 .f32) (h3 : a3.IsWhole) (a4 : Memref sig .tc .vmem S1x1024x1024 .f32) (h4 : a4.IsWhole)
variable (a5 : Memref sig .tc .vmem S1x512 .f32) (h5 : a5.IsWhole) (a6 : Memref sig .tc .vmem S1x6x1024 .f32) (h6 : a6.IsWhole)
variable (a7 : Memref sig .tc .vmem S1x1024 .f32) (h7 : a7.IsWhole) (a8 : Memref sig .tc .vmem S1024x2816 .bf16) (h8 : a8.IsWhole)
variable (a9 : Memref sig .tc .vmem S1024x2816 .bf16) (h9 : a9.IsWhole) (a10 : Memref sig .tc .vmem S2816x1024 .bf16) (h10 : a10.IsWhole)
variable (a11 : Memref sig .tc .vmem S1x1024 .f32) (h11 : a11.IsWhole) (a12 : Memref sig .tc .vmem S704x1024 .f32) (h12 : a12.IsWhole)
variable (a13 : Memref sig .tc .vmem S512x1024 .f32) (h13 : a13.IsWhole) (a14 : Memref sig .tc .vmem S704x1024 .bf16) (h14 : a14.IsWhole)
variable (a15 : Memref sig .tc .vmem S512x2816 .bf16) (h15 : a15.IsWhole)
variable (x0 : Vec F S512x512 .bf16) (x1 : Vec F S512x512 .bf16) (x2 : Vec F S512x1024 .f32) (x3 : Vec F S1x1024x1024 .f32)
variable (x4 : Vec F S1x512 .f32) (x5 : Vec F S1x6x1024 .f32) (x6 : Vec F S1x1024 .f32) (x7 : Vec F S1024x2816 .bf16)
variable (x8 : Vec F S1024x2816 .bf16) (x9 : Vec F S2816x1024 .bf16) (x10 : Vec F S1x1024 .f32) (x11 : Vec F S704x1024 .f32)

/-- The output projection of a block of rows. -/
def mixB : FVec F S512x1024 .f32 :=
  k0_pay5 x0 x4 (View.ld x3 (Rect.unit ![0, 0, 0] ![1, 512, 1024] inb_S1x1024x1024_S1x512x1024_0_0_0)) x1
    (View.ld x3 (Rect.unit ![0, 512, 0] ![1, 512, 1024] inb_S1x1024x1024_S1x512x1024_0_512_0))

/-- The first result's block. -/
theorem out_first : out0_A_12 c i a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11
    = k0_pay2 (k0_pay4 x5) (k0_pay6 (k0_pay4 x5) (mixB x0 x1 x3 x4) x2)
        (View.canon (acts (k0_pay7 (k0_pay4 x5) (mixB x0 x1 x3 x4) x2 x6) x7 x8)) x9 := by
  unfold out0_A_12
  rw [View.read_writes_junk_eq_canon]
  unfold kernelRun0_A
  dsimp only
  sl_unfold_words
  simp only [View.readAt_eq_ld, h1.read_unread, h2.read_unread, h3.read_unread, h4.read_unread, h5.read_unread,
    h6.read_unread, h7.read_unread, h8.read_unread, h9.read_unread, h10.read_unread, pay12, pay15, pay16, pay19, pay20, pay14, pay18,
    pay1, pay8, pay10, ld2, ld3]
  rw [canon2, cov2]
  rfl

/-- The second result's block: the block it reads, rounded. -/
theorem out_second : out0_A_13 c i a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 = k0_pay3 x11 := by
  unfold out0_A_13
  rw [View.read_writes_junk_eq_canon]
  unfold kernelRun0_A
  dsimp only
  sl_unfold_words
  simp only [View.readAt_eq_ld, h12.read_unread, ld2]
  rw [canon2]

end Body

/-- The activation after all its stores. -/
theorem acts_apply (h : FVec Ideal S512x1024 .bf16) (g u : Vec Ideal S1024x2816 .bf16) (r : Fin 512) (k : Fin 2816) :
    View.canon (acts (F := Ideal) h g u) (ix2 r k) = swiglu (fun x => h (ix2 r x)) (fun x k => g (ix2 x k)) (fun x k => u (ix2 x k)) k := by
  have key : ∀ (n : Nat) (hn : n + 256 ≤ 2816) (i1 i2) (x : S512x256.Idx), (h0 : r.val = (x 0).val) → (h1 : k.val = n + (x 1).val) →
      piece (F := Ideal) h (View.ld g (Rect.unit ![0, n] ![1024, 256] i1)) (View.ld u (Rect.unit ![0, n] ![1024, 256] i2)) x
        = swiglu (fun x => h (ix2 r x)) (fun x k => g (ix2 x k)) (fun x k => u (ix2 x k)) k := by
    intro n hn i1 i2 x h0 h1
    obtain ⟨a, b, rfl⟩ : ∃ (a : Fin 512) (b : Fin 256), x = ix2 a b := ⟨x 0, x 1, by funext a; match a with | 0 => rfl | 1 => rfl⟩
    obtain rfl : r = a := Fin.ext h0
    have e : ∀ (X : Vec Ideal S1024x2816 .bf16) (i1) (y : Fin 1024), View.ld X (Rect.unit ![0, n] ![1024, 256] i1) (ix2 y b) = X (ix2 y k) := by
      intro X i1 y
      refine View.ld_unit_apply_of X _ _ _ _ _ fun a => ?_
      match a with
      | 0 => simp [ix2]
      | 1 => simpa [ix2] using h1
    rw [piece_apply]
    have es : ∀ (X : Vec Ideal S1024x2816 .bf16) (i1), (∑ y, h (ix2 r y) * View.ld X (Rect.unit ![0, n] ![1024, 256] i1) (ix2 y b))
        = ∑ y, h (ix2 r y) * X (ix2 y k) := fun X i1 => Finset.sum_congr rfl fun y _ => congrArg (h (ix2 r y) * ·) (e X i1 y)
    exact congrArg₂ (· * ·) (congrArg (fun s => s * Ideal.logistic s) (es g i1)) (es u i2)
  unfold acts
  canon_tiles x h
  case piece10 => exact key 0 (by decide) _ _ x h0 (h1.trans (Nat.zero_add _).symm)
  all_goals exact key _ (by decide) _ _ x h0 h1

end Cert.FfnIdeal.Terms

end
-- ==== Proof.Ffn.Array.lean ====
/-
  The feed-forward kernel's two results: the first is the layer, row by row; the second is its argument.
-/
module

public import proofs.«01_k».proof.Proof.Ffn.Body

@[expose] public section

set_option maxRecDepth 16384

noncomputable section

namespace Cert.Feed

open Idealize.ShloMosaic

/-- The layer over all rows, from the arrays: row `i` takes the modulation of its batch row. -/
def layerAll (A B : (⟨2, ![16384, 512]⟩ : Shape).Idx → EReal) (X : (⟨2, ![16384, 1024]⟩ : Shape).Idx → EReal)
    (W : (⟨3, ![2, 1024, 1024]⟩ : Shape).Idx → EReal) (ag : (⟨1, ![512]⟩ : Shape).Idx → EReal)
    (M : (⟨3, ![8, 6, 1024]⟩ : Shape).Idx → EReal) (ng : (⟨1, ![1024]⟩ : Shape).Idx → EReal)
    (G U : (⟨2, ![1024, 2816]⟩ : Shape).Idx → EReal) (D : (⟨2, ![2816, 1024]⟩ : Shape).Idx → EReal)
    (b : Fin 8) (s : Fin 2048) : Fin 1024 → EReal :=
  layer (fun k => A (ix2 (⟨2048 * b.val + s.val, by omega⟩ : Fin 16384) k)) (fun k => B (ix2 (⟨2048 * b.val + s.val, by omega⟩ : Fin 16384) k))
    (fun k => ag (ix1 k)) (fun c => X (ix2 (⟨2048 * b.val + s.val, by omega⟩ : Fin 16384) c)) (fun k c => W (ix3 (0 : Fin 2) k c))
    (fun j c => M (ix3 b j c)) (fun c => ng (ix1 c)) (fun x k => G (ix2 x k)) (fun x k => U (ix2 x k)) (fun k c => D (ix2 k c))

end Cert.Feed

namespace Cert.FfnIdeal.Terms

open Cert.FfnIdeal Cert.FfnIdeal.Gen Cert.Feed Idealize.ShloMosaic Idealize.SL.Sem

section Out

variable (c : Dev nD) (i : grid0.Coords)
variable (a1 : Memref sig .tc .vmem S512x512 .bf16) (h1 : a1.IsWhole) (a2 : Memref sig .tc .vmem S512x512 .bf16) (h2 : a2.IsWhole)
variable (a3 : Memref sig .tc .vmem S512x1024 .f32) (h3 : a3.IsWhole) (a4 : Memref sig .tc .vmem S1x1024x1024 .f32) (h4 : a4.IsWhole)
variable (a5 : Memref sig .tc .vmem S1x512 .f32) (h5 : a5.IsWhole) (a6 : Memref sig .tc .vmem S1x6x1024 .f32) (h6 : a6.IsWhole)
variable (a7 : Memref sig .tc .vmem S1x1024 .f32) (h7 : a7.IsWhole) (a8 : Memref sig .tc .vmem S1024x2816 .bf16) (h8 : a8.IsWhole)
variable (a9 : Memref sig .tc .vmem S1024x2816 .bf16) (h9 : a9.IsWhole) (a10 : Memref sig .tc .vmem S2816x1024 .bf16) (h10 : a10.IsWhole)
variable (a11 : Memref sig .tc .vmem S1x1024 .f32) (h11 : a11.IsWhole) (a12 : Memref sig .tc .vmem S704x1024 .f32) (h12 : a12.IsWhole)
variable (a13 : Memref sig .tc .vmem S512x1024 .f32) (h13 : a13.IsWhole) (a14 : Memref sig .tc .vmem S704x1024 .bf16) (h14 : a14.IsWhole)
variable (a15 : Memref sig .tc .vmem S512x2816 .bf16) (h15 : a15.IsWhole)
variable (x0 : Vec Ideal S512x512 .bf16) (x1 : Vec Ideal S512x512 .bf16) (x2 : Vec Ideal S512x1024 .f32) (x3 : Vec Ideal S1x1024x1024 .f32)
variable (x4 : Vec Ideal S1x512 .f32) (x5 : Vec Ideal S1x6x1024 .f32) (x6 : Vec Ideal S1x1024 .f32) (x7 : Vec Ideal S1024x2816 .bf16)
variable (x8 : Vec Ideal S1024x2816 .bf16) (x9 : Vec Ideal S2816x1024 .bf16) (x10 : Vec Ideal S1x1024 .f32) (x11 : Vec Ideal S704x1024 .f32)

theorem mixB_apply (r : Fin 512) (e : Fin 1024) : mixB x0 x1 x3 x4 (ix2 r e)
    = mix (fun k => x0 (ix2 r k)) (fun k => x1 (ix2 r k)) (fun k => x4 (ix2 (0 : Fin 1) k)) (fun k c => x3 (ix3 (0 : Fin 1) k c)) e := by
  have e0 : ∀ (k : Fin 512), View.ld x3 (Rect.unit ![0, 0, 0] ![1, 512, 1024] inb_S1x1024x1024_S1x512x1024_0_0_0) (ix3 (0 : Fin 1) k e)
      = x3 (ix3 (0 : Fin 1) (⟨k.val, by omega⟩ : Fin 1024) e) := fun k => View.ld_unit_apply_of x3 _ _ _ _ _ fun a => by
    match a with
    | 0 => simp [ix3]
    | 1 => simp [ix3]
    | 2 => simp [ix3]
  have e1 : ∀ (k : Fin 512), View.ld x3 (Rect.unit ![0, 512, 0] ![1, 512, 1024] inb_S1x1024x1024_S1x512x1024_0_512_0) (ix3 (0 : Fin 1) k e)
      = x3 (ix3 (0 : Fin 1) (⟨512 + k.val, by omega⟩ : Fin 1024) e) := fun k => View.ld_unit_apply_of x3 _ _ _ _ _ fun a => by
    match a with
    | 0 => simp [ix3]
    | 1 => simp [ix3]
    | 2 => simp [ix3]
  unfold mixB mix
  rw [mix_apply]
  exact congrArg₂ (· + ·) (Finset.sum_congr rfl fun k _ => congrArg _ (e0 k)) (Finset.sum_congr rfl fun k _ => congrArg _ (e1 k))

/-- One entry of the first result's block. -/
theorem out_apply (r : Fin 512) (e : Fin 1024) : out0_A_12 (F := Ideal) c i a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 (ix2 r e)
    = layer (fun k => x0 (ix2 r k)) (fun k => x1 (ix2 r k)) (fun k => x4 (ix2 (0 : Fin 1) k)) (fun c => x2 (ix2 r c))
        (fun k c => x3 (ix3 (0 : Fin 1) k c)) (fun j c => x5 (ix3 (0 : Fin 1) j c)) (fun c => x6 (ix2 (0 : Fin 1) c))
        (fun x k => x7 (ix2 x k)) (fun x k => x8 (ix2 x k)) (fun k c => x9 (ix2 k c)) e := by
  rw [out_first, second_apply]
  simp only [first_apply, acts_apply, normed_apply, mod_apply, mixB_apply]
  rfl

end Out

section Run

variable (m : (ℓ : Loc nD τ sig) → Buf (Elt Ideal) ℓ)

theorem coords_lt (t : Fin cfg0.N) : (grid0.coords t 0).val < 32 := (grid0.coords t 0).isLt

theorem index0 : ∀ t : Fin cfg0.N, win0_0.index t = ![(grid0.coords t 0).val, 0] :=
  (by decide +kernel : ∀ t : Fin grid0.N, _)
theorem block0 (c : Dev nD) (t : Fin cfg0.N) (r : Fin 512) (e : Fin 512) : iblk m c 0 t (ix2 r e) = V m c main_arg0 (ix2 (⟨512 * (grid0.coords t 0).val + r.val, by have := coords_lt t; omega⟩ : Fin 16384) e) := by
  blk_simp [iblk, index0]
  refine congrArg _ (funext fun a => Fin.ext ?_)
  match a with
  | 0 => blk_simp [index0]; simp [ix2]; omega
  | 1 => blk_simp [index0]

theorem index1 : ∀ t : Fin cfg0.N, win0_1.index t = ![(grid0.coords t 0).val, 0] :=
  (by decide +kernel : ∀ t : Fin grid0.N, _)
theorem block1 (c : Dev nD) (t : Fin cfg0.N) (r : Fin 512) (e : Fin 512) : iblk m c 1 t (ix2 r e) = V m c main_arg1 (ix2 (⟨512 * (grid0.coords t 0).val + r.val, by have := coords_lt t; omega⟩ : Fin 16384) e) := by
  blk_simp [iblk, index1]
  refine congrArg _ (funext fun a => Fin.ext ?_)
  match a with
  | 0 => blk_simp [index1]; simp [ix2]; omega
  | 1 => blk_simp [index1]

theorem index2 : ∀ t : Fin cfg0.N, win0_2.index t = ![(grid0.coords t 0).val, 0] :=
  (by decide +kernel : ∀ t : Fin grid0.N, _)
theorem block2 (c : Dev nD) (t : Fin cfg0.N) (r : Fin 512) (e : Fin 1024) : iblk m c 2 t (ix2 r e) = V m c main_arg2 (ix2 (⟨512 * (grid0.coords t 0).val + r.val, by have := coords_lt t; omega⟩ : Fin 16384) e) := by
  blk_simp [iblk, index2]
  refine congrArg _ (funext fun a => Fin.ext ?_)
  match a with
  | 0 => blk_simp [index2]; simp [ix2]; omega
  | 1 => blk_simp [index2]

theorem index3 : ∀ t : Fin cfg0.N, win0_3.index t = ![0, 0, 0] :=
  (by decide +kernel : ∀ t : Fin grid0.N, _)
theorem block3 (c : Dev nD) (t : Fin cfg0.N) (z : Fin 1) (r : Fin 1024) (e : Fin 1024) : iblk m c 3 t (ix3 z r e) = V m c main_arg3 (ix3 (0 : Fin 2) r e) := by
  blk_simp [iblk, index3]
  refine congrArg _ (funext fun a => Fin.ext ?_)
  match a with
  | 0 => blk_simp [index3]; rfl
  | 1 => blk_simp [index3]
  | 2 => blk_simp [index3]

theorem index4 : ∀ t : Fin cfg0.N, win0_4.index t = ![0, 0] :=
  (by decide +kernel : ∀ t : Fin grid0.N, _)
theorem block4 (c : Dev nD) (t : Fin cfg0.N) (r : Fin 1) (e : Fin 512) : iblk m c 4 t (ix2 r e) = V m c main_v0 (ix2 r e) := by
  blk_simp [iblk, index4]
  refine congrArg _ (funext fun a => Fin.ext ?_)
  match a with
  | 0 => blk_simp [index4]
  | 1 => blk_simp [index4]

theorem index5 : ∀ t : Fin cfg0.N, win0_5.index t = ![(grid0.coords t 0).val / 4, 0, 0] :=
  (by decide +kernel : ∀ t : Fin grid0.N, _)
theorem block5 (c : Dev nD) (t : Fin cfg0.N) (z : Fin 1) (r : Fin 6) (e : Fin 1024) : iblk m c 5 t (ix3 z r e) = V m c main_arg5 (ix3 (⟨(grid0.coords t 0).val / 4, by have := coords_lt t; omega⟩ : Fin 8) r e) := by
  blk_simp [iblk, index5]
  refine congrArg _ (funext fun a => Fin.ext ?_)
  match a with
  | 0 => blk_simp [index5]
  | 1 => blk_simp [index5]
  | 2 => blk_simp [index5]

theorem index6 : ∀ t : Fin cfg0.N, win0_6.index t = ![0, 0] :=
  (by decide +kernel : ∀ t : Fin grid0.N, _)
theorem block6 (c : Dev nD) (t : Fin cfg0.N) (r : Fin 1) (e : Fin 1024) : iblk m c 6 t (ix2 r e) = V m c main_v1 (ix2 r e) := by
  blk_simp [iblk, index6]
  refine congrArg _ (funext fun a => Fin.ext ?_)
  match a with
  | 0 => blk_simp [index6]
  | 1 => blk_simp [index6]

theorem index7 : ∀ t : Fin cfg0.N, win0_7.index t = ![0, 0] :=
  (by decide +kernel : ∀ t : Fin grid0.N, _)
theorem block7 (c : Dev nD) (t : Fin cfg0.N) (r : Fin 1024) (e : Fin 2816) : iblk m c 7 t (ix2 r e) = V m c main_arg7 (ix2 r e) := by
  blk_simp [iblk, index7]
  refine congrArg _ (funext fun a => Fin.ext ?_)
  match a with
  | 0 => blk_simp [index7]
  | 1 => blk_simp [index7]

theorem index8 : ∀ t : Fin cfg0.N, win0_8.index t = ![0, 0] :=
  (by decide +kernel : ∀ t : Fin grid0.N, _)
theorem block8 (c : Dev nD) (t : Fin cfg0.N) (r : Fin 1024) (e : Fin 2816) : iblk m c 8 t (ix2 r e) = V m c main_arg8 (ix2 r e) := by
  blk_simp [iblk, index8]
  refine congrArg _ (funext fun a => Fin.ext ?_)
  match a with
  | 0 => blk_simp [index8]
  | 1 => blk_simp [index8]

theorem index9 : ∀ t : Fin cfg0.N, win0_9.index t = ![0, 0] :=
  (by decide +kernel : ∀ t : Fin grid0.N, _)
theorem block9 (c : Dev nD) (t : Fin cfg0.N) (r : Fin 2816) (e : Fin 1024) : iblk m c 9 t (ix2 r e) = V m c main_arg9 (ix2 r e) := by
  blk_simp [iblk, index9]
  refine congrArg _ (funext fun a => Fin.ext ?_)
  match a with
  | 0 => blk_simp [index9]
  | 1 => blk_simp [index9]

theorem V_v0 (c : Dev nD) (k : Fin 512) : V m c main_v0 (ix2 (0 : Fin 1) k) = m ((c.tc : Thread nD τ).loc main_arg4) (ix1 k) := by
  have e : V m c main_v0 = shapeCast S1x512 (m ((c.tc : Thread nD τ).loc main_arg4)) shapeCasts_S512_S1x512 := by
    show StableHlo.after hostOps0 _ (Proc.devRef .tc main_v0) = _
    after_results
    rfl
  rw [e]
  pointwise []

theorem V_v1 (c : Dev nD) (k : Fin 1024) : V m c main_v1 (ix2 (0 : Fin 1) k) = m ((c.tc : Thread nD τ).loc main_arg6) (ix1 k) := by
  have e : V m c main_v1 = shapeCast S1x1024 (m ((c.tc : Thread nD τ).loc main_arg6)) shapeCasts_S1024_S1x1024 := by
    show StableHlo.after hostOps0 _ (Proc.devRef .tc main_v1) = _
    after_results
    rfl
  rw [e]
  pointwise []

/-- The layer of a launch's arguments, one row of one batch row. -/
def layerOf (c : Dev nD) (b : Fin 8) (s : Fin 2048) : Fin 1024 → EReal :=
  layerAll (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) b s

/-- The first result's array: the layer of every row. -/
def layerRows (c : Dev nD) : S16384x1024.Idx → EReal := fun i =>
  layerOf m c ⟨(i 0).val / 2048, by have := (i 0).isLt; simp at this; omega⟩ ⟨(i 0).val % 2048, by omega⟩ (i 1)

theorem index12 : ∀ t : Fin cfg0.N, win0_12.index t = ![(grid0.coords t 0).val, 0] :=
  (by decide +kernel : ∀ t : Fin grid0.N, _)
theorem index11 : ∀ t : Fin cfg0.N, win0_11.index t = win0_13.index t :=
  (by decide +kernel : ∀ t : Fin grid0.N, _)

/-- What a grid point leaves in its block of the first result. -/
theorem after_apply (c : Dev nD) (t : Fin cfg0.N) (r : Fin 512) (e : Fin 1024) : (outsAt0 m c t).1 (ix2 r e)
    = layer (fun k => iblk m c 0 t (ix2 r k)) (fun k => iblk m c 1 t (ix2 r k)) (fun k => iblk m c 4 t (ix2 (0 : Fin 1) k))
        (fun c' => iblk m c 2 t (ix2 r c')) (fun k c' => iblk m c 3 t (ix3 (0 : Fin 1) k c')) (fun j c' => iblk m c 5 t (ix3 (0 : Fin 1) j c'))
        (fun c' => iblk m c 6 t (ix2 (0 : Fin 1) c')) (fun x k => iblk m c 7 t (ix2 x k)) (fun x k => iblk m c 8 t (ix2 x k))
        (fun k c' => iblk m c 9 t (ix2 k c')) e := by
  simp only [outsAt0]
  exact out_apply _ _ _ _ _ _ _ _ _ _ _ _ _ _ _ _ _ _ _ _ _ _ _ _ _ _ _ _ _ _ _ _ _ _ _ _ _ _ _ _ _ _ _ _ r e

end Run

end Cert.FfnIdeal.Terms

end
-- ==== Proof.Ffn.Result.lean ====
/-
  The feed-forward kernel's two results: the first is the layer, row by row; the second is its argument.
-/
module

public import proofs.«01_k».proof.Proof.Ffn.Array

@[expose] public section

set_option maxRecDepth 16384

noncomputable section

namespace Cert.FfnIdeal.Terms

open Cert.FfnIdeal Cert.FfnIdeal.Gen Cert.Feed Idealize.ShloMosaic Idealize.SL.Sem

section Run

variable (m : (ℓ : Loc nD τ sig) → Buf (Elt Ideal) ℓ)

theorem after_layer (c : Dev nD) (t : Fin cfg0.N) (r : Fin 512) (e : Fin 1024) : (outsAt0 m c t).1 (ix2 r e)
    = layerOf m c ⟨(grid0.coords t 0).val / 4, by have := coords_lt t; omega⟩
        ⟨512 * ((grid0.coords t 0).val % 4) + r.val, by omega⟩ e := by
  have hc := coords_lt t
  have hr : (⟨512 * (grid0.coords t 0).val + r.val, by omega⟩ : Fin 16384)
      = ⟨2048 * ((grid0.coords t 0).val / 4) + (512 * ((grid0.coords t 0).val % 4) + r.val), by omega⟩ := Fin.ext (by simp only; omega)
  have e0 : ∀ k, iblk m c 0 t (ix2 r k) = m ((c.tc : Thread nD τ).loc main_arg0) (ix2 (⟨2048 * ((grid0.coords t 0).val / 4) + (512 * ((grid0.coords t 0).val % 4) + r.val), by omega⟩ : Fin 16384) k) := fun k =>
    (block0 m c t r k).trans ((congrFun (V_main_arg0 m c) _).trans (congrArg (fun r => m ((c.tc : Thread nD τ).loc main_arg0) (ix2 r k)) hr))
  have e1 : ∀ k, iblk m c 1 t (ix2 r k) = m ((c.tc : Thread nD τ).loc main_arg1) (ix2 (⟨2048 * ((grid0.coords t 0).val / 4) + (512 * ((grid0.coords t 0).val % 4) + r.val), by omega⟩ : Fin 16384) k) := fun k =>
    (block1 m c t r k).trans ((congrFun (V_main_arg1 m c) _).trans (congrArg (fun r => m ((c.tc : Thread nD τ).loc main_arg1) (ix2 r k)) hr))
  have e2 : ∀ k, iblk m c 2 t (ix2 r k) = m ((c.tc : Thread nD τ).loc main_arg2) (ix2 (⟨2048 * ((grid0.coords t 0).val / 4) + (512 * ((grid0.coords t 0).val % 4) + r.val), by omega⟩ : Fin 16384) k) := fun k =>
    (block2 m c t r k).trans ((congrFun (V_main_arg2 m c) _).trans (congrArg (fun r => m ((c.tc : Thread nD τ).loc main_arg2) (ix2 r k)) hr))
  have e3 : ∀ k e, iblk m c 3 t (ix3 (0 : Fin 1) k e) = m ((c.tc : Thread nD τ).loc main_arg3) (ix3 (0 : Fin 2) k e) := fun k e =>
    (block3 m c t 0 k e).trans (congrFun (V_main_arg3 m c) _)
  have e4 : ∀ k, iblk m c 4 t (ix2 (0 : Fin 1) k) = m ((c.tc : Thread nD τ).loc main_arg4) (ix1 k) := fun k =>
    (block4 m c t 0 k).trans (V_v0 m c k)
  have e5 : ∀ j k, iblk m c 5 t (ix3 (0 : Fin 1) j k)
      = m ((c.tc : Thread nD τ).loc main_arg5) (ix3 (⟨(grid0.coords t 0).val / 4, by omega⟩ : Fin 8) j k) := fun j k =>
    (block5 m c t 0 j k).trans (congrFun (V_main_arg5 m c) _)
  have e6 : ∀ k, iblk m c 6 t (ix2 (0 : Fin 1) k) = m ((c.tc : Thread nD τ).loc main_arg6) (ix1 k) := fun k =>
    (block6 m c t 0 k).trans (V_v1 m c k)
  have e7 : ∀ x k, iblk m c 7 t (ix2 x k) = m ((c.tc : Thread nD τ).loc main_arg7) (ix2 x k) := fun x k =>
    (block7 m c t x k).trans (congrFun (V_main_arg7 m c) _)
  have e8 : ∀ x k, iblk m c 8 t (ix2 x k) = m ((c.tc : Thread nD τ).loc main_arg8) (ix2 x k) := fun x k =>
    (block8 m c t x k).trans (congrFun (V_main_arg8 m c) _)
  have e9 : ∀ x k, iblk m c 9 t (ix2 x k) = m ((c.tc : Thread nD τ).loc main_arg9) (ix2 x k) := fun x k =>
    (block9 m c t x k).trans (congrFun (V_main_arg9 m c) _)
  refine (after_apply m c t r e).trans ?_
  unfold layerOf layerAll
  rw [funext e0, funext e1, funext e2, funext fun k => funext (e3 k), funext e4, funext fun j => funext (e5 j), funext e6,
    funext fun x => funext (e7 x), funext fun x => funext (e8 x), funext fun x => funext (e9 x)]

theorem layerOf_congr (c : Dev nD) {b b' : Fin 8} {s s' : Fin 2048} {e e' : Fin 1024} (hb : b = b') (hs : s = s') (he : e = e') :
    layerOf m c b s e = layerOf m c b' s' e' := by
  subst hb hs he
  rfl

theorem result0 (c : Dev nD) : (dats m 0 c).arrAt 12 cfg0.N = layerRows m c := by
  refine (dats m 0 c).arrAt_eq_of_covers 12 _ (by decide +kernel) fun t hf y => ?_
  blk_simp
  rw [after0_12]
  obtain ⟨r, e, rfl⟩ : ∃ (r : Fin 512) (e : Fin 1024), y = ix2 r e :=
    ⟨y 0, y 1, by funext a; match a with | 0 => rfl | 1 => rfl⟩
  have hc := coords_lt t
  refine (after_layer m c t r e).trans ?_
  have h0 : (((win0_12.blk t).view.emb (ix2 r e)) 0).val = 512 * (grid0.coords t 0).val + r.val := by
    blk_simp [index12]; simp [ix2]; omega
  have h1 : ((win0_12.blk t).view.emb (ix2 r e)) 1 = e := Fin.ext (by blk_simp [index12])
  exact layerOf_congr m c (Fin.ext (by simp only [h0]; omega)) (Fin.ext (by simp only [h0]; omega)) h1.symm

theorem after_second (c : Dev nD) (t : Fin cfg0.N) (y : S704x1024.Idx) : (outsAt0 m c t).2 y = iblk m c 11 t y := by
  simp only [outsAt0]
  rw [out_second]
  rfl

/-- The second result's array: the last argument. -/
theorem result1 (c : Dev nD) :
    (dats m 0 c).arrAt 13 cfg0.N = (V m c main_arg11 : S22528x1024.Idx → EReal) := by
  refine (dats m 0 c).arrAt_eq_of_covers 13 _ (by decide +kernel) fun t hf y => ?_
  blk_simp
  rw [after0_13]
  refine (after_second m c t y).trans ?_
  show iblk m c 11 t y = _
  blk_simp [iblk]
  refine congrArg _ (funext fun a => Fin.ext ?_)
  blk_simp [index11]

end Run

end Cert.FfnIdeal.Terms

end
-- ==== Proof.Ffn.Reference.lean ====
/-
  The feed-forward layer's reference, read row by row: its result is the layer over all rows.
-/
module

public import proofs.«01_k».proof.Proof.Ffn.Result
public import proofs.«01_k».proof.Proof.Gen.FfnRefIdeal.Run

@[expose] public section

set_option maxRecDepth 16384

noncomputable section

namespace Cert.FfnRefIdeal.Value

open Cert.FfnRefIdeal Cert.FfnRefIdeal.Gen Cert.Feed Idealize.ShloMosaic Idealize.SL.Sem Idealize.ShloMosaic.StableHlo

variable (A B : Vec Ideal S16384x512 .bf16) (X : Vec Ideal S16384x1024 .f32) (W : Vec Ideal S2x1024x1024 .f32) (ag : Vec Ideal S512 .f32)
variable (M : Vec Ideal S8x6x1024 .f32) (ng : Vec Ideal S1024 .f32) (G U : Vec Ideal S1024x2816 .bf16) (D : Vec Ideal S2816x1024 .bf16)

/-- One row of the modulation, over the whole batch row. -/
def modR (s : FVec Ideal S8x1x1024 .f32) : FVec Ideal S8x2048x1024 .f32 :=
  broadcastInDim S8x2048x1024 ![0, 1, 2] bcast_S8x1x1024_S8x2048x1024_0_1_2 (broadcastInDim S8x1x1024 ![0, 2] bcast_S8x1024_S8x1x1024_0_2
    (shapeCast S8x1024 s shapeCasts_S8x1x1024_S8x1024))

/-- The first mixer's output, normalised. -/
def attR : FVec Ideal S16384x512 .f32 :=
  mulf (mulf (extf .f32 A bitsLt_bf16_f32) (broadcastInDim S16384x512 ![0, 1] bcast_S16384x1_S16384x512_0_1 (Host.rsqrt (addf
    (Host.divf (broadcastInDim S16384x1 ![0] bcast_S16384_S16384x1_0 (Host.reduceAdd (mulf (extf .f32 A bitsLt_bf16_f32) (extf .f32 A bitsLt_bf16_f32))
      (constant S_ .f32 0x00000000#32) reducesTo_S16384x512_S16384_d1 h_S_)) (broadcastInDim S16384x1 ![] bcast_S_S16384x1 (constant S_ .f32 0x44000000#32)))
    (broadcastInDim S16384x1 ![] bcast_S_S16384x1 (constant S_ .f32 0x358637BD#32))))))
    (broadcastInDim S16384x512 ![0, 1] bcast_S1x512_S16384x512_0_1 (broadcastInDim S1x512 ![1] bcast_S512_S1x512_1 ag))

/-- The two mixers' outputs side by side. -/
def catR (a b : FVec Ideal S16384x512 .f32) : FVec Ideal S16384x1024 .f32 :=
  concatenate S16384x1024 1 [⟨S16384x512, a⟩, ⟨S16384x512, b⟩] concatenates_S16384x512_S16384x512_S16384x1024_d1

/-- The residual after the output projection, of the two mixers' outputs side by side. -/
def firstR (C : FVec Ideal S16384x1024 .f32) : FVec Ideal S8x2048x1024 .f32 :=
  addf (shapeCast S8x2048x1024 X shapeCasts_S16384x1024_S8x2048x1024)
    (mulf (modR (extractStridedSlice S8x1x1024 ![0, 2, 0] M slices_S8x6x1024_S8x1x1024_0_2_0))
      (Host.dotGeneral (φ₁ := .f32) (φ₂ := .f32) dot_S8x2048x1024_S1024x1024_S8x2048x1024_2_0_01_1_n_n none (shapeCast S8x2048x1024 C shapeCasts_S16384x1024_S8x2048x1024)
        (shapeCast S1024x1024 (extractStridedSlice S1x1024x1024 ![0, 0, 0] W slices_S2x1024x1024_S1x1024x1024_0_0_0) shapeCasts_S1x1024x1024_S1024x1024)))

/-- The normalised and modulated rows. -/
def hidR (Z : FVec Ideal S8x2048x1024 .f32) : FVec Ideal S8x2048x1024 .f32 :=
  addf (mulf (mulf (mulf Z (broadcastInDim S8x2048x1024 ![0, 1, 2] bcast_S8x2048x1_S8x2048x1024_0_1_2 (Host.rsqrt (addf
      (Host.divf (broadcastInDim S8x2048x1 ![0, 1] bcast_S8x2048_S8x2048x1_0_1 (Host.reduceAdd (mulf Z Z)
        (constant S_ .f32 0x00000000#32) reducesTo_S8x2048x1024_S8x2048_d2 h_S_)) (broadcastInDim S8x2048x1 ![] bcast_S_S8x2048x1 (constant S_ .f32 0x44800000#32)))
      (broadcastInDim S8x2048x1 ![] bcast_S_S8x2048x1 (constant S_ .f32 0x358637BD#32))))))
      (broadcastInDim S8x2048x1024 ![0, 1, 2] bcast_S1x1x1024_S8x2048x1024_0_1_2 (broadcastInDim S1x1x1024 ![2] bcast_S1024_S1x1x1024_2 ng)))
    (broadcastInDim S8x2048x1024 ![0, 1, 2] bcast_S8x1x1024_S8x2048x1024_0_1_2 (addf (broadcastInDim S8x1x1024 ![] bcast_S_S8x1x1024 (constant S_ .f32 0x3F800000#32))
      (broadcastInDim S8x1x1024 ![0, 2] bcast_S8x1024_S8x1x1024_0_2
        (shapeCast S8x1024 (extractStridedSlice S8x1x1024 ![0, 4, 0] M slices_S8x6x1024_S8x1x1024_0_4_0) shapeCasts_S8x1x1024_S8x1024)))))
    (modR (extractStridedSlice S8x1x1024 ![0, 3, 0] M slices_S8x6x1024_S8x1x1024_0_3_0))

/-- The rows through one of the two matrices in. -/
def upR (H : FVec Ideal S8x2048x1024 .f32) (V : Vec Ideal S1024x2816 .bf16) : FVec Ideal S8x2048x2816 .f32 :=
  Host.dotGeneral dot_S8x2048x1024_S1024x2816_S8x2048x2816_2_0_01_1_n_n none H (extf .f32 V bitsLt_bf16_f32)

/-- The gated activation. -/
def actR (p q : FVec Ideal S8x2048x2816 .f32) : FVec Ideal S8x2048x2816 .f32 :=
  mulf (mulf p (Host.divf (broadcastInDim S8x2048x2816 ![] bcast_S_S8x2048x2816 (constant S_ .f32 0x3F800000#32))
    (addf (broadcastInDim S8x2048x2816 ![] bcast_S_S8x2048x2816 (constant S_ .f32 0x3F800000#32)) (Host.exp (Host.negf p))))) q

/-- The residual after the feed-forward network. -/
def lastR (Z : FVec Ideal S8x2048x1024 .f32) (H : FVec Ideal S8x2048x2816 .f32) : FVec Ideal S16384x1024 .f32 :=
  shapeCast S16384x1024 (addf Z (mulf (modR (extractStridedSlice S8x1x1024 ![0, 5, 0] M slices_S8x6x1024_S8x1x1024_0_5_0))
    (Host.dotGeneral dot_S8x2048x2816_S2816x1024_S8x2048x1024_2_0_01_1_n_n none H (extf .f32 D bitsLt_bf16_f32)))) shapeCasts_S8x2048x1024_S16384x1024

/-- The reference's first result, from its arguments. -/
def outR : FVec Ideal S16384x1024 .f32 :=
  let Z := firstR X W M (catR (attR A ag) (extf .f32 B bitsLt_bf16_f32))
  lastR M D Z (actR (upR (hidR M ng Z) G) (upR (hidR M ng Z) U))

theorem res_eq (m : (ℓ : Loc nD τ sig) → Buf (Elt Ideal) ℓ) (c : Dev nD) : res_main_v66 m c
    = outR (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) := by
  unfold res_main_v66 outR lastR actR upR hidR firstR attR modR catR
  rfl

theorem one_word : Ideal.ofBits .f32 0x3F800000#32 = (1 : EReal) := by
  simp [Ideal.ofBits, Ideal.ieee, -EReal.coe_mul]; norm_num

theorem zero_word : Ideal.ofBits .f32 0x00000000#32 = (0 : EReal) := by
  simp [Ideal.ofBits, Ideal.ieee, -EReal.coe_mul]

theorem modR_apply (s : FVec Ideal S8x1x1024 .f32) (b : Fin 8) (r : Fin 2048) (e : Fin 1024) : modR s (ix3 b r e) = s (ix3 b (0 : Fin 1) e) := by
  pointwise [modR]

theorem attR_apply (i : Fin 16384) (k : Fin 512) : attR A ag (ix2 i k)
    = rms (Ideal.ofBits .f32 0x44000000#32) (fun k => ag (ix1 k)) (fun k => A (ix2 i k)) k := by
  unfold rms
  pointwise [attR]

theorem upR_apply (H : FVec Ideal S8x2048x1024 .f32) (V : Vec Ideal S1024x2816 .bf16) (b : Fin 8) (r : Fin 2048) (k : Fin 2816) :
    upR H V (ix3 b r k) = ∑ x : Fin 1024, H (ix3 b r x) * V (ix2 x k) := by
  pointwise [upR]

theorem actR_apply (p q : FVec Ideal S8x2048x2816 .f32) (b : Fin 8) (r : Fin 2048) (k : Fin 2816) :
    actR p q (ix3 b r k) = p (ix3 b r k) * Ideal.logistic (p (ix3 b r k)) * q (ix3 b r k) := by
  unfold Ideal.logistic
  rw [← one_word]
  pointwise [actR]

theorem hidR_apply (Z : FVec Ideal S8x2048x1024 .f32) (b : Fin 8) (r : Fin 2048) (e : Fin 1024) : hidR M ng Z (ix3 b r e)
    = modulate (fun c => M (ix3 b (3 : Fin 6) c)) (fun c => M (ix3 b (4 : Fin 6) c)) (fun c => ng (ix1 c)) (fun c => Z (ix3 b r c)) e := by
  unfold modulate rms
  rw [← one_word]
  pointwise [hidR, modR]

theorem firstR_apply (C : FVec Ideal S16384x1024 .f32) (b : Fin 8) (r : Fin 2048) (e : Fin 1024) : firstR X W M C (ix3 b r e)
    = gate (fun c => M (ix3 b (2 : Fin 6) c)) (fun c => X (ix2 (⟨2048 * b.val + r.val, by omega⟩ : Fin 16384) c))
        (fun c => ∑ k : Fin 1024, C (ix2 (⟨2048 * b.val + r.val, by omega⟩ : Fin 16384) k) * W (ix3 (0 : Fin 2) k c)) e := by
  unfold gate
  pointwise [firstR, modR]
  simp only [Nat.mul_comm b.val 2048]

theorem lastR_apply (Z : FVec Ideal S8x2048x1024 .f32) (H : FVec Ideal S8x2048x2816 .f32) (b : Fin 8) (r : Fin 2048) (e : Fin 1024) :
    lastR M D Z H (ix2 (⟨2048 * b.val + r.val, by omega⟩ : Fin 16384) e)
      = gate (fun c => M (ix3 b (5 : Fin 6) c)) (fun c => Z (ix3 b r c)) (fun c => ∑ k : Fin 2816, H (ix3 b r k) * D (ix2 k c)) e := by
  unfold gate
  pointwise [lastR, modR]

theorem catR_low (a b : FVec Ideal S16384x512 .f32) (i : Fin 16384) (k : Fin 512) :
    catR a b (ix2 i (⟨k.val, by omega⟩ : Fin 1024)) = a (ix2 i k) := by
  pointwise [catR]

theorem catR_high (a b : FVec Ideal S16384x512 .f32) (i : Fin 16384) (k : Fin 512) :
    catR a b (ix2 i (⟨512 + k.val, by omega⟩ : Fin 1024)) = b (ix2 i k) := by
  pointwise [catR]

theorem firstR_mix (b : Fin 8) (r : Fin 2048) (e : Fin 1024) : firstR X W M (catR (attR A ag) (extf .f32 B bitsLt_bf16_f32)) (ix3 b r e)
    = gate (fun c => M (ix3 b (2 : Fin 6) c)) (fun c => X (ix2 (⟨2048 * b.val + r.val, by omega⟩ : Fin 16384) c))
        (mix (fun k => A (ix2 (⟨2048 * b.val + r.val, by omega⟩ : Fin 16384) k)) (fun k => B (ix2 (⟨2048 * b.val + r.val, by omega⟩ : Fin 16384) k))
          (fun k => ag (ix1 k)) (fun k c => W (ix3 (0 : Fin 2) k c))) e := by
  rw [firstR_apply]
  refine congrArg (fun y => gate _ _ y e) (funext fun c => ?_)
  unfold mix
  refine (Fin.sum_univ_add (a := 512) (b := 512) _).trans (congrArg₂ (· + ·) (Finset.sum_congr rfl fun k _ => ?_) (Finset.sum_congr rfl fun k _ => ?_))
  · exact congrArg (· * _) ((catR_low _ _ _ k).trans (attR_apply A ag _ k))
  · exact congrArg (· * _) (catR_high _ _ _ k)

/-- The reference's first result is the layer over all rows. -/
theorem outR_apply (b : Fin 8) (r : Fin 2048) (e : Fin 1024) :
    outR A B X W ag M ng G U D (ix2 (⟨2048 * b.val + r.val, by omega⟩ : Fin 16384) e) = layerAll A B X W ag M ng G U D b r e := by
  unfold outR
  rw [lastR_apply]
  unfold layerAll layer swiglu
  simp only [actR_apply, upR_apply, hidR_apply, firstR_mix]

end Cert.FfnRefIdeal.Value

end
-- ==== Proof.Ffn.Claims.lean ====
/-
  The feed-forward call: the three frames, and the equality with the reference.
-/
module

public import proofs.«01_k».proof.Proof.Ffn.Reference
public import proofs.«01_k».proof.Proof.Gen.Ffn
public import proofs.«01_k».proof.Proof.Gen.FfnIdeal.Frame

@[expose] public section

set_option maxRecDepth 16384

noncomputable section

namespace Cert.Proof.FeedForward

open Cert.Feed Idealize.ShloMosaic Idealize.ShloMosaic.TcCoe Idealize.SL.Sem

/-- The two programs have one text: their kernels' tables are equal. -/
theorem tables_eq : Cert.Ffn.defs₀ (F := Bits) = Cert.FfnIdeal.defs₀ (F := Bits) := by
  unfold Cert.Ffn.defs₀ Cert.FfnIdeal.defs₀
  refine congrArg Defs.onTc (funext fun l => funext fun a => ?_)
  match l, a with
  | 0, (t, s) => rfl

theorem defs_eq : Cert.Ffn.defs (F := Bits) = Cert.FfnIdeal.defs (F := Bits) := congrArg (Pipeline.defs Cert.FfnIdeal.pcfgs) tables_eq

theorem frame_kernel : Cert.quiescent_Ffn := fun m ρ _ =>
  (congrArg (fun d => (θ_run d (onTc (τ := Cert.FfnIdeal.τ) (Cert.FfnIdeal.main (F := Bits))) ⟨m, fun _ => 0, ρ⟩) _) defs_eq).mpr
    (Cert.FfnIdeal.Gen.frame (F := Bits) m ρ)
theorem frame_ideal : Cert.quiescent_FfnIdeal := fun m ρ _ => Cert.FfnIdeal.Gen.frame m ρ
theorem frame_reference : Cert.quiescent_FfnRefIdeal := fun m ρ _ =>
  (θ_run Cert.FfnRefIdeal.defs _ _).mono (fun r h => ⟨fun c => (h c).2.2, sem_eq_zero_of_no_sems (by decide) r.2⟩)
    (Cert.FfnRefIdeal.Value.run (F := Ideal) m ρ)

/-- No operation is replaced. -/
theorem preserves : Cert.preserves_Ffn_FfnIdeal := trivial

theorem algebraic : Cert.algebraic_FfnIdeal_FfnRefIdeal := by
  intro m ρ m' ρ' _ hagree
  refine ⟨_, _, Cert.FfnIdeal.Value.run_blocks (F := Ideal) m ρ, ?_⟩
  refine (θ_run Cert.FfnRefIdeal.defs _ _).mono (fun _ h c => ⟨(h c).1.trans ?_, (h c).2.1.trans ?_, (h c).2.2⟩)
    (Cert.FfnRefIdeal.Value.run (F := Ideal) m' ρ')
  · refine Eq.trans ?_ (Cert.FfnIdeal.Terms.result0 m c).symm
    obtain ⟨e0, e1, e2, e3, e4, e5, e6, e7, e8, e9, -, -⟩ := hagree c
    rw [Cert.FfnRefIdeal.Value.res_eq, e0, e1, e2, e3, e4, e5, e6, e7, e8, e9]
    funext y
    obtain ⟨i, e, rfl⟩ : ∃ (i : Fin 16384) (e : Fin 1024), y = ix2 i e := ⟨y 0, y 1, by funext a; match a with | 0 => rfl | 1 => rfl⟩
    have hi : i = (⟨2048 * (⟨i.val / 2048, by omega⟩ : Fin 8).val + (⟨i.val % 2048, by omega⟩ : Fin 2048).val, by simp only; omega⟩ : Fin 16384) :=
      Fin.ext (by simp only; omega)
    refine (congrArg (fun i => Cert.FfnRefIdeal.Value.outR _ _ _ _ _ _ _ _ _ _ (ix2 i e)) hi).trans ?_
    exact Cert.FfnRefIdeal.Value.outR_apply _ _ _ _ _ _ _ _ _ _ _ _ e
  · refine Eq.trans ?_ (Cert.FfnIdeal.Terms.result1 m c).symm
    rw [Cert.FfnIdeal.Gen.V_main_arg11]
    exact (hagree c).2.2.2.2.2.2.2.2.2.2.2

end Cert.Proof.FeedForward

end
-- ==== Proof.Inproj.Body.lean ====
/-
  The input projection's mathematics, one row at a time, and what its kernel's body leaves in its result block.
-/
module

public import proofs.«01_k».proof.Proof.Ffn.Claims
public import proofs.«01_k».proof.Proof.Gen.InprojIdeal.Value

@[expose] public section

set_option maxRecDepth 16384

noncomputable section

namespace Cert.Proj

open Idealize.ShloMosaic

/-- A row through a matrix. -/
def through (h : Fin 1024 → EReal) (w : Fin 1024 → Fin 3584 → EReal) (c : Fin 3584) : EReal := ∑ k, h k * w k c

/-- The column half a head away, within the same head of 128. -/
def across (c : Fin 3584) : Fin 3584 := ⟨c.val - c.val % 128 + (c.val % 128 + 64) % 128, by omega⟩

/-- A column turned with the column half a head away, by tables over a head's columns. -/
def turned (p : Fin 3584 → EReal) (cs sn : Fin 128 → EReal) (c : Fin 3584) : EReal :=
  p c * cs ⟨c.val % 128, by omega⟩ + p (across c) * sn ⟨c.val % 128, by omega⟩

/-- The projected row: the attention's queries scaled, the retention's queries and keys turned, the rest as it is. -/
def projected (q : EReal) (cq sq ck sk : Fin 128 → EReal) (p : Fin 3584 → EReal) (c : Fin 3584) : EReal :=
  if c.val < 512 then p c * q
  else if 1536 ≤ c.val ∧ c.val < 2048 then turned p cq sq c
  else if 2048 ≤ c.val ∧ c.val < 2560 then turned p ck sk c
  else p c

end Cert.Proj

namespace Cert.InprojIdeal.Terms

open Cert.InprojIdeal Cert.InprojIdeal.Gen Cert.Feed Cert.Proj Idealize.ShloMosaic Idealize.SL.Sem
open Cert.FfnIdeal.Terms (ld2 ld3)

/-- A group of columns of the projection. -/
def plain (h : FVec Ideal S1024x1024 .bf16) (w : Vec Ideal S1x1024x512 .f32) : FVec Ideal S1024x512 .bf16 :=
  truncf .bf16 (k0_pay10 h w) bitsLt_bf16_f32

/-- The first group, scaled. -/
def scaled (h : FVec Ideal S1024x1024 .bf16) (w : Vec Ideal S1x1024x512 .f32) : FVec Ideal S1024x512 .bf16 :=
  truncf .bf16 (mulf (k0_pay10 h w) (broadcast S1024x512 (Named.named κ "q_scale" 0x3E38AA3B#32))) bitsLt_bf16_f32

/-- A head turned. -/
def turn (a : FVec Ideal S1024x128 .f32) (cs sn : Vec Ideal S1024x128 .f32) : FVec Ideal S1024x128 .bf16 :=
  truncf .bf16 (addf (mulf a (k0_pay11 cs)) (mulf (dynamicRotate 1 64#32 none a rotates_S1024x128_d1) (k0_pay12 sn))) bitsLt_bf16_f32

/-- The result's block, as the kernel stores it: five groups whole and two by heads. -/
def stores (h : FVec Ideal S1024x1024 .bf16) (w : Vec Ideal S1x1024x3584 .f32) (cq sq ck sk : Vec Ideal S1024x128 .f32) :
    List (View.Piece (Elt Ideal) S1024x3584 .bf16) :=
  [ ⟨Rect.unit ![0, 3072] ![1024, 512] inb_S1024x3584_S1024x512_0_3072, plain h (View.ld w (Rect.unit ![0, 0, 3072] ![1, 1024, 512] inb_S1x1024x3584_S1x1024x512_0_0_3072))⟩,
    ⟨Rect.unit ![0, 2560] ![1024, 512] inb_S1024x3584_S1024x512_0_2560, plain h (View.ld w (Rect.unit ![0, 0, 2560] ![1, 1024, 512] inb_S1x1024x3584_S1x1024x512_0_0_2560))⟩,
    ⟨Rect.unit ![0, 2432] ![1024, 128] inb_S1024x3584_S1024x128_0_2432, turn (extractStridedSlice S1024x128 ![0, 384] (k0_pay10 h (View.ld w (Rect.unit ![0, 0, 2048] ![1, 1024, 512] inb_S1x1024x3584_S1x1024x512_0_0_2048))) slices_S1024x512_o0_384_S1024x128) ck sk⟩,
    ⟨Rect.unit ![0, 2304] ![1024, 128] inb_S1024x3584_S1024x128_0_2304, turn (extractStridedSlice S1024x128 ![0, 256] (k0_pay10 h (View.ld w (Rect.unit ![0, 0, 2048] ![1, 1024, 512] inb_S1x1024x3584_S1x1024x512_0_0_2048))) slices_S1024x512_o0_256_S1024x128) ck sk⟩,
    ⟨Rect.unit ![0, 2176] ![1024, 128] inb_S1024x3584_S1024x128_0_2176, turn (extractStridedSlice S1024x128 ![0, 128] (k0_pay10 h (View.ld w (Rect.unit ![0, 0, 2048] ![1, 1024, 512] inb_S1x1024x3584_S1x1024x512_0_0_2048))) slices_S1024x512_o0_128_S1024x128) ck sk⟩,
    ⟨Rect.unit ![0, 2048] ![1024, 128] inb_S1024x3584_S1024x128_0_2048, turn (extractStridedSlice S1024x128 ![0, 0] (k0_pay10 h (View.ld w (Rect.unit ![0, 0, 2048] ![1, 1024, 512] inb_S1x1024x3584_S1x1024x512_0_0_2048))) slices_S1024x512_o0_0_S1024x128) ck sk⟩,
    ⟨Rect.unit ![0, 1920] ![1024, 128] inb_S1024x3584_S1024x128_0_1920, turn (extractStridedSlice S1024x128 ![0, 384] (k0_pay10 h (View.ld w (Rect.unit ![0, 0, 1536] ![1, 1024, 512] inb_S1x1024x3584_S1x1024x512_0_0_1536))) slices_S1024x512_o0_384_S1024x128) cq sq⟩,
    ⟨Rect.unit ![0, 1792] ![1024, 128] inb_S1024x3584_S1024x128_0_1792, turn (extractStridedSlice S1024x128 ![0, 256] (k0_pay10 h (View.ld w (Rect.unit ![0, 0, 1536] ![1, 1024, 512] inb_S1x1024x3584_S1x1024x512_0_0_1536))) slices_S1024x512_o0_256_S1024x128) cq sq⟩,
    ⟨Rect.unit ![0, 1664] ![1024, 128] inb_S1024x3584_S1024x128_0_1664, turn (extractStridedSlice S1024x128 ![0, 128] (k0_pay10 h (View.ld w (Rect.unit ![0, 0, 1536] ![1, 1024, 512] inb_S1x1024x3584_S1x1024x512_0_0_1536))) slices_S1024x512_o0_128_S1024x128) cq sq⟩,
    ⟨Rect.unit ![0, 1536] ![1024, 128] inb_S1024x3584_S1024x128_0_1536, turn (extractStridedSlice S1024x128 ![0, 0] (k0_pay10 h (View.ld w (Rect.unit ![0, 0, 1536] ![1, 1024, 512] inb_S1x1024x3584_S1x1024x512_0_0_1536))) slices_S1024x512_o0_0_S1024x128) cq sq⟩,
    ⟨Rect.unit ![0, 1024] ![1024, 512] inb_S1024x3584_S1024x512_0_1024, plain h (View.ld w (Rect.unit ![0, 0, 1024] ![1, 1024, 512] inb_S1x1024x3584_S1x1024x512_0_0_1024))⟩,
    ⟨Rect.unit ![0, 512] ![1024, 512] inb_S1024x3584_S1024x512_0_512, plain h (View.ld w (Rect.unit ![0, 0, 512] ![1, 1024, 512] inb_S1x1024x3584_S1x1024x512_0_0_512))⟩,
    ⟨Rect.unit ![0, 0] ![1024, 512] inb_S1024x3584_S1024x512_0_0, scaled h (View.ld w (Rect.unit ![0, 0, 0] ![1, 1024, 512] inb_S1x1024x3584_S1x1024x512_0_0_0))⟩ ]

section Body

variable (c : Dev nD) (i : grid0.Coords)
variable (a1 : Memref sig .tc .vmem S1024x1024 .f32) (h1 : a1.IsWhole) (a2 : Memref sig .tc .vmem S1x6x1024 .f32) (h2 : a2.IsWhole) (a3 : Memref sig .tc .vmem S1x1024 .f32) (h3 : a3.IsWhole)
variable (a4 : Memref sig .tc .vmem S1x1024x3584 .f32) (h4 : a4.IsWhole) (a5 : Memref sig .tc .vmem S1024x128 .f32) (h5 : a5.IsWhole) (a6 : Memref sig .tc .vmem S1024x128 .f32) (h6 : a6.IsWhole)
variable (a7 : Memref sig .tc .vmem S1024x128 .f32) (h7 : a7.IsWhole) (a8 : Memref sig .tc .vmem S1024x128 .f32) (h8 : a8.IsWhole) (a9 : Memref sig .tc .vmem S1024x3584 .bf16) (h9 : a9.IsWhole)
variable (x0 : Vec Ideal S1024x1024 .f32) (x1 : Vec Ideal S1x6x1024 .f32) (x2 : Vec Ideal S1x1024 .f32) (x3 : Vec Ideal S1x1024x3584 .f32) (x4 : Vec Ideal S1024x128 .f32) (x5 : Vec Ideal S1024x128 .f32) (x6 : Vec Ideal S1024x128 .f32) (x7 : Vec Ideal S1024x128 .f32)

theorem out_stores : out0_A_8 (F := Ideal) c i a1 h1 a2 h2 a3 h3 a4 h4 a5 h5 a6 h6 a7 h7 a8 h8 a9 h9 x0 x1 x2 x3 x4 x5 x6 x7
    = View.canon (stores (k0_pay5 x1 x0 x2) x3 x4 x5 x6 x7) := by
  unfold out0_A_8
  rw [View.read_writes_junk_eq_canon]
  unfold kernelRun0_A
  dsimp only
  sl_unfold_words
  simp only [View.readAt_eq_ld, h1.read_unread, h2.read_unread, h3.read_unread, h4.read_unread, h5.read_unread,
    h6.read_unread, h7.read_unread, h8.read_unread, ld2, ld3]
  rfl

end Body

theorem plain_apply (h : FVec Ideal S1024x1024 .bf16) (w : Vec Ideal S1x1024x512 .f32) (r : Fin 1024) (e : Fin 512) :
    plain h w (ix2 r e) = ∑ k, h (ix2 r k) * w (ix3 (0 : Fin 1) k e) := by
  pointwise [plain, k0_pay10]

theorem scaled_apply (h : FVec Ideal S1024x1024 .bf16) (w : Vec Ideal S1x1024x512 .f32) (r : Fin 1024) (e : Fin 512) :
    scaled h w (ix2 r e) = (∑ k, h (ix2 r k) * w (ix3 (0 : Fin 1) k e)) * (((8 * Real.log 2)⁻¹ : ℝ) : EReal) := by
  have hq : (Named.named κ "q_scale" 0x3E38AA3B#32 : Ideal .f32) = (((8 * Real.log 2)⁻¹ : ℝ) : EReal) :=
    IdealRules.named_const.ideal_named_scalar _ _ _ _ rfl
  rw [← hq]
  pointwise [scaled, k0_pay10]

theorem turn_apply (a : FVec Ideal S1024x128 .f32) (cs sn : Vec Ideal S1024x128 .f32) (r : Fin 1024) (e : Fin 128) :
    turn a cs sn (ix2 r e) = a (ix2 r e) * cs (ix2 r e) + a (ix2 r (⟨(e.val + 64) % 128, by omega⟩ : Fin 128)) * sn (ix2 r e) := by
  have h64 : e.val + 128 - 64 = e.val + 64 := by omega
  pointwise [turn, k0_pay11, k0_pay12]
  simp only [h64]

theorem hidden_apply (m : Vec Ideal S1x6x1024 .f32) (x : Vec Ideal S1024x1024 .f32) (g : Vec Ideal S1x1024 .f32) (r e : Fin 1024) :
    k0_pay5 (F := Ideal) m x g (ix2 r e)
      = modulate (fun c => m (ix3 (0 : Fin 1) (0 : Fin 6) c)) (fun c => m (ix3 (0 : Fin 1) (1 : Fin 6) c)) (fun c => g (ix2 (0 : Fin 1) c))
          (fun c => x (ix2 r c)) e := by
  unfold modulate rms
  rw [← Cert.FfnRefIdeal.Value.one_word]
  pointwise [k0_pay5]

theorem ld_group (w : Vec Ideal S1x1024x3584 .f32) (n : Nat) (hn : n + 512 ≤ 3584) (i1) (k : Fin 1024) (e : Fin 512) :
    View.ld w (Rect.unit ![0, 0, n] ![1, 1024, 512] i1) (ix3 (0 : Fin 1) k e) = w (ix3 (0 : Fin 1) k (⟨n + e.val, by omega⟩ : Fin 3584)) :=
  View.ld_unit_apply_of w _ _ _ _ _ fun a => by
    match a with
    | 0 => simp [ix3]
    | 1 => simp [ix3]
    | 2 => simp [ix3]

theorem group_apply (h : FVec Ideal S1024x1024 .bf16) (w : Vec Ideal S1x1024x3584 .f32) (n : Nat) (hn : n + 512 ≤ 3584) (i1) (r : Fin 1024)
    (e : Fin 512) : k0_pay10 (F := Ideal) h (View.ld w (Rect.unit ![0, 0, n] ![1, 1024, 512] i1)) (ix2 r e)
      = through (fun k => h (ix2 r k)) (fun k c => w (ix3 (0 : Fin 1) k c)) ⟨n + e.val, by omega⟩ :=
  (plain_apply h _ r e).trans (Finset.sum_congr rfl fun k _ => congrArg _ (ld_group w n hn i1 k e))

theorem head_apply (h : FVec Ideal S1024x1024 .bf16) (w : Vec Ideal S1x1024x3584 .f32) (n o : Nat) (hn : n + 512 ≤ 3584) (ho : o + 128 ≤ 512)
    (i1) (i2) (r : Fin 1024) (e : Fin 128) :
    extractStridedSlice S1024x128 ![0, o] (k0_pay10 (F := Ideal) h (View.ld w (Rect.unit ![0, 0, n] ![1, 1024, 512] i1))) i2 (ix2 r e)
      = through (fun k => h (ix2 r k)) (fun k c => w (ix3 (0 : Fin 1) k c)) ⟨n + o + e.val, by omega⟩ := by
  have e1 : extractStridedSlice S1024x128 ![0, o] (k0_pay10 (F := Ideal) h (View.ld w (Rect.unit ![0, 0, n] ![1, 1024, 512] i1))) i2 (ix2 r e)
      = k0_pay10 (F := Ideal) h (View.ld w (Rect.unit ![0, 0, n] ![1, 1024, 512] i1)) (ix2 r (⟨o + e.val, by omega⟩ : Fin 512)) := by
    generalize k0_pay10 (F := Ideal) h (View.ld w (Rect.unit ![0, 0, n] ![1, 1024, 512] i1)) = A
    refine congrArg A (funext fun a => Fin.ext ?_)
    match a with
    | 0 => simp [ix2]
    | 1 => simp [ix2]
  rw [e1, group_apply h w n hn i1 r]
  exact congrArg _ (Fin.ext (by simp only; omega))

/-- One entry of the result's block. -/
theorem stores_apply (h : FVec Ideal S1024x1024 .bf16) (w : Vec Ideal S1x1024x3584 .f32) (cq sq ck sk : Vec Ideal S1024x128 .f32)
    (r : Fin 1024) (c : Fin 3584) : View.canon (stores h w cq sq ck sk) (ix2 r c)
      = projected (((8 * Real.log 2)⁻¹ : ℝ) : EReal) (fun e => cq (ix2 r e)) (fun e => sq (ix2 r e)) (fun e => ck (ix2 r e)) (fun e => sk (ix2 r e))
          (through (fun k => h (ix2 r k)) (fun k c => w (ix3 (0 : Fin 1) k c))) c := by
  have keyP : ∀ (n : Nat) (hn : n + 512 ≤ 3584) (hp : 512 ≤ n ∧ n ≤ 1024 ∨ 2560 ≤ n) (i1) (x : S1024x512.Idx), (h0 : r.val = (x 0).val) →
      (h1 : c.val = n + (x 1).val) → plain h (View.ld w (Rect.unit ![0, 0, n] ![1, 1024, 512] i1)) x
        = projected (((8 * Real.log 2)⁻¹ : ℝ) : EReal) (fun e => cq (ix2 r e)) (fun e => sq (ix2 r e)) (fun e => ck (ix2 r e)) (fun e => sk (ix2 r e))
          (through (fun k => h (ix2 r k)) (fun k c => w (ix3 (0 : Fin 1) k c))) c := by
    intro n hn hp i1 x h0 h1
    obtain ⟨a, b, rfl⟩ : ∃ (a : Fin 1024) (b : Fin 512), x = ix2 a b := ⟨x 0, x 1, by funext a; match a with | 0 => rfl | 1 => rfl⟩
    obtain rfl : r = a := Fin.ext h0
    replace h1 : c.val = n + b.val := h1
    unfold projected
    rw [if_neg (by omega), if_neg (by omega), if_neg (by omega)]
    refine (group_apply h w n hn i1 r b).trans (congrArg _ (Fin.ext h1.symm))
  have keyT : ∀ (n o : Nat) (hn : n + 512 ≤ 3584) (ho : o + 128 ≤ 512) (hd : (n + o) % 128 = 0) (i1) (i2) (cs sn : Vec Ideal S1024x128 .f32)
      (x : S1024x128.Idx), (h0 : r.val = (x 0).val) → (h1 : c.val = n + o + (x 1).val) →
      turn (extractStridedSlice S1024x128 ![0, o] (k0_pay10 (F := Ideal) h (View.ld w (Rect.unit ![0, 0, n] ![1, 1024, 512] i1))) i2) cs sn x
        = turned (through (fun k => h (ix2 r k)) (fun k c => w (ix3 (0 : Fin 1) k c))) (fun e => cs (ix2 r e)) (fun e => sn (ix2 r e)) c := by
    intro n o hn ho hd i1 i2 cs sn x h0 h1
    obtain ⟨a, b, rfl⟩ : ∃ (a : Fin 1024) (b : Fin 128), x = ix2 a b := ⟨x 0, x 1, by funext a; match a with | 0 => rfl | 1 => rfl⟩
    obtain rfl : r = a := Fin.ext h0
    replace h1 : c.val = n + o + b.val := h1
    rw [turn_apply, head_apply h w n o hn ho, head_apply h w n o hn ho]
    have hb : (⟨c.val % 128, by omega⟩ : Fin 128) = b := Fin.ext (by simp only; omega)
    unfold turned
    rw [hb]
    refine congrArg₂ (· + ·) (congrArg (· * _) (congrArg _ (Fin.ext h1.symm))) (congrArg (· * _) (congrArg _ (Fin.ext ?_)))
    simp only [across]
    omega
  have inQ : ∀ (P : EReal), (1536 ≤ c.val ∧ c.val < 2048) → P = turned (through (fun k => h (ix2 r k)) (fun k c => w (ix3 (0 : Fin 1) k c))) (fun e => cq (ix2 r e)) (fun e => sq (ix2 r e)) c →
      P = projected (((8 * Real.log 2)⁻¹ : ℝ) : EReal) (fun e => cq (ix2 r e)) (fun e => sq (ix2 r e)) (fun e => ck (ix2 r e)) (fun e => sk (ix2 r e))
          (through (fun k => h (ix2 r k)) (fun k c => w (ix3 (0 : Fin 1) k c))) c := by
    intro P hc e
    unfold projected
    rw [if_neg (by omega), if_pos hc, e]
  have inK : ∀ (P : EReal), (2048 ≤ c.val ∧ c.val < 2560) → P = turned (through (fun k => h (ix2 r k)) (fun k c => w (ix3 (0 : Fin 1) k c))) (fun e => ck (ix2 r e)) (fun e => sk (ix2 r e)) c →
      P = projected (((8 * Real.log 2)⁻¹ : ℝ) : EReal) (fun e => cq (ix2 r e)) (fun e => sq (ix2 r e)) (fun e => ck (ix2 r e)) (fun e => sk (ix2 r e))
          (through (fun k => h (ix2 r k)) (fun k c => w (ix3 (0 : Fin 1) k c))) c := by
    intro P hc e
    unfold projected
    rw [if_neg (by omega), if_neg (by omega), if_pos hc, e]
  have keyS : ∀ (i1) (x : S1024x512.Idx), (h0 : r.val = (x 0).val) → (h1 : c.val = (x 1).val) →
      scaled h (View.ld w (Rect.unit ![0, 0, 0] ![1, 1024, 512] i1)) x
        = projected (((8 * Real.log 2)⁻¹ : ℝ) : EReal) (fun e => cq (ix2 r e)) (fun e => sq (ix2 r e)) (fun e => ck (ix2 r e)) (fun e => sk (ix2 r e))
          (through (fun k => h (ix2 r k)) (fun k c => w (ix3 (0 : Fin 1) k c))) c := by
    intro i1 x h0 h1
    obtain ⟨a, b, rfl⟩ : ∃ (a : Fin 1024) (b : Fin 512), x = ix2 a b := ⟨x 0, x 1, by funext a; match a with | 0 => rfl | 1 => rfl⟩
    obtain rfl : r = a := Fin.ext h0
    replace h1 : c.val = b.val := h1
    unfold projected
    rw [if_pos (by omega)]
    refine (scaled_apply h _ r b).trans (congrArg (· * _) ?_)
    refine ((plain_apply h _ r b).symm.trans (group_apply h w 0 (by decide) i1 r b)).trans (congrArg _ (Fin.ext ?_))
    simp only [h1, Nat.zero_add]
  have hcover := View.cover_of_tiledBy (stores h w cq sq ck sk) ![1024, 128] (by sl_kernel_rfl) (ix2 r c)
  unfold stores at hcover ⊢
  canon_tiles x h using hcover
  case piece0 => exact keyP _ (by decide) (by decide) _ x h0 h1
  case piece1 => exact keyP _ (by decide) (by decide) _ x h0 h1
  case piece10 => exact keyP _ (by decide) (by decide) _ x h0 h1
  case piece11 => exact keyP _ (by decide) (by decide) _ x h0 h1
  case piece12 => exact keyS _ x h0 h1
  all_goals
    have hx : (x 1).val < 128 := (x 1).isLt
    replace h1 : c.val = _ := h1
  case piece2 => exact inK _ (by omega) (keyT 2048 384 (by decide) (by decide) (by decide) _ _ _ _ x h0 h1)
  case piece3 => exact inK _ (by omega) (keyT 2048 256 (by decide) (by decide) (by decide) _ _ _ _ x h0 h1)
  case piece4 => exact inK _ (by omega) (keyT 2048 128 (by decide) (by decide) (by decide) _ _ _ _ x h0 h1)
  case piece5 => exact inK _ (by omega) (keyT 2048 0 (by decide) (by decide) (by decide) _ _ _ _ x h0 h1)
  case piece6 => exact inQ _ (by omega) (keyT 1536 384 (by decide) (by decide) (by decide) _ _ _ _ x h0 h1)
  case piece7 => exact inQ _ (by omega) (keyT 1536 256 (by decide) (by decide) (by decide) _ _ _ _ x h0 h1)
  case piece8 => exact inQ _ (by omega) (keyT 1536 128 (by decide) (by decide) (by decide) _ _ _ _ x h0 h1)
  case piece9 => exact inQ _ (by omega) (keyT 1536 0 (by decide) (by decide) (by decide) _ _ _ _ x h0 h1)

section Out

variable (c : Dev nD) (i : grid0.Coords)
variable (a1 : Memref sig .tc .vmem S1024x1024 .f32) (h1 : a1.IsWhole) (a2 : Memref sig .tc .vmem S1x6x1024 .f32) (h2 : a2.IsWhole) (a3 : Memref sig .tc .vmem S1x1024 .f32) (h3 : a3.IsWhole)
variable (a4 : Memref sig .tc .vmem S1x1024x3584 .f32) (h4 : a4.IsWhole) (a5 : Memref sig .tc .vmem S1024x128 .f32) (h5 : a5.IsWhole) (a6 : Memref sig .tc .vmem S1024x128 .f32) (h6 : a6.IsWhole)
variable (a7 : Memref sig .tc .vmem S1024x128 .f32) (h7 : a7.IsWhole) (a8 : Memref sig .tc .vmem S1024x128 .f32) (h8 : a8.IsWhole) (a9 : Memref sig .tc .vmem S1024x3584 .bf16) (h9 : a9.IsWhole)
variable (x0 : Vec Ideal S1024x1024 .f32) (x1 : Vec Ideal S1x6x1024 .f32) (x2 : Vec Ideal S1x1024 .f32) (x3 : Vec Ideal S1x1024x3584 .f32) (x4 : Vec Ideal S1024x128 .f32) (x5 : Vec Ideal S1024x128 .f32) (x6 : Vec Ideal S1024x128 .f32) (x7 : Vec Ideal S1024x128 .f32)

theorem out_apply (r : Fin 1024) (e : Fin 3584) : out0_A_8 (F := Ideal) c i a1 h1 a2 h2 a3 h3 a4 h4 a5 h5 a6 h6 a7 h7 a8 h8 a9 h9 x0 x1 x2 x3 x4 x5 x6 x7 (ix2 r e)
    = projected (((8 * Real.log 2)⁻¹ : ℝ) : EReal) (fun e => x4 (ix2 r e)) (fun e => x5 (ix2 r e)) (fun e => x6 (ix2 r e)) (fun e => x7 (ix2 r e))
        (through (modulate (fun c => x1 (ix3 (0 : Fin 1) (0 : Fin 6) c)) (fun c => x1 (ix3 (0 : Fin 1) (1 : Fin 6) c)) (fun c => x2 (ix2 (0 : Fin 1) c))
          (fun c => x0 (ix2 r c))) (fun k c => x3 (ix3 (0 : Fin 1) k c))) e := by
  rw [out_stores, stores_apply]
  simp only [hidden_apply]

end Out

end Cert.InprojIdeal.Terms

end
-- ==== Proof.Inproj.Array.lean ====
/-
  The input projection's kernel: its tables, its blocks, and its result, row by row.
-/
module

public import proofs.«01_k».proof.Proof.Inproj.Body

@[expose] public section

set_option maxRecDepth 16384

noncomputable section

namespace Cert.Proj

open Idealize.ShloMosaic

/-- Position `s` times the frequency of lane `d`. -/
def angle (s : Fin 2048) (d : Fin 64) : EReal :=
  FloatOps.sitofp (F := Ideal) .f32 (BitVec.ofNat 32 s.val)
    * Ideal.pow (Ideal.ofBits .f32 0x461C4000#32)
        (Ideal.div (-FloatOps.sitofp (F := Ideal) .f32 (BitVec.ofNat 32 d.val)) (Ideal.ofBits .f32 0x42800000#32))
def cosT (s : Fin 2048) (d : Fin 64) : EReal := Ideal.cos (angle s d)
def sinT (s : Fin 2048) (d : Fin 64) : EReal := Ideal.sin (angle s d)

/-- Two halves of a head's columns. -/
def halves (a b : Fin 64 → EReal) (e : Fin 128) : EReal :=
  if h : e.val < 64 then a ⟨e.val, h⟩ else b ⟨e.val - 64, by omega⟩

/-- The projected row of every row of the batch. -/
def projAll (X : (⟨2, ![16384, 1024]⟩ : Shape).Idx → EReal) (M : (⟨3, ![8, 6, 1024]⟩ : Shape).Idx → EReal)
    (g : (⟨1, ![1024]⟩ : Shape).Idx → EReal) (W : (⟨3, ![2, 1024, 3584]⟩ : Shape).Idx → EReal) (b : Fin 8) (s : Fin 2048) : Fin 3584 → EReal :=
  projected (((8 * Real.log 2)⁻¹ : ℝ) : EReal) (halves (cosT s) (cosT s)) (halves (fun d => -sinT s d) (sinT s))
    (fun e => halves (cosT s) (cosT s) e * Ideal.ofBits .f32 0x3DB504F3#32)
    (fun e => halves (fun d => -sinT s d) (sinT s) e * Ideal.ofBits .f32 0x3DB504F3#32)
    (through (Feed.modulate (fun c => M (ix3 b (0 : Fin 6) c)) (fun c => M (ix3 b (1 : Fin 6) c)) (fun c => g (ix1 c))
      (fun c => X (ix2 (⟨2048 * b.val + s.val, by omega⟩ : Fin 16384) c))) (fun k c => W (ix3 (0 : Fin 2) k c)))

end Cert.Proj

namespace Cert.InprojIdeal.Terms

open Cert.InprojIdeal Cert.InprojIdeal.Gen Cert.Feed Cert.Proj Idealize.ShloMosaic Idealize.SL.Sem

section Run

variable (m : (ℓ : Loc nD τ sig) → Buf (Elt Ideal) ℓ)

theorem coords_lt (t : Fin cfg0.N) : (grid0.coords t 0).val < 16 := (grid0.coords t 0).isLt

theorem index0 : ∀ t : Fin cfg0.N, win0_0.index t = ![(grid0.coords t 0).val, 0] :=
  (by decide +kernel : ∀ t : Fin grid0.N, _)
theorem block0 (c : Dev nD) (t : Fin cfg0.N) (r : Fin 1024) (e : Fin 1024) : iblk m c 0 t (ix2 r e) = V m c main_arg0 (ix2 (⟨1024 * (grid0.coords t 0).val + r.val, by have := coords_lt t; omega⟩ : Fin 16384) e) := by
  blk_simp [iblk, index0]
  refine congrArg _ (funext fun a => Fin.ext ?_)
  match a with
  | 0 => blk_simp [index0]; simp [ix2]; omega
  | 1 => blk_simp [index0]

theorem index1 : ∀ t : Fin cfg0.N, win0_1.index t = ![(grid0.coords t 0).val / 2, 0, 0] :=
  (by decide +kernel : ∀ t : Fin grid0.N, _)
theorem block1 (c : Dev nD) (t : Fin cfg0.N) (z : Fin 1) (r : Fin 6) (e : Fin 1024) : iblk m c 1 t (ix3 z r e) = V m c main_arg1 (ix3 (⟨(grid0.coords t 0).val / 2, by have := coords_lt t; omega⟩ : Fin 8) r e) := by
  blk_simp [iblk, index1]
  refine congrArg _ (funext fun a => Fin.ext ?_)
  match a with
  | 0 => blk_simp [index1]
  | 1 => blk_simp [index1]
  | 2 => blk_simp [index1]

theorem index2 : ∀ t : Fin cfg0.N, win0_2.index t = ![0, 0] :=
  (by decide +kernel : ∀ t : Fin grid0.N, _)
theorem block2 (c : Dev nD) (t : Fin cfg0.N) (r : Fin 1) (e : Fin 1024) : iblk m c 2 t (ix2 r e) = V m c main_v21 (ix2 r e) := by
  blk_simp [iblk, index2]
  refine congrArg _ (funext fun a => Fin.ext ?_)
  match a with
  | 0 => blk_simp [index2]
  | 1 => blk_simp [index2]

theorem index3 : ∀ t : Fin cfg0.N, win0_3.index t = ![0, 0, 0] :=
  (by decide +kernel : ∀ t : Fin grid0.N, _)
theorem block3 (c : Dev nD) (t : Fin cfg0.N) (z : Fin 1) (r : Fin 1024) (e : Fin 3584) : iblk m c 3 t (ix3 z r e) = V m c main_arg3 (ix3 (0 : Fin 2) r e) := by
  blk_simp [iblk, index3]
  refine congrArg _ (funext fun a => Fin.ext ?_)
  match a with
  | 0 => blk_simp [index3]; rfl
  | 1 => blk_simp [index3]
  | 2 => blk_simp [index3]

theorem index4 : ∀ t : Fin cfg0.N, win0_4.index t = ![(grid0.coords t 0).val % 2, 0] :=
  (by decide +kernel : ∀ t : Fin grid0.N, _)
theorem block4 (c : Dev nD) (t : Fin cfg0.N) (r : Fin 1024) (e : Fin 128) : iblk m c 4 t (ix2 r e) = V m c main_v14 (ix2 (⟨1024 * ((grid0.coords t 0).val % 2) + r.val, by omega⟩ : Fin 2048) e) := by
  blk_simp [iblk, index4]
  refine congrArg _ (funext fun a => Fin.ext ?_)
  match a with
  | 0 => blk_simp [index4]; simp [ix2]; omega
  | 1 => blk_simp [index4]

theorem index5 : ∀ t : Fin cfg0.N, win0_5.index t = ![(grid0.coords t 0).val % 2, 0] :=
  (by decide +kernel : ∀ t : Fin grid0.N, _)
theorem block5 (c : Dev nD) (t : Fin cfg0.N) (r : Fin 1024) (e : Fin 128) : iblk m c 5 t (ix2 r e) = V m c main_v16 (ix2 (⟨1024 * ((grid0.coords t 0).val % 2) + r.val, by omega⟩ : Fin 2048) e) := by
  blk_simp [iblk, index5]
  refine congrArg _ (funext fun a => Fin.ext ?_)
  match a with
  | 0 => blk_simp [index5]; simp [ix2]; omega
  | 1 => blk_simp [index5]

theorem index6 : ∀ t : Fin cfg0.N, win0_6.index t = ![(grid0.coords t 0).val % 2, 0] :=
  (by decide +kernel : ∀ t : Fin grid0.N, _)
theorem block6 (c : Dev nD) (t : Fin cfg0.N) (r : Fin 1024) (e : Fin 128) : iblk m c 6 t (ix2 r e) = V m c main_v18 (ix2 (⟨1024 * ((grid0.coords t 0).val % 2) + r.val, by omega⟩ : Fin 2048) e) := by
  blk_simp [iblk, index6]
  refine congrArg _ (funext fun a => Fin.ext ?_)
  match a with
  | 0 => blk_simp [index6]; simp [ix2]; omega
  | 1 => blk_simp [index6]

theorem index7 : ∀ t : Fin cfg0.N, win0_7.index t = ![(grid0.coords t 0).val % 2, 0] :=
  (by decide +kernel : ∀ t : Fin grid0.N, _)
theorem block7 (c : Dev nD) (t : Fin cfg0.N) (r : Fin 1024) (e : Fin 128) : iblk m c 7 t (ix2 r e) = V m c main_v20 (ix2 (⟨1024 * ((grid0.coords t 0).val % 2) + r.val, by omega⟩ : Fin 2048) e) := by
  blk_simp [iblk, index7]
  refine congrArg _ (funext fun a => Fin.ext ?_)
  match a with
  | 0 => blk_simp [index7]; simp [ix2]; omega
  | 1 => blk_simp [index7]

/-- The tables' angles: a position times its lane's frequency. -/
def angles : FVec Ideal S2048x64 .f32 :=
  mulf (broadcastInDim S2048x64 ![0, 1] bcast_S2048x1_S2048x64_0_1 (broadcastInDim S2048x1 ![0] bcast_S2048_S2048x1_0 (sitofp .f32 (iotaInDim S2048 32 0))))
    (broadcastInDim S2048x64 ![0, 1] bcast_S1x64_S2048x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

def catH (a b : FVec Ideal S2048x64 .f32) : FVec Ideal S2048x128 .f32 :=
  concatenate S2048x128 1 [⟨S2048x64, a⟩, ⟨S2048x64, b⟩] concatenates_S2048x64_S2048x64_S2048x128_d1

theorem angles_apply (s : Fin 2048) (d : Fin 64) : angles (ix2 s d) = angle s d := by
  pointwise [angles]
  rfl

theorem catH_low (a b : FVec Ideal S2048x64 .f32) (s : Fin 2048) (d : Fin 64) :
    catH a b (ix2 s (⟨d.val, by omega⟩ : Fin 128)) = a (ix2 s d) := by
  pointwise [catH]

theorem catH_high (a b : FVec Ideal S2048x64 .f32) (s : Fin 2048) (d : Fin 64) :
    catH a b (ix2 s (⟨64 + d.val, by omega⟩ : Fin 128)) = b (ix2 s d) := by
  pointwise [catH]

theorem catH_apply (a b : FVec Ideal S2048x64 .f32) (s : Fin 2048) (e : Fin 128) :
    catH a b (ix2 s e) = halves (fun d => a (ix2 s d)) (fun d => b (ix2 s d)) e := by
  unfold halves
  split
  · exact catH_low a b s ⟨e.val, by omega⟩
  · refine Eq.trans (congrArg (fun e => catH a b (ix2 s e)) (Fin.ext ?_)) (catH_high a b s ⟨e.val - 64, by omega⟩)
    simp only
    omega

theorem cos_twice (s : Fin 2048) (e : Fin 128) : catH (Host.cos angles) (Host.cos angles) (ix2 s e) = halves (cosT s) (cosT s) e := by
  rw [catH_apply]
  exact congrArg₂ (fun a b => halves a b e) (funext fun d => congrArg Ideal.cos (angles_apply s d))
    (funext fun d => congrArg Ideal.cos (angles_apply s d))

theorem sin_signed (s : Fin 2048) (e : Fin 128) :
    catH (Host.negf (Host.sin angles)) (Host.sin angles) (ix2 s e) = halves (fun d => -sinT s d) (sinT s) e := by
  rw [catH_apply]
  exact congrArg₂ (fun a b => halves a b e) (funext fun d => congrArg (fun z => -Ideal.sin z) (angles_apply s d))
    (funext fun d => congrArg Ideal.sin (angles_apply s d))

theorem V_v14 (c : Dev nD) (s : Fin 2048) (e : Fin 128) : V m c main_v14 (ix2 s e) = halves (cosT s) (cosT s) e := by
  have h : V m c main_v14 = catH (Host.cos angles) (Host.cos angles) := by
    show StableHlo.after hostOps0 _ (Proc.devRef .tc main_v14) = _
    after_results
    rfl
  rw [h, cos_twice]

theorem V_v16 (c : Dev nD) (s : Fin 2048) (e : Fin 128) : V m c main_v16 (ix2 s e) = halves (fun d => -sinT s d) (sinT s) e := by
  have h : V m c main_v16 = catH (Host.negf (Host.sin angles)) (Host.sin angles) := by
    show StableHlo.after hostOps0 _ (Proc.devRef .tc main_v16) = _
    after_results
    rfl
  rw [h, sin_signed]

/-- A table times the scale of the retention's keys. -/
def keyed (a : FVec Ideal S2048x128 .f32) : FVec Ideal S2048x128 .f32 :=
  mulf a (broadcastInDim S2048x128 ![] bcast_S_S2048x128 (constant S_ .f32 0x3DB504F3#32))

theorem V_v18 (c : Dev nD) (s : Fin 2048) (e : Fin 128) :
    V m c main_v18 (ix2 s e) = halves (cosT s) (cosT s) e * Ideal.ofBits .f32 0x3DB504F3#32 := by
  have h : V m c main_v18 = keyed (catH (Host.cos angles) (Host.cos angles)) := by
    show StableHlo.after hostOps0 _ (Proc.devRef .tc main_v18) = _
    after_results
    rfl
  rw [h, ← cos_twice]
  rfl

theorem V_v20 (c : Dev nD) (s : Fin 2048) (e : Fin 128) :
    V m c main_v20 (ix2 s e) = halves (fun d => -sinT s d) (sinT s) e * Ideal.ofBits .f32 0x3DB504F3#32 := by
  have h : V m c main_v20 = keyed (catH (Host.negf (Host.sin angles)) (Host.sin angles)) := by
    show StableHlo.after hostOps0 _ (Proc.devRef .tc main_v20) = _
    after_results
    rfl
  rw [h, ← sin_signed]
  rfl

theorem V_v21 (c : Dev nD) (k : Fin 1024) : V m c main_v21 (ix2 (0 : Fin 1) k) = m ((c.tc : Thread nD τ).loc main_arg2) (ix1 k) := by
  have e : V m c main_v21 = shapeCast S1x1024 (m ((c.tc : Thread nD τ).loc main_arg2)) shapeCasts_S1024_S1x1024 := by
    show StableHlo.after hostOps0 _ (Proc.devRef .tc main_v21) = _
    after_results
    rfl
  rw [e]
  pointwise []

/-- The rows of a launch's arguments, projected. -/
def projOf (c : Dev nD) (b : Fin 8) (s : Fin 2048) : Fin 3584 → EReal :=
  projAll (m ((c.tc : Thread nD τ).loc main_arg0)) (m ((c.tc : Thread nD τ).loc main_arg1)) (m ((c.tc : Thread nD τ).loc main_arg2))
    (m ((c.tc : Thread nD τ).loc main_arg3)) b s

/-- The result's array. -/
def projRows (c : Dev nD) : S16384x3584.Idx → EReal := fun i =>
  projOf m c ⟨(i 0).val / 2048, by have := (i 0).isLt; simp at this; omega⟩ ⟨(i 0).val % 2048, by omega⟩ (i 1)

theorem index8 : ∀ t : Fin cfg0.N, win0_8.index t = ![(grid0.coords t 0).val, 0] :=
  (by decide +kernel : ∀ t : Fin grid0.N, _)

/-- What a grid point leaves in its block of the result. -/
theorem after_apply (c : Dev nD) (t : Fin cfg0.N) (r : Fin 1024) (e : Fin 3584) : outsAt0 m c t (ix2 r e)
    = projected (((8 * Real.log 2)⁻¹ : ℝ) : EReal) (fun e => iblk m c 4 t (ix2 r e)) (fun e => iblk m c 5 t (ix2 r e))
        (fun e => iblk m c 6 t (ix2 r e)) (fun e => iblk m c 7 t (ix2 r e))
        (through (modulate (fun c' => iblk m c 1 t (ix3 (0 : Fin 1) (0 : Fin 6) c')) (fun c' => iblk m c 1 t (ix3 (0 : Fin 1) (1 : Fin 6) c'))
          (fun c' => iblk m c 2 t (ix2 (0 : Fin 1) c')) (fun c' => iblk m c 0 t (ix2 r c'))) (fun k c' => iblk m c 3 t (ix3 (0 : Fin 1) k c'))) e := by
  simp only [outsAt0]
  exact out_apply _ _ _ _ _ _ _ _ _ _ _ _ _ _ _ _ _ _ _ _ _ _ _ _ _ _ _ _ r e

theorem after_row (c : Dev nD) (t : Fin cfg0.N) (r : Fin 1024) (e : Fin 3584) : outsAt0 m c t (ix2 r e)
    = projOf m c ⟨(grid0.coords t 0).val / 2, by have := coords_lt t; omega⟩
        ⟨1024 * ((grid0.coords t 0).val % 2) + r.val, by omega⟩ e := by
  have hc := coords_lt t
  have hr : (⟨1024 * (grid0.coords t 0).val + r.val, by omega⟩ : Fin 16384)
      = ⟨2048 * ((grid0.coords t 0).val / 2) + (1024 * ((grid0.coords t 0).val % 2) + r.val), by omega⟩ := Fin.ext (by simp only; omega)
  have e0 : ∀ k, iblk m c 0 t (ix2 r k) = m ((c.tc : Thread nD τ).loc main_arg0) (ix2 (⟨2048 * ((grid0.coords t 0).val / 2) + (1024 * ((grid0.coords t 0).val % 2) + r.val), by omega⟩ : Fin 16384) k) := fun k =>
    (block0 m c t r k).trans ((congrFun (V_main_arg0 m c) _).trans (congrArg (fun r => m ((c.tc : Thread nD τ).loc main_arg0) (ix2 r k)) hr))
  have e1 : ∀ j k, iblk m c 1 t (ix3 (0 : Fin 1) j k)
      = m ((c.tc : Thread nD τ).loc main_arg1) (ix3 (⟨(grid0.coords t 0).val / 2, by omega⟩ : Fin 8) j k) := fun j k =>
    (block1 m c t 0 j k).trans (congrFun (V_main_arg1 m c) _)
  have e2 : ∀ k, iblk m c 2 t (ix2 (0 : Fin 1) k) = m ((c.tc : Thread nD τ).loc main_arg2) (ix1 k) := fun k =>
    (block2 m c t 0 k).trans (V_v21 m c k)
  have e3 : ∀ k e, iblk m c 3 t (ix3 (0 : Fin 1) k e) = m ((c.tc : Thread nD τ).loc main_arg3) (ix3 (0 : Fin 2) k e) := fun k e =>
    (block3 m c t 0 k e).trans (congrFun (V_main_arg3 m c) _)
  refine (after_apply m c t r e).trans ?_
  unfold projOf projAll
  rw [funext e0, funext (e1 0), funext (e1 1), funext e2, funext fun k => funext (e3 k),
    funext fun e => (block4 m c t r e).trans (V_v14 m c _ e), funext fun e => (block5 m c t r e).trans (V_v16 m c _ e),
    funext fun e => (block6 m c t r e).trans (V_v18 m c _ e), funext fun e => (block7 m c t r e).trans (V_v20 m c _ e)]

theorem projOf_congr (c : Dev nD) {b b' : Fin 8} {s s' : Fin 2048} {e e' : Fin 3584} (hb : b = b') (hs : s = s') (he : e = e') :
    projOf m c b s e = projOf m c b' s' e' := by
  subst hb hs he
  rfl

theorem result (c : Dev nD) : (dats m 0 c).arrAt 8 cfg0.N = projRows m c := by
  refine (dats m 0 c).arrAt_eq_of_covers 8 _ (by decide +kernel) fun t hf y => ?_
  blk_simp
  rw [after0_8]
  obtain ⟨r, e, rfl⟩ : ∃ (r : Fin 1024) (e : Fin 3584), y = ix2 r e :=
    ⟨y 0, y 1, by funext a; match a with | 0 => rfl | 1 => rfl⟩
  have hc := coords_lt t
  refine (after_row m c t r e).trans ?_
  have h0 : (((win0_8.blk t).view.emb (ix2 r e)) 0).val = 1024 * (grid0.coords t 0).val + r.val := by
    blk_simp [index8]; simp [ix2]; omega
  have h1 : ((win0_8.blk t).view.emb (ix2 r e)) 1 = e := Fin.ext (by blk_simp [index8])
  exact projOf_congr m c (Fin.ext (by simp only [h0]; omega)) (Fin.ext (by simp only [h0]; omega)) h1.symm

end Run

end Cert.InprojIdeal.Terms

end
-- ==== Proof.Inproj.Reference.lean ====
/-
  The input projection's reference, row by row.
-/
module

public import proofs.«01_k».proof.Proof.Inproj.Array
public import proofs.«01_k».proof.Proof.Gen.InprojRefIdeal.Run

@[expose] public section

set_option maxRecDepth 16384

noncomputable section

namespace Cert.Proj

open Idealize.ShloMosaic

variable (p : Fin 3584 → EReal) (C S : Fin 64 → EReal)

theorem halves_low (a b : Fin 64 → EReal) (d : Fin 64) (e : Fin 128) (h : e.val = d.val) : halves a b e = a d := by
  unfold halves
  rw [dif_pos (by omega)]
  exact congrArg a (Fin.ext h)

theorem halves_high (a b : Fin 64 → EReal) (d : Fin 64) (e : Fin 128) (h : e.val = 64 + d.val) : halves a b e = b d := by
  unfold halves
  rw [dif_neg (by omega)]
  exact congrArg b (Fin.ext (by simp only; omega))

theorem turned_low (c c' : Fin 3584) (d : Fin 64) (hc : c.val % 128 = d.val) (hc' : c'.val = c.val + 64) :
    turned p (halves C C) (halves (fun d => -S d) S) c = p c * C d - p c' * S d := by
  have ha : across c = c' := Fin.ext (by simp only [across]; omega)
  unfold turned
  rw [ha, halves_low _ _ d _ hc, halves_low _ _ d _ hc, mul_neg, sub_eq_add_neg]

theorem turned_high (c c' : Fin 3584) (d : Fin 64) (hc : c.val % 128 = 64 + d.val) (hc' : c'.val + 64 = c.val) :
    turned p (halves C C) (halves (fun d => -S d) S) c = p c' * S d + p c * C d := by
  have ha : across c = c' := Fin.ext (by simp only [across]; omega)
  unfold turned
  rw [ha, halves_high _ _ d _ hc, halves_high _ _ d _ hc, add_comm]

/-- A factor on both tables is a factor on the turned column. -/
theorem turned_scaled (cs sn : Fin 128 → EReal) (κ : EReal) (h0 : 0 ≤ κ) (ht : κ ≠ ⊤) (c : Fin 3584) :
    turned p (fun e => cs e * κ) (fun e => sn e * κ) c = turned p cs sn c * κ := by
  unfold turned
  rw [EReal.right_distrib_of_nonneg_of_ne_top h0 ht, mul_assoc, mul_assoc]

end Cert.Proj

namespace Cert.InprojRefIdeal.Value

open Cert.InprojRefIdeal Cert.InprojRefIdeal.Gen Cert.Feed Cert.Proj Idealize.ShloMosaic Idealize.SL.Sem Idealize.ShloMosaic.StableHlo

variable (X : Vec Ideal S16384x1024 .f32) (M : Vec Ideal S8x6x1024 .f32) (g : Vec Ideal S1024 .f32) (W : Vec Ideal S2x1024x3584 .f32)

/-- The normalised and modulated rows. -/
def hidR (Z : FVec Ideal S8x2048x1024 .f32) : FVec Ideal S8x2048x1024 .f32 :=
  addf (mulf (mulf (mulf Z (broadcastInDim S8x2048x1024 ![0, 1, 2] bcast_S8x2048x1_S8x2048x1024_0_1_2 (Host.rsqrt (addf
      (Host.divf (broadcastInDim S8x2048x1 ![0, 1] bcast_S8x2048_S8x2048x1_0_1 (Host.reduceAdd (mulf Z Z)
        (constant S_ .f32 0x00000000#32) reducesTo_S8x2048x1024_S8x2048_d2 h_S_)) (broadcastInDim S8x2048x1 ![] bcast_S_S8x2048x1 (constant S_ .f32 0x44800000#32)))
      (broadcastInDim S8x2048x1 ![] bcast_S_S8x2048x1 (constant S_ .f32 0x358637BD#32))))))
      (broadcastInDim S8x2048x1024 ![0, 1, 2] bcast_S1x1x1024_S8x2048x1024_0_1_2 (broadcastInDim S1x1x1024 ![2] bcast_S1024_S1x1x1024_2 g)))
    (broadcastInDim S8x2048x1024 ![0, 1, 2] bcast_S8x1x1024_S8x2048x1024_0_1_2 (addf (broadcastInDim S8x1x1024 ![] bcast_S_S8x1x1024 (constant S_ .f32 0x3F800000#32))
      (broadcastInDim S8x1x1024 ![0, 2] bcast_S8x1024_S8x1x1024_0_2
        (shapeCast S8x1024 (extractStridedSlice S8x1x1024 ![0, 1, 0] M slices_S8x6x1024_S8x1x1024_0_1_0) shapeCasts_S8x1x1024_S8x1024)))))
    (broadcastInDim S8x2048x1024 ![0, 1, 2] bcast_S8x1x1024_S8x2048x1024_0_1_2 (broadcastInDim S8x1x1024 ![0, 2] bcast_S8x1024_S8x1x1024_0_2
      (shapeCast S8x1024 (extractStridedSlice S8x1x1024 ![0, 0, 0] M slices_S8x6x1024_S8x1x1024_0_0_0) shapeCasts_S8x1x1024_S8x1024)))

/-- The projection. -/
def projR : FVec Ideal S8x2048x3584 .f32 :=
  Host.dotGeneral (φ₁ := .f32) (φ₂ := .f32) dot_S8x2048x1024_S1024x3584_S8x2048x3584_2_0_01_1_n_n none
    (hidR M g (shapeCast S8x2048x1024 X shapeCasts_S16384x1024_S8x2048x1024))
    (shapeCast S1024x3584 (extractStridedSlice S1x1024x3584 ![0, 0, 0] W slices_S2x1024x3584_S1x1024x3584_0_0_0) shapeCasts_S1x1024x3584_S1024x3584)

/-- The angles of every position and lane. -/
def angR : FVec Ideal S2048x64 .f32 :=
  mulf (broadcastInDim S2048x64 ![0, 1] bcast_S2048x1_S2048x64_0_1 (broadcastInDim S2048x1 ![0] bcast_S2048_S2048x1_0 (sitofp .f32 (iotaInDim S2048 32 0))))
    (broadcastInDim S2048x64 ![0, 1] bcast_S1x64_S2048x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

/-- A table of positions and lanes, over all heads of all batch rows. -/
def overR (t : FVec Ideal S2048x64 .f32) : FVec Ideal S8x2048x4x64 .f32 :=
  broadcastInDim S8x2048x4x64 ![0, 1, 2, 3] bcast_S1x2048x1x64_S8x2048x4x64_0_1_2_3 (broadcastInDim S1x2048x1x64 ![1, 3] bcast_S2048x64_S1x2048x1x64_1_3 t)

def lowR (G : FVec Ideal S8x2048x512 .f32) : FVec Ideal S8x2048x4x64 .f32 :=
  extractStridedSlice S8x2048x4x64 ![0, 0, 0, 0] (shapeCast S8x2048x4x128 G shapeCasts_S8x2048x512_S8x2048x4x128) slices_S8x2048x4x128_S8x2048x4x64_0_0_0_0
def highR (G : FVec Ideal S8x2048x512 .f32) : FVec Ideal S8x2048x4x64 .f32 :=
  extractStridedSlice S8x2048x4x64 ![0, 0, 0, 64] (shapeCast S8x2048x4x128 G shapeCasts_S8x2048x512_S8x2048x4x128) slices_S8x2048x4x128_S8x2048x4x64_0_0_0_64

def catT (a b : FVec Ideal S8x2048x4x64 .f32) : FVec Ideal S8x2048x4x128 .f32 :=
  concatenate S8x2048x4x128 3 [⟨S8x2048x4x64, a⟩, ⟨S8x2048x4x64, b⟩] concatenates_S8x2048x4x64_S8x2048x4x64_S8x2048x4x128_d3

/-- A group of four heads, turned by the angles. -/
def turnR (G : FVec Ideal S8x2048x512 .f32) : FVec Ideal S8x2048x4x128 .f32 :=
  catT (subf (mulf (lowR G) (overR (Host.cos angR))) (mulf (highR G) (overR (Host.sin angR))))
    (addf (mulf (lowR G) (overR (Host.sin angR))) (mulf (highR G) (overR (Host.cos angR))))

def catG (u0 u1 u2 u3 u4 u5 u6 : FVec Ideal S8x2048x512 .f32) : FVec Ideal S8x2048x3584 .f32 :=
  concatenate S8x2048x3584 2 [⟨S8x2048x512, u0⟩, ⟨S8x2048x512, u1⟩, ⟨S8x2048x512, u2⟩, ⟨S8x2048x512, u3⟩, ⟨S8x2048x512, u4⟩, ⟨S8x2048x512, u5⟩, ⟨S8x2048x512, u6⟩]
    concatenates_S8x2048x512_S8x2048x512_S8x2048x512_S8x2048x512_S8x2048x512_S8x2048x512_S8x2048x512_S8x2048x3584_d2

/-- The attention's queries, scaled. -/
def queryR (G : FVec Ideal S8x2048x512 .f32) : FVec Ideal S8x2048x512 .f32 :=
  Host.divf (mulf G (broadcastInDim S8x2048x512 ![] bcast_S_S8x2048x512 (constant S_ .f32 0x3E000000#32)))
    (broadcastInDim S8x2048x512 ![] bcast_S_S8x2048x512 (Host.log (constant S_ .f32 0x40000000#32)))

/-- The seven groups of a projection's columns, as the reference leaves them. -/
def groupsR (P : FVec Ideal S8x2048x3584 .f32) : FVec Ideal S8x2048x3584 .f32 :=
  catG (queryR (extractStridedSlice S8x2048x512 ![0, 0, 0] P slices_S8x2048x3584_S8x2048x512_0_0_0))
    (extractStridedSlice S8x2048x512 ![0, 0, 512] P slices_S8x2048x3584_S8x2048x512_0_0_512)
    (extractStridedSlice S8x2048x512 ![0, 0, 1024] P slices_S8x2048x3584_S8x2048x512_0_0_1024)
    (shapeCast S8x2048x512 (turnR (extractStridedSlice S8x2048x512 ![0, 0, 1536] P slices_S8x2048x3584_S8x2048x512_0_0_1536)) shapeCasts_S8x2048x4x128_S8x2048x512)
    (shapeCast S8x2048x512 (mulf (turnR (extractStridedSlice S8x2048x512 ![0, 0, 2048] P slices_S8x2048x3584_S8x2048x512_0_0_2048))
      (broadcastInDim S8x2048x4x128 ![] bcast_S_S8x2048x4x128 (constant S_ .f32 0x3DB504F3#32))) shapeCasts_S8x2048x4x128_S8x2048x512)
    (extractStridedSlice S8x2048x512 ![0, 0, 2560] P slices_S8x2048x3584_S8x2048x512_0_0_2560)
    (extractStridedSlice S8x2048x512 ![0, 0, 3072] P slices_S8x2048x3584_S8x2048x512_0_0_3072)

/-- The reference's result, from its arguments. -/
def outR : FVec Ideal S16384x3584 .bf16 :=
  truncf .bf16 (shapeCast S16384x3584 (groupsR (projR X M g W)) shapeCasts_S8x2048x3584_S16384x3584) bitsLt_bf16_f32

theorem res_eq (m : (ℓ : Loc nD τ sig) → Buf (Elt Ideal) ℓ) (c : Dev nD) : res_main_v107 m c
    = outR (m ((c.tc : Thread nD τ).loc main_arg0)) (m ((c.tc : Thread nD τ).loc main_arg1)) (m ((c.tc : Thread nD τ).loc main_arg2))
        (m ((c.tc : Thread nD τ).loc main_arg3)) := by
  unfold res_main_v107 outR groupsR queryR catG turnR catT lowR highR overR angR projR hidR
  rfl

theorem projR_apply (b : Fin 8) (r : Fin 2048) (c : Fin 3584) : projR X M g W (ix3 b r c)
    = through (modulate (fun c => M (ix3 b (0 : Fin 6) c)) (fun c => M (ix3 b (1 : Fin 6) c)) (fun c => g (ix1 c))
        (fun c => X (ix2 (⟨2048 * b.val + r.val, by omega⟩ : Fin 16384) c))) (fun k c => W (ix3 (0 : Fin 2) k c)) c := by
  have hh : ∀ (Z : FVec Ideal S8x2048x1024 .f32) (k : Fin 1024), hidR M g Z (ix3 b r k)
      = modulate (fun c => M (ix3 b (0 : Fin 6) c)) (fun c => M (ix3 b (1 : Fin 6) c)) (fun c => g (ix1 c)) (fun c => Z (ix3 b r c)) k := by
    intro Z k
    unfold modulate rms
    rw [← Cert.FfnRefIdeal.Value.one_word]
    pointwise [hidR]
  have hx : ∀ k : Fin 1024, shapeCast S8x2048x1024 X shapeCasts_S16384x1024_S8x2048x1024 (ix3 b r k)
      = X (ix2 (⟨2048 * b.val + r.val, by omega⟩ : Fin 16384) k) := by
    intro k
    pointwise []
    simp only [Nat.mul_comm b.val 2048]
  unfold projR through
  rw [← funext hx, ← funext (hh _)]
  generalize hidR M g (shapeCast S8x2048x1024 X shapeCasts_S16384x1024_S8x2048x1024) = H
  pointwise []

theorem angR_apply (s : Fin 2048) (d : Fin 64) : angR (ix2 s d) = angle s d := by
  pointwise [angR]
  rfl

section Turn

variable (P : FVec Ideal S8x2048x3584 .f32) (G : FVec Ideal S8x2048x512 .f32) (b : Fin 8) (r : Fin 2048) (h : Fin 4) (d : Fin 64)

theorem overR_apply (t : FVec Ideal S2048x64 .f32) : overR t (ix4 b r h d) = t (ix2 r d) := by
  pointwise [overR]

theorem lowR_apply : lowR G (ix4 b r h d) = G (ix3 b r (⟨128 * h.val + d.val, by omega⟩ : Fin 512)) := by
  pointwise [lowR]
  simp only [Nat.mul_comm h.val 128]

theorem highR_apply : highR G (ix4 b r h d) = G (ix3 b r (⟨128 * h.val + 64 + d.val, by omega⟩ : Fin 512)) := by
  pointwise [highR]
  simp only [Nat.mul_comm h.val 128, Nat.add_assoc]

theorem catT_low (u v : FVec Ideal S8x2048x4x64 .f32) : catT u v (ix4 b r h (⟨d.val, by omega⟩ : Fin 128)) = u (ix4 b r h d) := by
  pointwise [catT]

theorem catT_high (u v : FVec Ideal S8x2048x4x64 .f32) : catT u v (ix4 b r h (⟨64 + d.val, by omega⟩ : Fin 128)) = v (ix4 b r h d) := by
  pointwise [catT]

theorem over_cos : overR (Host.cos angR) (ix4 b r h d) = cosT r d := (overR_apply b r h d _).trans (congrArg Ideal.cos (angR_apply r d))
theorem over_sin : overR (Host.sin angR) (ix4 b r h d) = sinT r d := (overR_apply b r h d _).trans (congrArg Ideal.sin (angR_apply r d))

theorem turnR_low : turnR G (ix4 b r h (⟨d.val, by omega⟩ : Fin 128))
    = G (ix3 b r (⟨128 * h.val + d.val, by omega⟩ : Fin 512)) * cosT r d
      - G (ix3 b r (⟨128 * h.val + 64 + d.val, by omega⟩ : Fin 512)) * sinT r d := by
  rw [← over_cos b r h d, ← over_sin b r h d, ← lowR_apply G b r h d, ← highR_apply G b r h d]
  exact catT_low b r h d _ _

theorem turnR_high : turnR G (ix4 b r h (⟨64 + d.val, by omega⟩ : Fin 128))
    = G (ix3 b r (⟨128 * h.val + d.val, by omega⟩ : Fin 512)) * sinT r d
      + G (ix3 b r (⟨128 * h.val + 64 + d.val, by omega⟩ : Fin 512)) * cosT r d := by
  rw [← over_cos b r h d, ← over_sin b r h d, ← lowR_apply G b r h d, ← highR_apply G b r h d]
  exact catT_high b r h d _ _

theorem group_apply (n : Nat) (hn : n + 512 ≤ 3584) (i1) (e : Fin 512) :
    extractStridedSlice S8x2048x512 ![0, 0, n] P i1 (ix3 b r e) = P (ix3 b r (⟨n + e.val, by omega⟩ : Fin 3584)) := by
  refine congrArg P (funext fun a => Fin.ext ?_)
  match a with
  | 0 => simp [ix3]
  | 1 => simp [ix3]
  | 2 => simp [ix3]

/-- One entry of a turned group. -/
theorem turnR_apply (n : Nat) (hn : n + 512 ≤ 3584) (hd : n % 128 = 0) (i1) (e : Fin 128) :
    turnR (extractStridedSlice S8x2048x512 ![0, 0, n] P i1) (ix4 b r h e)
      = turned (fun c => P (ix3 b r c)) (halves (cosT r) (cosT r)) (halves (fun d => -sinT r d) (sinT r)) ⟨n + (128 * h.val + e.val), by omega⟩ := by
  rcases Nat.lt_or_ge e.val 64 with he | he
  · refine (turnR_low _ b r h ⟨e.val, he⟩).trans ?_
    rw [group_apply P b r n hn, group_apply P b r n hn]
    refine (turned_low (fun c => P (ix3 b r c)) (cosT r) (sinT r) _ _ ⟨e.val, he⟩ ?_ ?_).symm
    · simp only; omega
    · simp only; omega
  · have h64 : e = (⟨64 + (⟨e.val - 64, by omega⟩ : Fin 64).val, by simp only; omega⟩ : Fin 128) := Fin.ext (by simp only; omega)
    refine (congrArg (fun e => turnR (extractStridedSlice S8x2048x512 ![0, 0, n] P i1) (ix4 b r h e)) h64).trans ?_
    refine (turnR_high _ b r h ⟨e.val - 64, by omega⟩).trans ?_
    rw [group_apply P b r n hn, group_apply P b r n hn]
    have hc : (⟨n + (128 * h.val + 64 + (⟨e.val - 64, by omega⟩ : Fin 64).val), by simp only; omega⟩ : Fin 3584)
        = ⟨n + (128 * h.val + e.val), by omega⟩ := Fin.ext (by simp only; omega)
    refine Eq.trans ?_ (turned_high (fun c => P (ix3 b r c)) (cosT r) (sinT r) _
      ⟨n + (128 * h.val + (⟨e.val - 64, by omega⟩ : Fin 64).val), by simp only; omega⟩ ⟨e.val - 64, by omega⟩ ?_ ?_).symm
    · rw [← hc]
    · simp only; omega
    · simp only; omega

theorem flat_apply (T : FVec Ideal S8x2048x4x128 .f32) (e : Fin 512) : shapeCast S8x2048x512 T shapeCasts_S8x2048x4x128_S8x2048x512 (ix3 b r e)
    = T (ix4 b r (⟨e.val / 128, by omega⟩ : Fin 4) (⟨e.val % 128, by omega⟩ : Fin 128)) := by
  pointwise []

theorem turned_group (n : Nat) (hn : n + 512 ≤ 3584) (hd : n % 128 = 0) (i1) (e : Fin 512) :
    shapeCast S8x2048x512 (turnR (extractStridedSlice S8x2048x512 ![0, 0, n] P i1)) shapeCasts_S8x2048x4x128_S8x2048x512 (ix3 b r e)
      = turned (fun c => P (ix3 b r c)) (halves (cosT r) (cosT r)) (halves (fun d => -sinT r d) (sinT r)) ⟨n + e.val, by omega⟩ := by
  rw [flat_apply, turnR_apply P b r _ n hn hd]
  exact congrArg _ (Fin.ext (by simp only; omega))

theorem keyed_group (n : Nat) (hn : n + 512 ≤ 3584) (hd : n % 128 = 0) (i1) (e : Fin 512) :
    shapeCast S8x2048x512 (mulf (turnR (extractStridedSlice S8x2048x512 ![0, 0, n] P i1))
        (broadcastInDim S8x2048x4x128 ![] bcast_S_S8x2048x4x128 (constant S_ .f32 0x3DB504F3#32))) shapeCasts_S8x2048x4x128_S8x2048x512 (ix3 b r e)
      = turned (fun c => P (ix3 b r c)) (fun e => halves (cosT r) (cosT r) e * Ideal.ofBits .f32 0x3DB504F3#32)
          (fun e => halves (fun d => -sinT r d) (sinT r) e * Ideal.ofBits .f32 0x3DB504F3#32) ⟨n + e.val, by omega⟩ := by
  have hk : ∃ k : ℝ, 0 ≤ k ∧ (Ideal.ofBits .f32 0x3DB504F3#32 : EReal) = (k : EReal) := by
    refine ⟨_, ?_, by simp only [Ideal.ofBits, Ideal.ieee]; simp [-EReal.coe_mul]; rfl⟩
    norm_num
  obtain ⟨k, hk0, hk⟩ := hk
  rw [hk, turned_scaled _ _ _ _ (EReal.coe_nonneg.mpr hk0) (EReal.coe_ne_top k), ← hk, ← turned_group P b r n hn hd i1 e, flat_apply, flat_apply]
  rfl

end Turn

section Groups

variable (u0 u1 u2 u3 u4 u5 u6 : FVec Ideal S8x2048x512 .f32) (b : Fin 8) (r : Fin 2048) (e : Fin 512)

theorem groups0 : catG u0 u1 u2 u3 u4 u5 u6 (ix3 b r (⟨e.val, by omega⟩ : Fin 3584)) = u0 (ix3 b r e) := by
  pointwise [catG]

theorem groups1 : catG u0 u1 u2 u3 u4 u5 u6 (ix3 b r (⟨512 + e.val, by omega⟩ : Fin 3584)) = u1 (ix3 b r e) := by
  pointwise [catG]

theorem groups2 : catG u0 u1 u2 u3 u4 u5 u6 (ix3 b r (⟨1024 + e.val, by omega⟩ : Fin 3584)) = u2 (ix3 b r e) := by
  pointwise [catG]
  rw [dif_neg (by omega), dif_neg (by omega), dif_pos (by omega)]
  exact congrArg (fun e => u2 (ix3 b r e)) (Fin.ext (by simp only; omega))

theorem groups3 : catG u0 u1 u2 u3 u4 u5 u6 (ix3 b r (⟨1536 + e.val, by omega⟩ : Fin 3584)) = u3 (ix3 b r e) := by
  pointwise [catG]
  rw [dif_neg (by omega), dif_neg (by omega), dif_neg (by omega), dif_pos (by omega)]
  exact congrArg (fun e => u3 (ix3 b r e)) (Fin.ext (by simp only; omega))

theorem groups4 : catG u0 u1 u2 u3 u4 u5 u6 (ix3 b r (⟨2048 + e.val, by omega⟩ : Fin 3584)) = u4 (ix3 b r e) := by
  pointwise [catG]
  rw [dif_neg (by omega), dif_neg (by omega), dif_neg (by omega), dif_neg (by omega), dif_pos (by omega)]
  exact congrArg (fun e => u4 (ix3 b r e)) (Fin.ext (by simp only; omega))

theorem groups5 : catG u0 u1 u2 u3 u4 u5 u6 (ix3 b r (⟨2560 + e.val, by omega⟩ : Fin 3584)) = u5 (ix3 b r e) := by
  pointwise [catG]
  rw [dif_neg (by omega), dif_neg (by omega), dif_neg (by omega), dif_neg (by omega), dif_neg (by omega), dif_pos (by omega)]
  exact congrArg (fun e => u5 (ix3 b r e)) (Fin.ext (by simp only; omega))

theorem groups6 : catG u0 u1 u2 u3 u4 u5 u6 (ix3 b r (⟨3072 + e.val, by omega⟩ : Fin 3584)) = u6 (ix3 b r e) := by
  pointwise [catG]
  rw [dif_neg (by omega), dif_neg (by omega), dif_neg (by omega), dif_neg (by omega), dif_neg (by omega), dif_neg (by omega)]
  exact congrArg (fun e => u6 (ix3 b r e)) (Fin.ext (by simp only; omega))

theorem queryR_apply : queryR u0 (ix3 b r e) = u0 (ix3 b r e) * (((8 * Real.log 2)⁻¹ : ℝ) : EReal) := by
  have h8 : (Ideal.ofBits .f32 0x3E000000#32 : EReal) = ((8⁻¹ : ℝ) : EReal) := by
    simp [Ideal.ofBits, Ideal.ieee, -EReal.coe_mul]; norm_num
  have h2 : (Ideal.ofBits .f32 0x40000000#32 : EReal) = ((2 : ℝ) : EReal) := by
    simp [Ideal.ofBits, Ideal.ieee, -EReal.coe_mul]; norm_num
  have e1 : queryR u0 (ix3 b r e) = Ideal.div (u0 (ix3 b r e) * Ideal.ofBits .f32 0x3E000000#32) (Ideal.log (Ideal.ofBits .f32 0x40000000#32)) := by
    pointwise [queryR]
  rw [e1, h8, h2, Ideal.log_coe, if_neg (by norm_num)]
  have hl : Real.log 2 ≠ 0 := (Real.log_pos (by norm_num)).ne'
  rw [Cert.Attn.div_real _ hl, mul_assoc, ← EReal.coe_mul]
  exact congrArg (fun z : ℝ => _ * (z : EReal)) (mul_inv _ _).symm

end Groups

theorem groupsR_apply (P : FVec Ideal S8x2048x3584 .f32) (b : Fin 8) (r : Fin 2048) (c : Fin 3584) : groupsR P (ix3 b r c)
    = projected (((8 * Real.log 2)⁻¹ : ℝ) : EReal) (halves (cosT r) (cosT r)) (halves (fun d => -sinT r d) (sinT r))
        (fun e => halves (cosT r) (cosT r) e * Ideal.ofBits .f32 0x3DB504F3#32)
        (fun e => halves (fun d => -sinT r d) (sinT r) e * Ideal.ofBits .f32 0x3DB504F3#32) (fun c => P (ix3 b r c)) c := by
  obtain ⟨e, hc⟩ : ∃ e : Fin 512, c.val = 512 * (c.val / 512) + e.val := ⟨⟨c.val % 512, by omega⟩, by simp only; omega⟩
  have h7 : c.val / 512 < 7 := by omega
  unfold groupsR projected
  generalize c.val / 512 = j at hc h7
  interval_cases j
  · rw [if_pos (by omega)]
    have hce : (⟨e.val, by omega⟩ : Fin 3584) = c := Fin.ext (by simp only; omega)
    rw [← hce]
    refine (groups0 _ _ _ _ _ _ _ b r e).trans ((queryR_apply _ b r e).trans (congrArg (· * _) ?_))
    exact (group_apply P b r 0 (by decide) _ e).trans (congrArg (fun c => P (ix3 b r c)) (Fin.ext (Nat.zero_add _)))
  · rw [if_neg (by omega), if_neg (by omega), if_neg (by omega)]
    have hce : (⟨512 + e.val, by omega⟩ : Fin 3584) = c := Fin.ext (by simp only; omega)
    rw [← hce]
    exact (groups1 _ _ _ _ _ _ _ b r e).trans (group_apply P b r 512 (by decide) _ e)
  · rw [if_neg (by omega), if_neg (by omega), if_neg (by omega)]
    have hce : (⟨1024 + e.val, by omega⟩ : Fin 3584) = c := Fin.ext (by simp only; omega)
    rw [← hce]
    exact (groups2 _ _ _ _ _ _ _ b r e).trans (group_apply P b r 1024 (by decide) _ e)
  · rw [if_neg (by omega), if_pos (by omega)]
    have hce : (⟨1536 + e.val, by omega⟩ : Fin 3584) = c := Fin.ext (by simp only; omega)
    rw [← hce]
    exact (groups3 _ _ _ _ _ _ _ b r e).trans (turned_group P b r 1536 (by decide) (by decide) _ e)
  · rw [if_neg (by omega), if_neg (by omega), if_pos (by omega)]
    have hce : (⟨2048 + e.val, by omega⟩ : Fin 3584) = c := Fin.ext (by simp only; omega)
    rw [← hce]
    exact (groups4 _ _ _ _ _ _ _ b r e).trans (keyed_group P b r 2048 (by decide) (by decide) _ e)
  · rw [if_neg (by omega), if_neg (by omega), if_neg (by omega)]
    have hce : (⟨2560 + e.val, by omega⟩ : Fin 3584) = c := Fin.ext (by simp only; omega)
    rw [← hce]
    exact (groups5 _ _ _ _ _ _ _ b r e).trans (group_apply P b r 2560 (by decide) _ e)
  · rw [if_neg (by omega), if_neg (by omega), if_neg (by omega)]
    have hce : (⟨3072 + e.val, by omega⟩ : Fin 3584) = c := Fin.ext (by simp only; omega)
    rw [← hce]
    exact (groups6 _ _ _ _ _ _ _ b r e).trans (group_apply P b r 3072 (by decide) _ e)

/-- One entry of the reference's result. -/
theorem outR_apply (b : Fin 8) (r : Fin 2048) (c : Fin 3584) :
    outR X M g W (ix2 (⟨2048 * b.val + r.val, by omega⟩ : Fin 16384) c) = projAll X M g W b r c := by
  have e1 : outR X M g W (ix2 (⟨2048 * b.val + r.val, by omega⟩ : Fin 16384) c) = groupsR (projR X M g W) (ix3 b r c) := by
    unfold outR
    generalize groupsR (projR X M g W) = G
    pointwise []
  rw [e1, groupsR_apply, funext (projR_apply X M g W b r)]
  rfl

end Cert.InprojRefIdeal.Value

end
-- ==== Proof.Inproj.Claims.lean ====
/-
  The input projection's call: the three frames, the named scale, and the equality with the reference.
-/
module

public import proofs.«01_k».proof.Proof.Inproj.Reference
public import proofs.«01_k».proof.Proof.Gen.Inproj.Frame
public import proofs.«01_k».proof.Proof.Gen.InprojIdeal.Frame

@[expose] public section

set_option maxRecDepth 16384

noncomputable section

namespace Cert.Proof.Projection

open Idealize.ShloMosaic Idealize.ShloMosaic.TcCoe Idealize.SL.Sem

theorem frame_kernel : Cert.quiescent_Inproj := fun m ρ _ => Cert.Inproj.Gen.frame m ρ
theorem frame_ideal : Cert.quiescent_InprojIdeal := fun m ρ _ => Cert.InprojIdeal.Gen.frame m ρ
theorem frame_reference : Cert.quiescent_InprojRefIdeal := fun m ρ _ =>
  (θ_run Cert.InprojRefIdeal.defs _ _).mono (fun r h => ⟨fun c => (h c).2, sem_eq_zero_of_no_sems (by decide) r.2⟩)
    (Cert.InprojRefIdeal.Value.run (F := Ideal) m ρ)

/-- The scale's word is named, and its name stands for `1 / (8 · log 2)`. -/
theorem preserves : Cert.preserves_Inproj_InprojIdeal :=
  IdealRules.named_const.statement Cert.InprojIdeal.κ "q_scale" .f32 0x3E38AA3B#32 (((8 * (Real.log 2))⁻¹ : ℝ) : EReal) rfl

theorem algebraic : Cert.algebraic_InprojIdeal_InprojRefIdeal := by
  intro m ρ m' ρ' _ hagree
  refine ⟨_, Cert.InprojIdeal.Value.run_blocks (F := Ideal) m ρ, ?_⟩
  refine (θ_run Cert.InprojRefIdeal.defs _ _).mono (fun _ h c => ⟨(h c).1.trans ?_, (h c).2⟩)
    (Cert.InprojRefIdeal.Value.run (F := Ideal) m' ρ')
  refine Eq.trans ?_ (Cert.InprojIdeal.Terms.result m c).symm
  obtain ⟨e0, e1, e2, e3⟩ := hagree c
  rw [Cert.InprojRefIdeal.Value.res_eq, e0, e1, e2, e3]
  funext y
  obtain ⟨i, e, rfl⟩ : ∃ (i : Fin 16384) (e : Fin 3584), y = ix2 i e := ⟨y 0, y 1, by funext a; match a with | 0 => rfl | 1 => rfl⟩
  have hi : i = (⟨2048 * (⟨i.val / 2048, by omega⟩ : Fin 8).val + (⟨i.val % 2048, by omega⟩ : Fin 2048).val, by simp only; omega⟩ : Fin 16384) :=
    Fin.ext (by simp only; omega)
  refine (congrArg (fun i => Cert.InprojRefIdeal.Value.outR _ _ _ _ (ix2 i e)) hi).trans ?_
  exact Cert.InprojRefIdeal.Value.outR_apply _ _ _ _ _ _ e

end Cert.Proof.Projection

end
-- ==== Proof.Experts.Run.lean ====
/- The run of the experts' kernel body at one grid point, over any float values. The body reads one word of the table of
   row counts and does one of three things by it: all 512 rows, the first 256 rows and zeros below them, or zeros alone.
   Each run leaves the inputs as they were and lists what it stored in the output's buffer, the last store first. -/
module

public import proofs.«01_k».proof.Proof.Gen.ExpertsIdeal.Skeleton
public import proofs.«01_k».proof.Proof.Gen.ExpertsIdeal.Launch
public import Idealize.ShloMosaic.Lib.Pipeline.FrameBody
public import Idealize.ShloMosaic.Lib.Ring
public import Idealize.ShloMosaic.Lib.Tactic

@[expose] public section

set_option maxRecDepth 16384

noncomputable section

namespace Cert.ExpertsIdeal.Run

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The separation logic's resources for this program. -/
abbrev Res (F : FTy → Type) [FloatOps F] := MT nD τ sig Unit (Elt F) ℕ (UR sig nD τ) ℕ

/-- A table of 72 words in scalar memory, whole. -/
abbrev experts : Memref sig .tc .smem S72 .i32 := Memref.whole main_arg1
abbrev counts : Memref sig .tc .smem S72 .i32 := Memref.whole main_arg2

/-- The contents of a table's buffer on a core. -/
abbrev Words (F : FTy → Type) (c : Dev nD) (M : Memref sig .tc .smem S72 .i32) : Type := Buf (Elt F) (M.view.loc (c : Thread nD τ))

/-- A table held at half the full share: the body may read it. -/
abbrev readable (c : Dev nD) (M : Memref sig .tc .smem S72 .i32) (f : Words F c M) : sProp (Res F) :=
  M.view.loc (c : Thread nD τ) ↦{fullShare.right} f

/-- The word of the row counts that the body reads at a grid point. -/
abbrev count (c : Dev nD) (i : grid0.Coords) (f : Words F c counts) : BitVec 32 :=
  counts.view.readAt (Elt F) (Rect.unit (s := S72) (k0_off1 i) S1.size (k0_off1_inb i)).toLoadRect f
    (Shape.Idx.first (numel1_S1.symm ▸ Nat.one_pos))

variable (c : Dev nD) (i : grid0.Coords)
  (a3 : Memref sig .tc .vmem S4096x128 .f32) (w3 : a3.IsWhole) (a4 : Memref sig .tc .vmem S1x1024x2816 .bf16) (w4 : a4.IsWhole)
  (a5 : Memref sig .tc .vmem S1x1024x2816 .bf16) (w5 : a5.IsWhole) (a6 : Memref sig .tc .vmem S1x2816x1024 .bf16) (w6 : a6.IsWhole)
  (a7 : Memref sig .tc .vmem S4096x128 .f32) (w7 : a7.IsWhole) (a8 : Memref sig .tc .vmem S512x1024 .bf16) (w8 : a8.IsWhole)
  (a9 : Memref sig .tc .vmem S512x2816 .bf16) (w9 : a9.IsWhole)
  (x0 : Vec F S4096x128 .f32) (x1 : Vec F S1x1024x2816 .bf16) (x2 : Vec F S1x1024x2816 .bf16) (x3 : Vec F S1x2816x1024 .bf16)
  (t0 : Words F c experts) (t1 : Words F c counts)

/-- What every run keeps: the inputs' buffers and the tables at their contents. -/
abbrev kept : sProp (Res F) :=
  iprop(owns (c : Thread nD τ) a3 fullShare x0 ∗ owns (c : Thread nD τ) a4 fullShare x1 ∗ owns (c : Thread nD τ) a5 fullShare x2
    ∗ owns (c : Thread nD τ) a6 fullShare x3 ∗ readable c experts t0 ∗ readable c counts t1)

/-- The inputs' buffers and the tables, each as the plain contents of its place in memory. -/
abbrev laid : sProp (Res F) :=
  iprop((a3.view.loc (c : Thread nD τ) ↦[a3.view.set]{fullShare} w3.unread x0) ∗ (a4.view.loc (c : Thread nD τ) ↦[a4.view.set]{fullShare} w4.unread x1)
    ∗ (a5.view.loc (c : Thread nD τ) ↦[a5.view.set]{fullShare} w5.unread x2) ∗ (a6.view.loc (c : Thread nD τ) ↦[a6.view.set]{fullShare} w6.unread x3)
    ∗ readable c experts t0 ∗ readable c counts t1)

/-- What every run may overwrite, at any contents: the two scratch buffers. -/
abbrev scratch : sProp (Res F) := iprop((∃ d, owns (c : Thread nD τ) a8 fullShare d) ∗ (∃ d, owns (c : Thread nD τ) a9 fullShare d))

/-- The body on these buffers runs, and afterwards the output's buffer holds the stores `L` over some contents. -/
abbrev Leaves (L : List (View.Piece (Elt F) S4096x128 .f32)) : Prop :=
  ∀ (E : Set ℕ) (K : PUnit → sProp (Res F)),
    iprop(kept c a3 a4 a5 a6 x0 x1 x2 x3 t0 t1 ∗ scratch (F := F) c a8 a9 ∗ (∃ d, owns (c : Thread nD τ) a7 fullShare d)
        ∗ (iprop(kept c a3 a4 a5 a6 x0 x1 x2 x3 t0 t1 ∗ scratch (F := F) c a8 a9
            ∗ (∃ f, a7.view.loc (c : Thread nD τ) ↦[a7.view.set]{fullShare} a7.view.writes (Elt F) f L)) -∗ K ⟨⟩))
      ⊢ wp frame (wpE (defs₀ (F := F)) Variants.none c none) E
          (cc0__moe_ffn_kernel i experts (Memref.isWhole_whole _) counts (Memref.isWhole_whole _) a3 w3 a4 w4 a5 w5 a6 w6 a7 w7 a8 w8 a9 w9) K

/-- The body on these buffers, with its arguments in place. -/
abbrev call : Prog (TpuEff nD τ sig (Elt F) Λ₀ .tc) PUnit :=
  cc0__moe_ffn_kernel i experts (Memref.isWhole_whole _) counts (Memref.isWhole_whole _) a3 w3 a4 w4 a5 w5 a6 w6 a7 w7 a8 w8 a9 w9

/-- It is enough to run the body from plain contents of every buffer. -/
theorem leaves_of {L : List (View.Piece (Elt F) S4096x128 .f32)}
    (run : ∀ (E : Set ℕ) (K : PUnit → sProp (Res F)) (f7 : Buf (Elt F) (a7.view.loc (c : Thread nD τ)))
        (f8 : Buf (Elt F) (a8.view.loc (c : Thread nD τ))) (f9 : Buf (Elt F) (a9.view.loc (c : Thread nD τ))),
      iprop(laid c a3 w3 a4 w4 a5 w5 a6 w6 x0 x1 x2 x3 t0 t1 ∗ (a8.view.loc (c : Thread nD τ) ↦[a8.view.set]{fullShare} f8)
          ∗ (a9.view.loc (c : Thread nD τ) ↦[a9.view.set]{fullShare} f9) ∗ (a7.view.loc (c : Thread nD τ) ↦[a7.view.set]{fullShare} f7)
          ∗ (iprop(laid c a3 w3 a4 w4 a5 w5 a6 w6 x0 x1 x2 x3 t0 t1 ∗ (∃ g, a8.view.loc (c : Thread nD τ) ↦[a8.view.set]{fullShare} g)
              ∗ (∃ g, a9.view.loc (c : Thread nD τ) ↦[a9.view.set]{fullShare} g)
              ∗ (∃ f, a7.view.loc (c : Thread nD τ) ↦[a7.view.set]{fullShare} a7.view.writes (Elt F) f L)) -∗ K ⟨⟩))
        ⊢ wp frame (wpE (defs₀ (F := F)) Variants.none c none) E (call i a3 w3 a4 w4 a5 w5 a6 w6 a7 w7 a8 w8 a9 w9) K) :
    Leaves c i a3 w3 a4 w4 a5 w5 a6 w6 a7 w7 a8 w8 a9 w9 x0 x1 x2 x3 t0 t1 L := by
  intro E K
  unfold kept scratch owns
  iintro ⟨⟨⟨%f0, %hf0, H0⟩, ⟨%f1, %hf1, H1⟩, ⟨%f2, %hf2, H2⟩, ⟨%f3, %hf3, H3⟩, HT0, HT1⟩, ⟨⟨%ds0, %fs0, -, HS0⟩, ⟨%ds1, %fs1, -, HS1⟩⟩, ⟨%d4, %f4, -, H4⟩, Hk⟩
  obtain rfl := w3.eq_unread hf0; obtain rfl := w4.eq_unread hf1; obtain rfl := w5.eq_unread hf2; obtain rfl := w6.eq_unread hf3
  iapply (run E K f4 fs0 fs1)
  unfold laid
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HS0]; · iexact HS0
  isplitl [HS1]; · iexact HS1
  isplitl [H4]; · iexact H4
  iintro ⟨⟨H0, H1, H2, H3, HT0, HT1⟩, ⟨%g0, HS0⟩, ⟨%g1, HS1⟩, H4⟩
  iapply Hk
  isplitl [H0 H1 H2 H3 HT0 HT1]
  · isplitl [H0]
    · iexists _; isplitr; · ipureintro; exact w3.read_unread _
      iexact H0
    isplitl [H1]
    · iexists _; isplitr; · ipureintro; exact w4.read_unread _
      iexact H1
    isplitl [H2]
    · iexists _; isplitr; · ipureintro; exact w5.read_unread _
      iexact H2
    isplitl [H3]
    · iexists _; isplitr; · ipureintro; exact w6.read_unread _
      iexact H3
    isplitl [HT0]; · iexact HT0
    iexact HT1
  isplitl [HS0 HS1]
  · isplitl [HS0]
    · iexists _, _; isplitr
      swap; · iexact HS0
      ipureintro; rfl
    iexists _, _; isplitr
    swap; · iexact HS1
    ipureintro; rfl
  iexact H4

set_option maxHeartbeats 4000000 in
/-- More than 256 rows: the body works on all 512. -/
def whole (h1 : k0_cond1 (count c i t1) = 1#1) (h2 : ¬ k0_cond2 (count c i t1) = 1#1) (h3 : ¬ k0_cond3 (count c i t1) = 1#1) :
    { L : List (View.Piece (Elt F) S4096x128 .f32) // Leaves c i a3 w3 a4 w4 a5 w5 a6 w6 a7 w7 a8 w8 a9 w9 x0 x1 x2 x3 t0 t1 L } := by
  refine ⟨?_, leaves_of c i a3 w3 a4 w4 a5 w5 a6 w6 a7 w7 a8 w8 a9 w9 x0 x1 x2 x3 t0 t1 fun E K f7 f8 f9 => ?run⟩
  case run =>
    unfold call laid
    simp only [cc0__moe_ffn_kernel_eq_skeleton]; unfold cc0__moe_ffn_kernel_skel
    simp only [k0_part1_eq_skeleton, k0_part2_eq_skeleton, k0_part3_eq_skeleton, k0_part4_eq_skeleton, k0_part5_eq_skeleton, k0_part6_eq_skeleton, k0_part7_eq_skeleton]
    iintro ⟨⟨H0, H1, H2, H3, HT0, HT1⟩, HS0, HS1, H4, Hk⟩
    sl_exec (disch := first | sl_exact h1 | sl_exact h2 | sl_exact h3)
    sl_step
    iapply Hk
    isplitl [H0 H1 H2 H3 HT0 HT1]; · iframe
    isplitl [HS0]; · iexists _; iexact HS0
    isplitl [HS1]; · iexists _; iexact HS1
    iexists _; iexact H4

set_option maxHeartbeats 4000000 in
/-- Between 1 and 256 rows: the body works on the first 256 and stores zeros below them. -/
def half (h1 : ¬ k0_cond1 (count c i t1) = 1#1) (h2 : k0_cond2 (count c i t1) = 1#1) (h3 : ¬ k0_cond3 (count c i t1) = 1#1) :
    { L : List (View.Piece (Elt F) S4096x128 .f32) // Leaves c i a3 w3 a4 w4 a5 w5 a6 w6 a7 w7 a8 w8 a9 w9 x0 x1 x2 x3 t0 t1 L } := by
  refine ⟨?_, leaves_of c i a3 w3 a4 w4 a5 w5 a6 w6 a7 w7 a8 w8 a9 w9 x0 x1 x2 x3 t0 t1 fun E K f7 f8 f9 => ?run⟩
  case run =>
    unfold call laid
    simp only [cc0__moe_ffn_kernel_eq_skeleton]; unfold cc0__moe_ffn_kernel_skel
    simp only [k0_part8_eq_skeleton, k0_part9_eq_skeleton, k0_part10_eq_skeleton, k0_part11_eq_skeleton, k0_part12_eq_skeleton, k0_part13_eq_skeleton, k0_part14_eq_skeleton]
    iintro ⟨⟨H0, H1, H2, H3, HT0, HT1⟩, HS0, HS1, H4, Hk⟩
    sl_exec (disch := first | sl_exact h1 | sl_exact h2 | sl_exact h3)
    sl_step
    iapply Hk
    isplitl [H0 H1 H2 H3 HT0 HT1]; · iframe
    isplitl [HS0]; · iexists _; iexact HS0
    isplitl [HS1]; · iexists _; iexact HS1
    iexists _; iexact H4

set_option maxHeartbeats 4000000 in
/-- No rows: the body stores zeros. -/
def none (h1 : ¬ k0_cond1 (count c i t1) = 1#1) (h2 : ¬ k0_cond2 (count c i t1) = 1#1) (h3 : k0_cond3 (count c i t1) = 1#1) :
    { L : List (View.Piece (Elt F) S4096x128 .f32) // Leaves c i a3 w3 a4 w4 a5 w5 a6 w6 a7 w7 a8 w8 a9 w9 x0 x1 x2 x3 t0 t1 L } := by
  refine ⟨?_, leaves_of c i a3 w3 a4 w4 a5 w5 a6 w6 a7 w7 a8 w8 a9 w9 x0 x1 x2 x3 t0 t1 fun E K f7 f8 f9 => ?run⟩
  case run =>
    unfold call laid
    simp only [cc0__moe_ffn_kernel_eq_skeleton]; unfold cc0__moe_ffn_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    iintro ⟨⟨H0, H1, H2, H3, HT0, HT1⟩, HS0, HS1, H4, Hk⟩
    sl_exec (disch := first | sl_exact h1 | sl_exact h2 | sl_exact h3)
    sl_step
    iapply Hk
    isplitl [H0 H1 H2 H3 HT0 HT1]; · iframe
    isplitl [HS0]; · iexists _; iexact HS0
    isplitl [HS1]; · iexists _; iexact HS1
    iexists _; iexact H4

end Cert.ExpertsIdeal.Run

end
-- ==== Proof.Experts.Rows.lean ====
/- Stores of every eighth row: together, eight of them with the eight remainders fill the rows, and each element is the one its
   row's remainder names. -/
module

public import proofs.«01_k».proof.Proof.Gen.ExpertsIdeal.Launch
public import Idealize.ShloMosaic.Lib.Pipeline.FrameBody
public import Idealize.ShloMosaic.Lib.Pipeline.ValueKit
public import Idealize.ShloMosaic.Lib.Tactic

@[expose] public section

noncomputable section

namespace Cert.ExpertsIdeal.Run

open Cert.ExpertsIdeal.Gen
open Idealize.ShloMosaic Idealize.ShloMosaic.Tactic

variable {Val : EltTy → Type} {e : EltTy}

/-- Those rows lie in the array. -/
abbrev Fits (h s : Nat) : Prop :=
  ∀ a, (![h, 128] : Fin 2 → Nat) a = 0 ∨ (![s, 0] : Fin 2 → Nat) a + (![8, 1] : Fin 2 → Nat) a * ((![h, 128] : Fin 2 → Nat) a - 1) < S4096x128.size a

/-- The rectangle of `h` rows of 128 columns that starts at row `s` and takes every eighth row. -/
abbrev every (h s : Nat) (inb : Fits h s) : Rect S4096x128 := ⟨(⟨![s, 0], ![h, 128], ![8, 1], inb⟩ : LoadRect S4096x128), spos_8_1⟩

theorem mem_every {h s : Nat} (inb : Fits h s) (hs : s < 8) (y : S4096x128.Idx) :
    y ∈ (every h s inb).set ↔ (y 0).val % 8 = s ∧ (y 0).val / 8 < h := by
  have h1 : (y 1).val < 128 := (y 1).isLt
  rw [LoadRect.mem_set]
  constructor
  · intro hy
    obtain ⟨j, hj, hy⟩ := hy 0
    replace hj : j < h := hj
    replace hy : (y 0).val = s + 8 * j := hy
    omega
  · rintro ⟨e1, e2⟩ a
    match a with
    | 0 => exact ⟨(y 0).val / 8, e2, show (y 0).val = s + 8 * ((y 0).val / 8) by omega⟩
    | 1 => exact ⟨(y 1).val, h1, show (y 1).val = 0 + 1 * (y 1).val by omega⟩

variable [∀ e, Nonempty (Val e)]

theorem canon_every {h s : Nat} (inb : Fits h s) (w : (every h s inb).shape.Idx → Val e) (L : List (View.Piece Val S4096x128 e)) (hs : s < 8)
    (r : Fin 4096) (k : Fin 128) :
    View.canon (⟨every h s inb, w⟩ :: L) (ix2 r k)
      = if hr : r.val % 8 = s ∧ r.val / 8 < h then w (ix2 ⟨r.val / 8, hr.2⟩ k) else View.canon L (ix2 r k) := by
  split
  · rename_i hr
    have hy : (ix2 r k : S4096x128.Idx) = (every h s inb).emb (ix2 (⟨r.val / 8, hr.2⟩ : Fin h) k) := by
      funext a; apply Fin.ext
      match a with
      | 0 => exact show r.val = s + 8 * (r.val / 8) by omega
      | 1 => exact show k.val = 0 + 1 * k.val by omega
    rw [hy]; exact View.canon_cons_emb _ _ _ _
  · rename_i hr
    exact View.canon_cons_of_not_mem (⟨every h s inb, w⟩ : View.Piece Val S4096x128 e) L (fun hy => hr ((mem_every inb hs _).mp hy))

/-- A load of every eighth row. -/
theorem ld_every {h s : Nat} (inb : Fits h s) (X : S4096x128.Idx → Val e) (r : Fin h) (k : Fin 128) (hr : s + 8 * r.val < 4096) :
    View.ld X (every h s inb) (ix2 r k) = X (ix2 ⟨s + 8 * r.val, hr⟩ k) := by
  refine congrArg X ?_
  funext a; apply Fin.ext
  match a with
  | 0 => rfl
  | 1 => exact show 0 + 1 * k.val = k.val by omega

end Cert.ExpertsIdeal.Run

end
-- ==== Proof.Experts.Frame.lean ====
/- The experts' call as a whole, over any float values: the arrays it starts from, what each grid point leaves in its blocks, and the
   run of the program, under two conditions on the tables: every expert exists, and no count of rows is negative. -/
module

public import proofs.«01_k».proof.Proof.Experts.Run
public import proofs.«01_k».proof.Proof.Experts.Rows

@[expose] public section

set_option maxRecDepth 16384

noncomputable section

namespace Cert.ExpertsIdeal.Run

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The three cases -/

theorem of_flag (b : Bool) : Scalar.cmpi .ne (Scalar.extui (BitVec.ofBool b) : BitVec 32) 0#32 = 1#1 ↔ b = true := by
  cases b <;> decide

theorem first_iff (v : BitVec 32) : k0_cond1 v = 1#1 ↔ 256 < v.toInt :=
  (of_flag ((256#32).slt v)).trans (by
    rw [BitVec.slt, decide_eq_true_eq, show (256#32).toInt = 256 from by decide])

theorem second_iff (v : BitVec 32) : k0_cond2 v = 1#1 ↔ 0 < v.toInt ∧ v.toInt ≤ 256 := by
  have e : Scalar.andi (BitVec.ofBool ((0#32).slt v)) (BitVec.ofBool (v.sle 256#32)) = BitVec.ofBool ((0#32).slt v && v.sle 256#32) := by
    cases (0#32).slt v <;> cases v.sle 256#32 <;> decide
  refine (show k0_cond2 v = 1#1 ↔ Scalar.cmpi .ne (Scalar.extui
    (Scalar.andi (BitVec.ofBool ((0#32).slt v)) (BitVec.ofBool (v.sle 256#32))) : BitVec 32) 0#32 = 1#1 from Iff.rfl).trans ?_
  rw [e]
  refine (of_flag _).trans ?_
  rw [Bool.and_eq_true, BitVec.slt, BitVec.sle, decide_eq_true_eq, decide_eq_true_eq, show (0#32).toInt = 0 from by decide,
    show (256#32).toInt = 256 from by decide]

theorem third_iff (v : BitVec 32) : k0_cond3 v = 1#1 ↔ v.toInt = 0 :=
  (of_flag (v == 0#32)).trans (by
    rw [beq_iff_eq, ← BitVec.toInt_inj, show (0#32).toInt = 0 from by decide])

theorem cases_of_nonneg (v : BitVec 32) (h : 0 ≤ v.toInt) :
    (k0_cond1 v = 1#1 ∧ 256 < v.toInt) ∨ (k0_cond2 v = 1#1 ∧ 0 < v.toInt ∧ v.toInt ≤ 256) ∨ (k0_cond3 v = 1#1 ∧ v.toInt = 0) := by
  rw [first_iff, second_iff, third_iff]; omega

theorem not_second {v : BitVec 32} (h : k0_cond1 v = 1#1) : ¬ k0_cond2 v = 1#1 := by
  rw [first_iff] at h; rw [second_iff]; omega
theorem not_third {v : BitVec 32} (h : k0_cond1 v = 1#1) : ¬ k0_cond3 v = 1#1 := by
  rw [first_iff] at h; rw [third_iff]; omega
theorem not_third' {v : BitVec 32} (h : k0_cond2 v = 1#1) : ¬ k0_cond3 v = 1#1 := by
  rw [second_iff] at h; rw [third_iff]; omega

section Cover

variable (c : Dev nD) (i : grid0.Coords)
  (a3 : Memref sig .tc .vmem S4096x128 .f32) (w3 : a3.IsWhole) (a4 : Memref sig .tc .vmem S1x1024x2816 .bf16) (w4 : a4.IsWhole)
  (a5 : Memref sig .tc .vmem S1x1024x2816 .bf16) (w5 : a5.IsWhole) (a6 : Memref sig .tc .vmem S1x2816x1024 .bf16) (w6 : a6.IsWhole)
  (a7 : Memref sig .tc .vmem S4096x128 .f32) (w7 : a7.IsWhole) (a8 : Memref sig .tc .vmem S512x1024 .bf16) (w8 : a8.IsWhole)
  (a9 : Memref sig .tc .vmem S512x2816 .bf16) (w9 : a9.IsWhole)
  (x0 : Vec F S4096x128 .f32) (x1 : Vec F S1x1024x2816 .bf16) (x2 : Vec F S1x1024x2816 .bf16) (x3 : Vec F S1x2816x1024 .bf16)
  (t0 : Words F c experts) (t1 : Words F c counts)

/-- A list of stores that fills the output's block. -/
abbrev Fills (L : List (View.Piece (Elt F) S4096x128 .f32)) : Prop := ∀ y : S4096x128.Idx, ∃ p ∈ L, y ∈ p.1.set

omit [FloatOps F] in
/-- Eight stores of every eighth row fill the first `8 * h` rows. -/
theorem eight_fill {h : Nat} {b0 : Fits h 0} {b1 : Fits h 1} {b2 : Fits h 2} {b3 : Fits h 3} {b4 : Fits h 4} {b5 : Fits h 5} {b6 : Fits h 6}
    {b7 : Fits h 7} (p0 p1 p2 p3 p4 p5 p6 p7) (y : S4096x128.Idx) (hy : (y 0).val / 8 < h) :
    ∃ p ∈ ([⟨every h 7 b7, p7⟩, ⟨every h 6 b6, p6⟩, ⟨every h 5 b5, p5⟩, ⟨every h 4 b4, p4⟩, ⟨every h 3 b3, p3⟩, ⟨every h 2 b2, p2⟩,
      ⟨every h 1 b1, p1⟩, ⟨every h 0 b0, p0⟩] : List (View.Piece (Elt F) S4096x128 .f32)), y ∈ p.1.set := by
  have hm : (y 0).val % 8 = 0 ∨ (y 0).val % 8 = 1 ∨ (y 0).val % 8 = 2 ∨ (y 0).val % 8 = 3 ∨ (y 0).val % 8 = 4 ∨ (y 0).val % 8 = 5
      ∨ (y 0).val % 8 = 6 ∨ (y 0).val % 8 = 7 := by omega
  simp only [List.mem_cons, List.not_mem_nil, or_false, exists_eq_or_imp, exists_eq_left, mem_every _ (show 0 < 8 by decide),
    mem_every _ (show 1 < 8 by decide), mem_every _ (show 2 < 8 by decide), mem_every _ (show 3 < 8 by decide),
    mem_every _ (show 4 < 8 by decide), mem_every _ (show 5 < 8 by decide), mem_every _ (show 6 < 8 by decide), mem_every _ (show 7 < 8 by decide)]
  omega

theorem whole_fills (h1 h2 h3) : Fills (whole c i a3 w3 a4 w4 a5 w5 a6 w6 a7 w7 a8 w8 a9 w9 x0 x1 x2 x3 t0 t1 h1 h2 h3).1 := by
  intro y
  have h0 : (y 0).val < 4096 := (y 0).isLt
  exact eight_fill _ _ _ _ _ _ _ _ y (by omega)

theorem half_fills (h1 h2 h3) : Fills (half c i a3 w3 a4 w4 a5 w5 a6 w6 a7 w7 a8 w8 a9 w9 x0 x1 x2 x3 t0 t1 h1 h2 h3).1 := by
  intro y
  have h0 : (y 0).val < 4096 := (y 0).isLt
  have h4 : (y 1).val < 128 := (y 1).isLt
  by_cases hy : (y 0).val < 2048
  · obtain ⟨p, hp, hm⟩ := eight_fill (F := F) _ _ _ _ _ _ _ _ y (show (y 0).val / 8 < 256 by omega)
    exact ⟨p, .tail _ hp, hm⟩
  · refine ⟨⟨Rect.unit ![2048, 0] S2048x128.size inb_S4096x128_S2048x128_2048_0, k0_pay15 (F := F)⟩, .head _, (Rect.mem_set_unit (inb := inb_S4096x128_S2048x128_2048_0)).mpr fun a => ?_⟩
    match a with
    | 0 => exact ⟨show 2048 ≤ (y 0).val by omega, show (y 0).val < 2048 + 2048 by omega⟩
    | 1 => exact ⟨show 0 ≤ (y 1).val by omega, show (y 1).val < 0 + 128 by omega⟩

theorem none_fills (h1 h2 h3) : Fills (none c i a3 w3 a4 w4 a5 w5 a6 w6 a7 w7 a8 w8 a9 w9 x0 x1 x2 x3 t0 t1 h1 h2 h3).1 := by
  intro y
  have h0 : (y 0).val < 4096 := (y 0).isLt
  have h4 : (y 1).val < 128 := (y 1).isLt
  refine ⟨⟨Rect.unit ![0, 0] S4096x128.size inb_S4096x128_S4096x128_0_0, k0_pay16 (F := F)⟩, .head _, (Rect.mem_set_unit (inb := inb_S4096x128_S4096x128_0_0)).mpr fun a => ?_⟩
  match a with
  | 0 => exact ⟨show 0 ≤ (y 0).val by omega, show (y 0).val < 0 + 4096 by omega⟩
  | 1 => exact ⟨show 0 ≤ (y 1).val by omega, show (y 1).val < 0 + 128 by omega⟩

/-- What the body stores at a point whose count of rows is not negative: the run of the case that count falls in. -/
def stored (hN : 0 ≤ (count c i t1).toInt) :
    { L : List (View.Piece (Elt F) S4096x128 .f32) // Leaves c i a3 w3 a4 w4 a5 w5 a6 w6 a7 w7 a8 w8 a9 w9 x0 x1 x2 x3 t0 t1 L ∧ Fills L } :=
  if h1 : k0_cond1 (count c i t1) = 1#1 then
    let R := whole c i a3 w3 a4 w4 a5 w5 a6 w6 a7 w7 a8 w8 a9 w9 x0 x1 x2 x3 t0 t1 h1 (not_second h1) (not_third h1)
    ⟨R.1, R.2, whole_fills c i a3 w3 a4 w4 a5 w5 a6 w6 a7 w7 a8 w8 a9 w9 x0 x1 x2 x3 t0 t1 h1 (not_second h1) (not_third h1)⟩
  else if h2 : k0_cond2 (count c i t1) = 1#1 then
    let R := half c i a3 w3 a4 w4 a5 w5 a6 w6 a7 w7 a8 w8 a9 w9 x0 x1 x2 x3 t0 t1 h1 h2 (not_third' h2)
    ⟨R.1, R.2, half_fills c i a3 w3 a4 w4 a5 w5 a6 w6 a7 w7 a8 w8 a9 w9 x0 x1 x2 x3 t0 t1 h1 h2 (not_third' h2)⟩
  else
    have h3 := ((cases_of_nonneg _ hN).resolve_left fun h => h1 h.1).resolve_left (fun h => h2 h.1) |>.1
    let R := none c i a3 w3 a4 w4 a5 w5 a6 w6 a7 w7 a8 w8 a9 w9 x0 x1 x2 x3 t0 t1 h1 h2 h3
    ⟨R.1, R.2, none_fills c i a3 w3 a4 w4 a5 w5 a6 w6 a7 w7 a8 w8 a9 w9 x0 x1 x2 x3 t0 t1 h1 h2 h3⟩

end Cover

variable (m : (ℓ : Loc nD τ sig) → Buf (Elt F) ℓ) (ρ : Dev nD → PrngReg)

/-! ## Where the call starts -/

/-- A core's buffers when the call is entered: as launched. -/
abbrev V (c : Dev nD) (b : Ref sig .tc) : Buf (Elt F) ((c : Thread nD τ).loc b) := m ((c : Thread nD τ).loc b)

theorem reached (𝒱₀ : Variants) :
    Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables when the call is entered. -/
def tables : pre0.Contents (Elt F) := fun j => V m (0 : Dev nD) (pre0.ref j)

theorem V_tables (c : Dev nD) (j : Fin 2) : V m c (pre0.ref j) = tables m j := by
  obtain rfl : c = 0 := Subsingleton.elim _ _; rfl

/-- Every expert the table names exists, and no count of rows is negative. -/
abbrev Named : Prop := ok0 (F := F) (tables m)
abbrev Counted : Prop := ∀ (c : Dev nD) (i : grid0.Coords), 0 ≤ (count (F := F) c i (tables m 1)).toInt

abbrev adm (hO : Named m) : (pcfg0 (F := F)).Adm := ⟨tables m, hO⟩
abbrev cfgM (hO : Named m) : Pipeline.Cfg sig Λ₀ := cfg0 (adm m hO)

theorem tables_held (c : Dev nD) :
    (Pipeline.ΦT pre0 (tables m) c : sProp (Res F)) = iprop(readable c experts (tables m 0) ∗ readable c counts (tables m 1)) := by
  unfold Pipeline.ΦT Pipeline.prefHeld
  rw [show (Finset.univ : Finset (Fin 2)) = insert (0 : Fin 2) {(1 : Fin 2)} from by decide, bigSep_insert (by decide), bigSep_singleton]
  rfl

theorem scratch_held (c : Dev nD) :
    (Pipeline.ΦA spec0 c : sProp (Res F)) = iprop(scratch (F := F) c (Memref.whole cc0_scratch0) (Memref.whole cc0_scratch1) ∗ (∃ r, prngReg c r)) := by
  unfold Pipeline.ΦA scratch; rw [scopedRest0_eq]; simp only [owns_whole]; try rfl

/-- A window's block at a point, read off its array. -/
def iblk (hO : Named m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The buffers the pipeline hands the body at a point. -/
abbrev m0 (hO : Named m) (t : Fin (cfgM m hO).N) : Memref sig .tc .vmem S4096x128 .f32 := spec0_0.stage ((cfgM m hO).slots t 0)
abbrev m1 (hO : Named m) (t : Fin (cfgM m hO).N) : Memref sig .tc .vmem S1x1024x2816 .bf16 := spec0_1.stage ((cfgM m hO).slots t 1)
abbrev m2 (hO : Named m) (t : Fin (cfgM m hO).N) : Memref sig .tc .vmem S1x1024x2816 .bf16 := spec0_2.stage ((cfgM m hO).slots t 2)
abbrev m3 (hO : Named m) (t : Fin (cfgM m hO).N) : Memref sig .tc .vmem S1x2816x1024 .bf16 := spec0_3.stage ((cfgM m hO).slots t 3)
abbrev m4 (hO : Named m) (t : Fin (cfgM m hO).N) : Memref sig .tc .vmem S4096x128 .f32 := spec0_4.stage ((cfgM m hO).slots t 4)
abbrev v0 (hO : Named m) (t : Fin (cfgM m hO).N) : (m0 m hO t).IsWhole := hstage0_0 (((cfgM m hO).slots t 0).cast nbuf0_0)
abbrev v1 (hO : Named m) (t : Fin (cfgM m hO).N) : (m1 m hO t).IsWhole := hstage0_1 (((cfgM m hO).slots t 1).cast nbuf0_1)
abbrev v2 (hO : Named m) (t : Fin (cfgM m hO).N) : (m2 m hO t).IsWhole := hstage0_2 (((cfgM m hO).slots t 2).cast nbuf0_2)
abbrev v3 (hO : Named m) (t : Fin (cfgM m hO).N) : (m3 m hO t).IsWhole := hstage0_3 (((cfgM m hO).slots t 3).cast nbuf0_3)
abbrev v4 (hO : Named m) (t : Fin (cfgM m hO).N) : (m4 m hO t).IsWhole := hstage0_4 (((cfgM m hO).slots t 4).cast nbuf0_4)

/-- What the body stores at a point. -/
abbrev storedAt (hO : Named m) (hN : Counted m) (c : Dev nD) (t : Fin (cfgM m hO).N) :=
  stored c (grid0.coords t) (m0 m hO t) (v0 m hO t) (m1 m hO t) (v1 m hO t) (m2 m hO t) (v2 m hO t) (m3 m hO t) (v3 m hO t) (m4 m hO t)
    (v4 m hO t) (Memref.whole cc0_scratch0) (Memref.isWhole_whole _) (Memref.whole cc0_scratch1) (Memref.isWhole_whole _)
    (iblk m hO c 0 t) (iblk m hO c 1 t) (iblk m hO c 2 t) (iblk m hO c 3 t) (tables m 0) (tables m 1) (hN c (grid0.coords t))

/-- What the output's block holds after a point. -/
def left (hO : Named m) (hN : Counted m) (c : Dev nD) (t : Fin (cfgM m hO).N) : Vec F S4096x128 .f32 := View.canon (storedAt m hO hN c t).1

/-- The pipeline's account of the call: arrays as launched, inputs' blocks left in place, the output's as the body stores it. -/
def dats (hO : Named m) (hN : Counted m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => left m hO hN c t
  Φ _ := iprop(Pipeline.ΦA spec0 c ∗ Pipeline.ΦT pre0 (tables m) c)
  q _ := fullShare
  owed _ := 0

theorem A_eq (hO : Named m) (hN : Counted m) (c : Dev nD) (w : Fin (cfgM m hO).W) : (dats m hO hN 0 c).A w = V m c (Pipeline.arrRef spec0 w) := by
  dsimp only [dats]

section Point

variable (hO : Named m) (hN : Counted m) (c : Dev nD) (t : Fin (cfgM m hO).N)

theorem after_0 : (dats m hO hN 0 c).after 0 t = iblk m hO c 0 t := by dsimp only [dats]; try rfl
theorem after_1 : (dats m hO hN 0 c).after 1 t = iblk m hO c 1 t := by dsimp only [dats]; try rfl
theorem after_2 : (dats m hO hN 0 c).after 2 t = iblk m hO c 2 t := by dsimp only [dats]; try rfl
theorem after_3 : (dats m hO hN 0 c).after 3 t = iblk m hO c 3 t := by dsimp only [dats]; try rfl
theorem after_4 : (dats m hO hN 0 c).after 4 t = left m hO hN c t := by dsimp only [dats]; try rfl

/-- An input's buffer holds its block when the body runs. -/
theorem before_0 (d) : (dats m hO hN 0 c).before 0 t d = iblk m hO c 0 t :=
  ((dats m hO hN 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (d) : (dats m hO hN 0 c).before 1 t d = iblk m hO c 1 t :=
  ((dats m hO hN 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (d) : (dats m hO hN 0 c).before 2 t d = iblk m hO c 2 t :=
  ((dats m hO hN 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (d) : (dats m hO hN 0 c).before 3 t d = iblk m hO c 3 t :=
  ((dats m hO hN 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)

/-- The output's block is written back at every point. -/
theorem flushed : ((cfgM m hO).win 4).flush t = true :=
  (fun t => (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _) :
      ∀ t : Fin grid0.N, Pipeline.Window.flushOf grid0 true cc0_transform_4 t = true) t

/-- What the body finds at a point, and what it leaves. -/
def found : sProp (Res F) :=
  iprop((dats m hO hN 0 c).Φ t.castSucc ∗ (dats m hO hN 0 c).owesAt () t.castSucc
    ∗ (∃ d, owns (c : Thread nD τ) (m0 m hO t) fullShare ((dats m hO hN 0 c).before 0 t d))
    ∗ (∃ d, owns (c : Thread nD τ) (m1 m hO t) fullShare ((dats m hO hN 0 c).before 1 t d))
    ∗ (∃ d, owns (c : Thread nD τ) (m2 m hO t) fullShare ((dats m hO hN 0 c).before 2 t d))
    ∗ (∃ d, owns (c : Thread nD τ) (m3 m hO t) fullShare ((dats m hO hN 0 c).before 3 t d))
    ∗ (∃ d, owns (c : Thread nD τ) (m4 m hO t) fullShare ((dats m hO hN 0 c).before 4 t d)))
def leaves : sProp (Res F) :=
  iprop((dats m hO hN 0 c).Φ t.succ ∗ (dats m hO hN 0 c).owesAt () t.succ
    ∗ owns (c : Thread nD τ) (m0 m hO t) fullShare ((dats m hO hN 0 c).after 0 t)
    ∗ owns (c : Thread nD τ) (m1 m hO t) fullShare ((dats m hO hN 0 c).after 1 t)
    ∗ owns (c : Thread nD τ) (m2 m hO t) fullShare ((dats m hO hN 0 c).after 2 t)
    ∗ owns (c : Thread nD τ) (m3 m hO t) fullShare ((dats m hO hN 0 c).after 3 t)
    ∗ owns (c : Thread nD τ) (m4 m hO t) fullShare ((dats m hO hN 0 c).after 4 t))

abbrev bodyAt : Prog (TpuEff nD τ sig (Elt F) Λ₀ .tc) PUnit :=
  call (grid0.coords t) (m0 m hO t) (v0 m hO t) (m1 m hO t) (v1 m hO t) (m2 m hO t) (v2 m hO t) (m3 m hO t) (v3 m hO t) (m4 m hO t)
    (v4 m hO t) (Memref.whole cc0_scratch0) (Memref.isWhole_whole _) (Memref.whole cc0_scratch1) (Memref.isWhole_whole _)

theorem point : found m hO hN c t ⊢ wp frame (wpE (defs₀ (F := F)) Variants.none c Option.none) Set.univ (bodyAt m hO t) (fun _ => leaves m hO hN c t) := by
  unfold found leaves bodyAt
  simp only [before_0, before_1, before_2, before_3]
  rw [show (dats m hO hN 0 c).Φ t.succ = (dats m hO hN 0 c).Φ t.castSucc from rfl,
    show (dats m hO hN 0 c).owesAt () t.succ = (dats m hO hN 0 c).owesAt () t.castSucc from rfl, after_0, after_1, after_2, after_3, after_4,
    show (dats m hO hN 0 c).Φ t.castSucc = iprop(Pipeline.ΦA spec0 c ∗ Pipeline.ΦT pre0 (tables m) c) from rfl, tables_held, scratch_held]
  iintro ⟨⟨⟨HS, Hg⟩, ⟨HT0, HT1⟩⟩, Ho, ⟨%d0, H0⟩, ⟨%d1, H1⟩, ⟨%d2, H2⟩, ⟨%d3, H3⟩, ⟨%d4, H4⟩⟩
  iapply ((storedAt m hO hN c t).2.1 Set.univ _)
  unfold kept
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HS]; · iexact HS
  isplitl [H4]; · iexists _; iexact H4
  iintro ⟨⟨H0, H1, H2, H3, HT0, HT1⟩, HS, ⟨%f, H4⟩⟩
  isplitl [HS Hg HT0 HT1]
  · isplitl [HS Hg]
    · isplitl [HS]; · iexact HS
      iexact Hg
    isplitl [HT0]; · iexact HT0
    iexact HT1
  isplitl [Ho]; · iexact Ho
  isplitl [H0]; · iexact H0
  isplitl [H1]; · iexact H1
  isplitl [H2]; · iexact H2
  isplitl [H3]; · iexact H3
  unfold owns; iexists _; isplitr
  swap; · iexact H4
  ipureintro
  funext y
  exact View.read_writes_apply_eq_canon _ _ _ _ ((storedAt m hO hN c t).2.2 y)

theorem defs_row : defs₀ (F := F) .tc (cfgM m hO).body ((cfgM m hO).bodyArgs t ((cfgM m hO).slots t)) = bodyAt m hO t := by
  unfold defs₀; rw [Defs.onTc_tc]

end Point

theorem obligation (hO : Named m) (hN : Counted m) (c : Dev nD) :
    BodyObligation (dats (F := F) m hO hN 0 c) (defs₀ (F := F)) Variants.none () Set.univ := fun t => by
  rw [bigSep_W0, bigSep_W0, defs_row m hO]
  refine triple_restated (point m hO hN c t) rfl .rfl fun _ => ?_
  have hf := flushed m hO t
  unfold leaves
  iterate 6 refine sep_mono Entails.rfl ?_
  dsimp only
  split
  · split
    · rename_i e; exact absurd (e.symm.trans hf) (by decide)
    · exact Entails.rfl
  · exact Entails.rfl

/-! ## The run -/

set_option backward.isDefEq.respectTransparency.types false in
theorem runs (hO : Named m) (hN : Counted m) : θ_run defs (onTc (τ := τ) (main (F := F))) (s₀ m ρ)
    (fun r => (Pipeline.FramePost (Pipeline.pin pcfgs fun _ => adm m hO) (dats m hO hN) 0 (V m)) r ∧ r.2.sem = fun _ => 0) :=
  Pipeline.θ_run_frameP (Q' := _) pcfgs (fun _ => adm m hO) (dats m hO hN) (0 : Fin 1) launch0 defs₀ Variants.none m ρ main
    (hbody := fun c => (obligation m hO hN c).loose) (hshare := fun c => (dats m hO hN 0 c).share_full fun _ => rfl)
    (howed := fun _ _ => rfl) (V := V m) (hmain := reached m Variants.none) (hA := A_eq m hO hN) (hpf := V_tables m)
    (hΦ := fun _ _ => rfl)

/-- The program leaves its arguments as they were, and the output as the pipeline's account has it. -/
theorem leaves_out (hO : Named m) (hN : Counted m) : θ_run defs (onTc (τ := τ) (main (F := F))) ⟨m, fun _ => 0, ρ⟩ (fun r => (∀ c : Dev nD,
      r.2.mem ((c.tc : Thread nD τ).loc main_v0) = (dats m hO hN 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 4, ((h.1 c).1 0).trans (((dats m hO hN 0 c).arrAt_in 0 rfl _).trans (A_eq m hO hN c 0)),
      (h.1 c).2 main_arg1 (by decide : main_arg1 ∈ Pipeline.restRefs sig spec0), (h.1 c).2 main_arg2 (by decide : main_arg2 ∈ Pipeline.restRefs sig spec0),
      ((h.1 c).1 1).trans (((dats m hO hN 0 c).arrAt_in 1 rfl _).trans (A_eq m hO hN c 1)),
      ((h.1 c).1 2).trans (((dats m hO hN 0 c).arrAt_in 2 rfl _).trans (A_eq m hO hN c 2)),
      ((h.1 c).1 3).trans (((dats m hO hN 0 c).arrAt_in 3 rfl _).trans (A_eq m hO hN c 3))⟩, h.2⟩) (runs m ρ hO hN)

/-- The program runs, leaves its arguments as they were and every counter at zero. -/
theorem frame (hO : Named m) (hN : Counted m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (leaves_out m ρ hO hN)

end Cert.ExpertsIdeal.Run

end
-- ==== Proof.Experts.Tables.lean ====
/- The experts' two tables: which word a grid point reads, and what the preconditions say of the words. -/
module

public import proofs.«01_k».proof.Proof.Experts.Frame
public import proofs.«01_k».proof.Proof.Gen.Pre_in_range
public import proofs.«01_k».proof.Proof.Gen.Pre_dispatched
public import Idealize.ShloMosaic.Lib.Affine

@[expose] public section

set_option maxRecDepth 16384

noncomputable section

namespace Cert.Feed

open Idealize.ShloMosaic

theorem andi_flags (p q : Bool) : IntOp.andi (BitVec.ofBool p) (BitVec.ofBool q) = BitVec.ofBool (p && q) := by
  cases p <;> cases q <;> decide
theorem ori_flags (p q : Bool) : IntOp.ori (BitVec.ofBool p) (BitVec.ofBool q) = BitVec.ofBool (p || q) := by
  cases p <;> cases q <;> decide
theorem flag_eq_one (p : Bool) : BitVec.ofBool p = 1#1 ↔ p = true := by cases p <;> decide

/-- The first precondition, word by word. -/
theorem in_range_word {F : FTy → Type} [FloatOps F] {X B N G U D} (h : Cert.Pre_in_range.fn (F := F) X B N G U D = fun _ => 1#1) (b : Fin 72) :
    (0 ≤ (B (ix1 b)).toInt ∧ (B (ix1 b)).toInt < 8) ∧ 0 ≤ (N (ix1 b)).toInt := by
  have e := congrFun h (ix1 b)
  simp only [Cert.Pre_in_range.fn, andi, cmpi, broadcastInDim, constantI, IntOp.cmpi, andi_flags, flag_eq_one, Bool.and_eq_true, BitVec.sle,
    BitVec.slt, decide_eq_true_eq] at e
  exact ⟨⟨of_decide_eq_true e.1.1, of_decide_eq_true e.1.2⟩, of_decide_eq_true e.2⟩

/-- The second: the same of the words, and every row past a block's count is zero. -/
theorem dispatched_word {X B N G U D} (h : Cert.Pre_dispatched.fn (F := Ideal) X B N G U D = fun _ => 1#1) (b : Fin 72) (t : Fin 512) (x : Fin 1024) :
    ((0 ≤ (B (ix1 b)).toInt ∧ (B (ix1 b)).toInt < 8) ∧ 0 ≤ (N (ix1 b)).toInt) ∧ ((t.val : Int) < (N (ix1 b)).toInt
      ∨ shapeCast Cert.Pre_dispatched.S72x512x1024 X Cert.Pre_dispatched.Gen.shapeCasts_S294912x128_S72x512x1024 (ix3 b t x) = 0) := by
  have e := congrFun h (ix3 b t x)
  have hz : Ideal.ofBits .f32 0x00000000#32 = (0 : EReal) := by simp [Ideal.ofBits, Ideal.ieee]
  have hc : ∀ v : EReal, FloatOps.cmpf (F := Ideal) (φ := .f32) .oeq v (FloatOps.ofBits .f32 0x00000000#32) = BitVec.ofBool (decide (v = 0)) := fun v =>
    congrArg (fun w => BitVec.ofBool (decide (v = w))) hz
  have ht : (iotaInDim Cert.Pre_dispatched.S72x512x1024 32 1 (ix3 b t x)).toInt = t.val := by
    show (BitVec.ofNat 32 t.val).toInt = t.val
    rw [BitVec.toInt_eq_toNat_cond, BitVec.toNat_ofNat]
    omega
  simp only [Cert.Pre_dispatched.fn, andi, ori, cmpi, cmpf, broadcastInDim, constantI, constant, IntOp.cmpi, hc, ht, andi_flags, ori_flags, flag_eq_one,
    Bool.and_eq_true, Bool.or_eq_true, BitVec.sle, BitVec.slt, decide_eq_true_eq] at e
  rw [show (fun a => _ : Cert.Pre_dispatched.S72.Idx) = ix1 b from funext fun a => by match a with | 0 => rfl] at e
  exact e

end Cert.Feed

namespace Cert.ExpertsIdeal.Run

open Cert.ExpertsIdeal Cert.ExpertsIdeal.Gen Cert.Feed Idealize.ShloMosaic Idealize.ShloMosaic.TcCoe

variable {F : FTy → Type} [FloatOps F]

/-- A point's number. -/
abbrev num (i : grid0.Coords) : Fin 72 := i 0

theorem off_eq : ∀ i : grid0.Coords, k0_off1 i = ![(num i).val] := by decide +kernel

/-- The word of a table at a point. -/
theorem word_at (i : grid0.Coords) : (Rect.unit (s := S72) (k0_off1 i) S1.size (k0_off1_inb i)).emb (Shape.Idx.first (numel1_S1.symm ▸ Nat.one_pos))
    = ix1 (num i) := funext fun a => Fin.ext (by
  match a with
  | 0 =>
    refine (congrArg (· + 1 * 0) (congrFun (off_eq i) 0)).trans ?_
    rfl)

theorem count_eq (c : Dev nD) (i : grid0.Coords) (f : Words F c counts) : count (F := F) c i f = f (ix1 (num i)) :=
  congrArg f (word_at i)

variable (pf : pre0.Contents (Elt F)) (i : grid0.Coords)

/-- The block of each of the three weights at a point: the expert the table names. -/
theorem names_1 : cc0_transform_1 k0_off1_inb numel1_S1 pf i = ![(pf 0 (ix1 (num i))).toNat, 0, 0] :=
  congrArg (fun j => ![(pf 0 j).toNat, 0, 0]) (word_at i)
theorem names_2 : cc0_transform_2 k0_off1_inb numel1_S1 pf i = ![(pf 0 (ix1 (num i))).toNat, 0, 0] :=
  congrArg (fun j => ![(pf 0 j).toNat, 0, 0]) (word_at i)
theorem names_3 : cc0_transform_3 k0_off1_inb numel1_S1 pf i = ![(pf 0 (ix1 (num i))).toNat, 0, 0] :=
  congrArg (fun j => ![(pf 0 j).toNat, 0, 0]) (word_at i)

/-- A word between 0 and 8 read as a number. -/
theorem toNat_lt {v : BitVec 32} (h0 : 0 ≤ v.toInt) (h1 : v.toInt < 8) : v.toNat < 8 ∧ v.toInt = v.toNat := by
  have hv := v.isLt
  rw [BitVec.toInt_eq_toNat_cond] at h0 h1 ⊢
  split at h0 <;> split at h1 <;> omega

/-- A block of a stack is one matrix of it. -/
theorem inside {n : Nat} (hn : n < 8) (p q : Nat) (a : Fin 3) : ((![n, 0, 0] : Fin 3 → Nat) a + 1) * (![1, p, q] : Fin 3 → Nat) a ≤ (![8, p, q] : Fin 3 → Nat) a := by
  match a with
  | 0 => show (n + 1) * 1 ≤ 8; omega
  | 1 => show (0 + 1) * p ≤ p; omega
  | 2 => show (0 + 1) * q ≤ q; omega

variable (m : (ℓ : Loc nD τ sig) → Buf (Elt F) ℓ)

theorem named (h : ∀ b : Fin 72, 0 ≤ (tables m 0 (ix1 b)).toInt ∧ (tables m 0 (ix1 b)).toInt < 8) : Named m := by
  have hn : ∀ i : grid0.Coords, (tables m 0 (ix1 (num i))).toNat < 8 := fun i => (toNat_lt (h _).1 (h _).2).1
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · rw [names_1]; exact inside (hn i) 1024 2816 a
  · rw [names_2]; exact inside (hn i) 1024 2816 a
  · rw [names_3]; exact inside (hn i) 2816 1024 a

theorem counted (h : ∀ b : Fin 72, 0 ≤ (tables m 1 (ix1 b)).toInt) : Counted m := fun c i =>
  (congrArg (fun v : BitVec 32 => 0 ≤ v.toInt) (count_eq c i (tables m 1))).mpr (h _)

end Cert.ExpertsIdeal.Run

end
-- ==== Proof.Experts.Body.lean ====
/- What the experts' kernel body leaves in its output's block, over the extended reals: each row of 1024 numbers, spread over
   eight rows of 128, goes through its expert's gate, its other matrix and its last one. -/
module

public import proofs.«01_k».proof.Proof.Experts.Frame
public import proofs.«01_k».proof.Proof.Ffn.Body

@[expose] public section

set_option maxRecDepth 16384

noncomputable section

namespace Cert.ExpertsIdeal.Run

open Cert.ExpertsIdeal.Gen Cert.Feed
open Idealize.ShloMosaic Idealize.ShloMosaic.TcCoe Idealize.ShloMosaic.Tactic
open Idealize.SL.Sem

/-! ## Lists of stores -/

section Lists

variable {Val : EltTy → Type} {e : EltTy} [∀ e, Nonempty (Val e)]

/-- One more store of 256 columns, to the right of those already known. -/
theorem cols_cons {n o : Nat} (hn : n ≤ 512) (inb) (w : (⟨2, ![n, 256]⟩ : Shape).Idx → Val e) (L : List (View.Piece Val S512x2816 e))
    (S : Fin 512 → Fin 2816 → Val e) (hL : ∀ (r : Fin 512) (k : Fin 2816), r.val < n → k.val < o → View.canon L (ix2 r k) = S r k)
    (hw : ∀ (r : Fin n) (b : Fin 256) (hb : o + b.val < 2816), w (ix2 r b) = S ⟨r.val, by omega⟩ ⟨o + b.val, hb⟩) :
    ∀ (r : Fin 512) (k : Fin 2816), r.val < n → k.val < o + 256 →
      View.canon ((⟨Rect.unit ![0, o] ![n, 256] inb, w⟩ : View.Piece Val S512x2816 e) :: L) (ix2 r k) = S r k := by
  intro r k hr hk
  by_cases ho : k.val < o
  · refine (View.canon_cons_of_not_mem (⟨Rect.unit ![0, o] ![n, 256] inb, w⟩ : View.Piece Val S512x2816 e) L fun hm => ?_).trans (hL r k hr ho)
    have h1 := ((Rect.mem_set_unit (inb := inb)).mp hm 1).1
    replace h1 : o ≤ k.val := h1
    omega
  · have hy : (ix2 r k : S512x2816.Idx) = (Rect.unit (s := S512x2816) ![0, o] ![n, 256] inb).emb (ix2 (⟨r.val, hr⟩ : Fin n) (⟨k.val - o, by omega⟩ : Fin 256)) := by
      funext a; apply Fin.ext
      match a with
      | 0 => exact show r.val = 0 + 1 * r.val by omega
      | 1 => exact show k.val = o + 1 * (k.val - o) by omega
    rw [hy]
    refine (View.canon_cons_emb _ _ _ _).trans ((hw ⟨r.val, hr⟩ ⟨k.val - o, by omega⟩ (show o + (k.val - o) < 2816 by omega)).trans ?_)
    exact congrArg (S r) (Fin.ext (show o + (k.val - o) = k.val by omega))

/-- One more store of every eighth row, after those whose remainders are smaller. -/
theorem rows_cons {h s : Nat} (hh : h ≤ 512) (hs : s < 8) (inb : Fits h s) (w : (every h s inb).shape.Idx → Val e) (L : List (View.Piece Val S4096x128 e))
    (T : Fin 512 → Fin 1024 → Val e)
    (hL : ∀ (r : Fin 4096) (k : Fin 128), r.val / 8 < h → r.val % 8 < s →
      View.canon L (ix2 r k) = T ⟨r.val / 8, by omega⟩ ⟨128 * (r.val % 8) + k.val, by omega⟩)
    (hw : ∀ (t : Fin h) (k : Fin 128), w (ix2 t k) = T ⟨t.val, by omega⟩ ⟨128 * s + k.val, by omega⟩) :
    ∀ (r : Fin 4096) (k : Fin 128), r.val / 8 < h → r.val % 8 < s + 1 →
      View.canon ((⟨every h s inb, w⟩ : View.Piece Val S4096x128 e) :: L) (ix2 r k)
        = T ⟨r.val / 8, by omega⟩ ⟨128 * (r.val % 8) + k.val, by omega⟩ := by
  intro r k hr hk
  rw [canon_every inb w L hs]
  split
  · rename_i hc
    refine (hw ⟨r.val / 8, hr⟩ k).trans (congrArg (T ⟨r.val / 8, by omega⟩) (Fin.ext ?_))
    show 128 * s + k.val = 128 * (r.val % 8) + k.val
    omega
  · exact hL r k hr (by omega)

end Lists

/-! ## The mathematics of a block -/

/-- A row of the block: 1024 numbers, from eight rows of 128. -/
def row (x0 : S4096x128.Idx → EReal) (t : Fin 512) (x : Fin 1024) : EReal :=
  x0 (ix2 ⟨8 * t.val + x.val / 128, by omega⟩ ⟨x.val % 128, Nat.mod_lt _ (by decide)⟩)

/-- A row's activation, and the row out of its expert. -/
def inner (x0 : S4096x128.Idx → EReal) (x1 x2 : S1x1024x2816.Idx → EReal) (t : Fin 512) (j : Fin 2816) : EReal :=
  swiglu (row x0 t) (fun x j => x1 (ix3 (0 : Fin 1) x j)) (fun x j => x2 (ix3 (0 : Fin 1) x j)) j
def outer (x0 : S4096x128.Idx → EReal) (x1 x2 : S1x1024x2816.Idx → EReal) (x3 : S1x2816x1024.Idx → EReal) (t : Fin 512) (c : Fin 1024) : EReal :=
  ∑ j, inner x0 x1 x2 t j * x3 (ix3 (0 : Fin 1) j c)

/-! ## The kernel's values -/

/-- A group of 128 columns out of 1024. -/
theorem cut {n o : Nat} (v : (⟨2, ![n, 1024]⟩ : Shape).Idx → EReal) (hs) (t : Fin n) (k : Fin 128) (ho : o + k.val < 1024) :
    extractStridedSlice (⟨2, ![n, 128]⟩ : Shape) ![0, o] v hs (ix2 t k) = v (ix2 t ⟨o + k.val, ho⟩) := by
  refine congrArg v ?_
  funext a; apply Fin.ext
  match a with
  | 0 => exact show 0 + t.val = t.val by omega
  | 1 => rfl

/-- Eight groups of 128 columns, one after the other: a column is its remainder's in the group of its quotient. -/
theorem chain {n : Nat} (v : Fin 8 → (⟨2, ![n, 128]⟩ : Shape).Idx → EReal) (t : Fin n) (x : Fin 1024) :
    (if h : x.val < 128 then v 0 (ix2 t ⟨x.val, h⟩)
      else if h : x.val - 128 < 128 then v 1 (ix2 t ⟨x.val - 128, h⟩)
      else if h : x.val - 128 - 128 < 128 then v 2 (ix2 t ⟨x.val - 128 - 128, h⟩)
      else if h : x.val - 128 - 128 - 128 < 128 then v 3 (ix2 t ⟨x.val - 128 - 128 - 128, h⟩)
      else if h : x.val - 128 - 128 - 128 - 128 < 128 then v 4 (ix2 t ⟨x.val - 128 - 128 - 128 - 128, h⟩)
      else if h : x.val - 128 - 128 - 128 - 128 - 128 < 128 then v 5 (ix2 t ⟨x.val - 128 - 128 - 128 - 128 - 128, h⟩)
      else if h : x.val - 128 - 128 - 128 - 128 - 128 - 128 < 128 then v 6 (ix2 t ⟨x.val - 128 - 128 - 128 - 128 - 128 - 128, h⟩)
      else v 7 (ix2 t ⟨x.val - 128 - 128 - 128 - 128 - 128 - 128 - 128, by omega⟩))
      = v ⟨x.val / 128, by omega⟩ (ix2 t ⟨x.val % 128, Nat.mod_lt _ (by decide)⟩) := by
  have e : ∀ (s : Fin 8) (y : Fin 128), x.val = 128 * s.val + y.val →
      v s (ix2 t y) = v ⟨x.val / 128, by omega⟩ (ix2 t ⟨x.val % 128, Nat.mod_lt _ (by decide)⟩) := by
    intro s y h
    exact congrArg₂ (fun s y => v s (ix2 t y)) (Fin.ext (show s.val = x.val / 128 by omega)) (Fin.ext (show y.val = x.val % 128 by omega))
  split_ifs
  · exact e 0 _ (show x.val = 128 * 0 + x.val by omega)
  · exact e 1 _ (show x.val = 128 * 1 + (x.val - 128) by omega)
  · exact e 2 _ (show x.val = 128 * 2 + (x.val - 128 - 128) by omega)
  · exact e 3 _ (show x.val = 128 * 3 + (x.val - 128 - 128 - 128) by omega)
  · exact e 4 _ (show x.val = 128 * 4 + (x.val - 128 - 128 - 128 - 128) by omega)
  · exact e 5 _ (show x.val = 128 * 5 + (x.val - 128 - 128 - 128 - 128 - 128) by omega)
  · exact e 6 _ (show x.val = 128 * 6 + (x.val - 128 - 128 - 128 - 128 - 128 - 128) by omega)
  · exact e 7 _ (show x.val = 128 * 7 + (x.val - 128 - 128 - 128 - 128 - 128 - 128 - 128) by omega)

theorem gathered_whole (v : Fin 8 → Vec Ideal S512x128 .f32) (t : Fin 512) (x : Fin 1024) :
    k0_pay17 (F := Ideal) (v 0) (v 1) (v 2) (v 3) (v 4) (v 5) (v 6) (v 7) (ix2 t x)
      = v ⟨x.val / 128, by omega⟩ (ix2 t ⟨x.val % 128, Nat.mod_lt _ (by decide)⟩) := by
  refine Eq.trans ?_ (chain v t x)
  pointwise [k0_pay17]

theorem gathered_half (v : Fin 8 → Vec Ideal S256x128 .f32) (t : Fin 256) (x : Fin 1024) :
    k0_pay35 (F := Ideal) (v 0) (v 1) (v 2) (v 3) (v 4) (v 5) (v 6) (v 7) (ix2 t x)
      = v ⟨x.val / 128, by omega⟩ (ix2 t ⟨x.val % 128, Nat.mod_lt _ (by decide)⟩) := by
  refine Eq.trans ?_ (chain v t x)
  pointwise [k0_pay35]

theorem piece_whole (h : Vec Ideal S512x1024 .bf16) (g u : Vec Ideal S1024x256 .bf16) (r : Fin 512) (c : Fin 256) :
    k0_pay20 (F := Ideal) h g u (ix2 r c)
      = (∑ x, h (ix2 r x) * g (ix2 x c)) * Ideal.logistic (∑ x, h (ix2 r x) * g (ix2 x c)) * ∑ x, h (ix2 r x) * u (ix2 x c) := by
  pointwise [k0_pay20]

theorem piece_half (h : Vec Ideal S256x1024 .bf16) (g u : Vec Ideal S1024x256 .bf16) (r : Fin 256) (c : Fin 256) :
    k0_pay38 (F := Ideal) h g u (ix2 r c)
      = (∑ x, h (ix2 r x) * g (ix2 x c)) * Ideal.logistic (∑ x, h (ix2 r x) * g (ix2 x c)) * ∑ x, h (ix2 r x) * u (ix2 x c) := by
  pointwise [k0_pay38]

theorem last_whole (a : Vec Ideal S512x2816 .bf16) (d : Vec Ideal S1x2816x1024 .bf16) (r : Fin 512) (c : Fin 1024) :
    k0_pay33 (F := Ideal) a d (ix2 r c) = ∑ j, a (ix2 r j) * d (ix3 (0 : Fin 1) j c) := by
  pointwise [k0_pay33]

theorem last_half (a : Vec Ideal S256x2816 .bf16) (d : Vec Ideal S1x2816x1024 .bf16) (r : Fin 256) (c : Fin 1024) :
    k0_pay51 (F := Ideal) a d (ix2 r c) = ∑ j, a (ix2 r j) * d (ix3 (0 : Fin 1) j c) := by
  pointwise [k0_pay51]

/-- A load of 256 columns of a weight through its block without the leading axis. -/
theorem weight_ld (a : Memref sig .tc .vmem S1x1024x2816 .bf16) (w : a.IsWhole) (X : S1x1024x2816.Idx → Elt Ideal .bf16) (i0 p sq) {o : Nat} (i1)
    (x : Fin 1024) (b : Fin 256) (hb : o + b.val < 2816) :
    View.readAt (Elt Ideal) ((a.slice (Rect.unit (s := S1x1024x2816) ![0, 0, 0] S1x1024x2816.size i0) p).squeeze S1024x2816 sq).view
      (Rect.unit (s := S1024x2816) ![0, o] S1024x256.size i1).toLoadRect (w.unread X) (ix2 x b) = X (ix3 (0 : Fin 1) x ⟨o + b.val, hb⟩) := by
  have e : (Rect.unit (s := S1024x2816) ![0, o] S1024x256.size i1).toLoadRect.idx (ix2 x b) = (ix2 x ⟨o + b.val, hb⟩ : S1024x2816.Idx) := by
    funext a; apply Fin.ext
    match a with
    | 0 => exact show 0 + 1 * x.val = x.val by omega
    | 1 => exact show o + 1 * b.val = o + b.val by omega
  have e' : (Rect.unit (s := S1x1024x2816) ![0, 0, 0] S1x1024x2816.size i0).emb
      (Shape.reshapeEquiv (s := S1x1024x2816) sq.numel_eq (ix2 x ⟨o + b.val, hb⟩ : S1024x2816.Idx)) = (ix3 (0 : Fin 1) x ⟨o + b.val, hb⟩ : S1x1024x2816.Idx) := by
    refine (congrArg _ (Shape.reshapeEquiv_cons_one _ _)).trans ?_
    funext a; apply Fin.ext
    match a with
    | 0 => rfl
    | 1 => exact show 0 + 1 * x.val = x.val by omega
    | 2 => exact show 0 + 1 * (o + b.val) = o + b.val by omega
  rw [View.readAt_apply, e]
  refine Eq.trans ?_ ((congrFun (w.read_unread X) _).trans (congrArg X e'))
  rfl

/-! ## The whole block -/

section Whole

variable (c : Dev nD) (i : grid0.Coords)
  (a3 : Memref sig .tc .vmem S4096x128 .f32) (w3 : a3.IsWhole) (a4 : Memref sig .tc .vmem S1x1024x2816 .bf16) (w4 : a4.IsWhole)
  (a5 : Memref sig .tc .vmem S1x1024x2816 .bf16) (w5 : a5.IsWhole) (a6 : Memref sig .tc .vmem S1x2816x1024 .bf16) (w6 : a6.IsWhole)
  (a7 : Memref sig .tc .vmem S4096x128 .f32) (w7 : a7.IsWhole) (a8 : Memref sig .tc .vmem S512x1024 .bf16) (w8 : a8.IsWhole)
  (a9 : Memref sig .tc .vmem S512x2816 .bf16) (w9 : a9.IsWhole)
  (x0 : Vec Ideal S4096x128 .f32) (x1 : Vec Ideal S1x1024x2816 .bf16) (x2 : Vec Ideal S1x1024x2816 .bf16) (x3 : Vec Ideal S1x2816x1024 .bf16)
  (t0 : Words Ideal c experts) (t1 : Words Ideal c counts)

/-- Every eighth row of the block, from a remainder. -/
theorem eighth {h : Nat} (hh : h ≤ 512) {s : Nat} (hs : s < 8) (inb : Fits h s) (t : Fin h) (l : Fin 128) :
    View.readAt (Elt Ideal) a3.view (every h s inb).toLoadRect (w3.unread x0) (ix2 t l) = x0 (ix2 ⟨8 * t.val + s, by omega⟩ l) := by
  refine (congrFun (w3.read_unread x0) _).trans (congrArg x0 ?_)
  funext a; apply Fin.ext
  match a with
  | 0 => exact show s + 8 * t.val = 8 * t.val + s by omega
  | 1 => exact show 0 + 1 * l.val = l.val by omega

theorem group {h g u : Fin 1024 → EReal} (t : Fin 512) (j : Fin 2816) (hh : ∀ x, h x = row x0 t x) (hg : ∀ x, g x = x1 (ix3 (0 : Fin 1) x j))
    (hu : ∀ x, u x = x2 (ix3 (0 : Fin 1) x j)) :
    (∑ x, h x * g x) * Ideal.logistic (∑ x, h x * g x) * ∑ x, h x * u x = inner x0 x1 x2 t j := by
  unfold inner swiglu
  simp only [hh, hg, hu]

theorem whole_acts (h1 h2 h3) : ∃ A X, (whole c i a3 w3 a4 w4 a5 w5 a6 w6 a7 w7 a8 w8 a9 w9 x0 x1 x2 x3 t0 t1 h1 h2 h3).1
    = [⟨every 512 7 inb_S4096x128_S512x128_7_0_s_8_1, k0_pay7 (k0_pay33 A X)⟩, ⟨every 512 6 inb_S4096x128_S512x128_6_0_s_8_1, k0_pay6 (k0_pay33 A X)⟩,
      ⟨every 512 5 inb_S4096x128_S512x128_5_0_s_8_1, k0_pay5 (k0_pay33 A X)⟩, ⟨every 512 4 inb_S4096x128_S512x128_4_0_s_8_1, k0_pay4 (k0_pay33 A X)⟩,
      ⟨every 512 3 inb_S4096x128_S512x128_3_0_s_8_1, k0_pay3 (k0_pay33 A X)⟩, ⟨every 512 2 inb_S4096x128_S512x128_2_0_s_8_1, k0_pay2 (k0_pay33 A X)⟩,
      ⟨every 512 1 inb_S4096x128_S512x128_1_0_s_8_1, k0_pay1 (k0_pay33 A X)⟩, ⟨every 512 0 inb_S4096x128_S512x128_0_0_s_8_1, k0_pay34 A X⟩]
    ∧ (∀ t j, A (ix2 t j) = inner x0 x1 x2 t j) ∧ X = x3 := by
  refine ⟨?A, ?X, ?h, ?hA, ?hX⟩
  case h =>
    unfold whole
    dsimp only
    sl_unfold_words
    rfl
  case hX =>
    simp only [View.readAt_eq_ld, w6.read_unread]
    exact Cert.FfnIdeal.Terms.ld3 x3 _
  case hA =>
    have hrow : ∀ (t : Fin 512) (x : Fin 1024), a8.view.readCov [(⟨Rect.unit ![0, 0] S512x1024.size inb_S512x1024_S512x1024_0_0,
        k0_pay17 (F := Ideal)
          (View.readAt (Elt Ideal) a3.view (every 512 0 inb_S4096x128_S512x128_0_0_s_8_1).toLoadRect (w3.unread x0))
          (View.readAt (Elt Ideal) a3.view (every 512 1 inb_S4096x128_S512x128_1_0_s_8_1).toLoadRect (w3.unread x0))
          (View.readAt (Elt Ideal) a3.view (every 512 2 inb_S4096x128_S512x128_2_0_s_8_1).toLoadRect (w3.unread x0))
          (View.readAt (Elt Ideal) a3.view (every 512 3 inb_S4096x128_S512x128_3_0_s_8_1).toLoadRect (w3.unread x0))
          (View.readAt (Elt Ideal) a3.view (every 512 4 inb_S4096x128_S512x128_4_0_s_8_1).toLoadRect (w3.unread x0))
          (View.readAt (Elt Ideal) a3.view (every 512 5 inb_S4096x128_S512x128_5_0_s_8_1).toLoadRect (w3.unread x0))
          (View.readAt (Elt Ideal) a3.view (every 512 6 inb_S4096x128_S512x128_6_0_s_8_1).toLoadRect (w3.unread x0))
          (View.readAt (Elt Ideal) a3.view (every 512 7 inb_S4096x128_S512x128_7_0_s_8_1).toLoadRect (w3.unread x0))⟩ :
            View.Piece (Elt Ideal) S512x1024 .bf16)]
        (Rect.unit ![0, 0] S512x1024.size inb_S512x1024_S512x1024_0_0).toLoadRect (ix2 t x) = row x0 t x := by
      intro t x
      rw [Cert.FfnIdeal.Terms.cov2, Cert.FfnIdeal.Terms.canon2]
      have hs : ∀ s : Fin 8, Fits 512 s.val := by decide
      exact (gathered_whole (fun s => View.readAt (Elt Ideal) a3.view (every 512 s.val (hs s)).toLoadRect (w3.unread x0)) t x).trans
        (eighth a3 w3 x0 le_rfl (show x.val / 128 < 8 by omega) _ t _)
    intro t j
    rw [Cert.FfnIdeal.Terms.cov2]
    refine cols_cons (Val := Elt Ideal) (e := .bf16) (n := 512) (o := 2560) le_rfl _ _ _ (inner x0 x1 x2) ?_ ?_ t j t.isLt j.isLt
    iterate 10 refine cols_cons (Val := Elt Ideal) (e := .bf16) (n := 512) le_rfl _ _ _ (inner x0 x1 x2) ?_ ?_
    · exact fun _ k _ hk => absurd hk (Nat.not_lt_zero k.val)
    all_goals
      intro r b hb
      exact (piece_whole _ _ _ r b).trans (group x0 x1 x2 r _ (hrow r) (fun x => weight_ld a4 w4 x1 _ _ _ _ x b hb)
        (fun x => weight_ld a5 w5 x2 _ _ _ _ x b hb))

/-- A load of the first rows of a buffer reads what the stores left in them. -/
theorem cov_first {n b N : Nat} {e : EltTy} (v : View sig .tc .vmem ⟨2, ![N, b]⟩ e) (L : List (View.Piece (Elt Ideal) ⟨2, ![N, b]⟩ e)) (inb)
    (t : Fin n) (j : Fin b) (ht : t.val < N) :
    v.readCov L (Rect.unit (s := ⟨2, ![N, b]⟩) ![0, 0] ![n, b] inb).toLoadRect (ix2 t j) = View.canon L (ix2 ⟨t.val, ht⟩ j) := by
  refine (congrFun (View.readCov_eq_canon' v L (Rect.unit (s := ⟨2, ![N, b]⟩) ![0, 0] ![n, b] inb).toLoadRect) (ix2 t j)).trans
    (congrArg (View.canon L) ?_)
  funext a; apply Fin.ext
  match a with
  | 0 => exact show 0 + 1 * t.val = t.val by omega
  | 1 => exact show 0 + 1 * j.val = j.val by omega

/-- A store of the first rows leaves its value there. -/
theorem canon_first {n b N : Nat} {e : EltTy} (inb) (w : (⟨2, ![n, b]⟩ : Shape).Idx → Elt Ideal e) (t : Fin n) (j : Fin b) (ht : t.val < N) :
    View.canon [(⟨Rect.unit (s := ⟨2, ![N, b]⟩) ![0, 0] ![n, b] inb, w⟩ : View.Piece (Elt Ideal) ⟨2, ![N, b]⟩ e)] (ix2 ⟨t.val, ht⟩ j) = w (ix2 t j) := by
  have hy : (ix2 ⟨t.val, ht⟩ j : (⟨2, ![N, b]⟩ : Shape).Idx) = (Rect.unit (s := ⟨2, ![N, b]⟩) ![0, 0] ![n, b] inb).emb (ix2 t j) := by
    funext a; apply Fin.ext
    match a with
    | 0 => exact show t.val = 0 + 1 * t.val by omega
    | 1 => exact show j.val = 0 + 1 * j.val by omega
  rw [hy]; exact View.canon_cons_emb _ _ _ _

theorem half_acts (h1 h2 h3) : ∃ A X, (half c i a3 w3 a4 w4 a5 w5 a6 w6 a7 w7 a8 w8 a9 w9 x0 x1 x2 x3 t0 t1 h1 h2 h3).1
    = [⟨Rect.unit ![2048, 0] S2048x128.size inb_S4096x128_S2048x128_2048_0, k0_pay15 (F := Ideal)⟩,
      ⟨every 256 7 inb_S4096x128_S256x128_7_0_s_8_1, k0_pay14 (k0_pay51 A X)⟩, ⟨every 256 6 inb_S4096x128_S256x128_6_0_s_8_1, k0_pay13 (k0_pay51 A X)⟩,
      ⟨every 256 5 inb_S4096x128_S256x128_5_0_s_8_1, k0_pay12 (k0_pay51 A X)⟩, ⟨every 256 4 inb_S4096x128_S256x128_4_0_s_8_1, k0_pay11 (k0_pay51 A X)⟩,
      ⟨every 256 3 inb_S4096x128_S256x128_3_0_s_8_1, k0_pay10 (k0_pay51 A X)⟩, ⟨every 256 2 inb_S4096x128_S256x128_2_0_s_8_1, k0_pay9 (k0_pay51 A X)⟩,
      ⟨every 256 1 inb_S4096x128_S256x128_1_0_s_8_1, k0_pay8 (k0_pay51 A X)⟩, ⟨every 256 0 inb_S4096x128_S256x128_0_0_s_8_1, k0_pay52 A X⟩]
    ∧ (∀ (t : Fin 256) j, A (ix2 t j) = inner x0 x1 x2 ⟨t.val, by omega⟩ j) ∧ X = x3 := by
  refine ⟨?A, ?X, ?h, ?hA, ?hX⟩
  case h =>
    unfold half
    dsimp only
    sl_unfold_words
    rfl
  case hX =>
    simp only [View.readAt_eq_ld, w6.read_unread]
    exact Cert.FfnIdeal.Terms.ld3 x3 _
  case hA =>
    have hrow : ∀ (t : Fin 256) (x : Fin 1024), a8.view.readCov [(⟨Rect.unit ![0, 0] S256x1024.size inb_S512x1024_S256x1024_0_0,
        k0_pay35 (F := Ideal)
          (View.readAt (Elt Ideal) a3.view (every 256 0 inb_S4096x128_S256x128_0_0_s_8_1).toLoadRect (w3.unread x0))
          (View.readAt (Elt Ideal) a3.view (every 256 1 inb_S4096x128_S256x128_1_0_s_8_1).toLoadRect (w3.unread x0))
          (View.readAt (Elt Ideal) a3.view (every 256 2 inb_S4096x128_S256x128_2_0_s_8_1).toLoadRect (w3.unread x0))
          (View.readAt (Elt Ideal) a3.view (every 256 3 inb_S4096x128_S256x128_3_0_s_8_1).toLoadRect (w3.unread x0))
          (View.readAt (Elt Ideal) a3.view (every 256 4 inb_S4096x128_S256x128_4_0_s_8_1).toLoadRect (w3.unread x0))
          (View.readAt (Elt Ideal) a3.view (every 256 5 inb_S4096x128_S256x128_5_0_s_8_1).toLoadRect (w3.unread x0))
          (View.readAt (Elt Ideal) a3.view (every 256 6 inb_S4096x128_S256x128_6_0_s_8_1).toLoadRect (w3.unread x0))
          (View.readAt (Elt Ideal) a3.view (every 256 7 inb_S4096x128_S256x128_7_0_s_8_1).toLoadRect (w3.unread x0))⟩ :
            View.Piece (Elt Ideal) S512x1024 .bf16)]
        (Rect.unit (s := S512x1024) ![0, 0] S256x1024.size inb_S512x1024_S256x1024_0_0).toLoadRect (ix2 t x) = row x0 ⟨t.val, by omega⟩ x := by
      intro t x
      refine (cov_first _ _ _ t x (by omega)).trans ((canon_first _ _ t x (by omega)).trans ?_)
      have hs : ∀ s : Fin 8, Fits 256 s.val := by decide
      exact (gathered_half (fun s => View.readAt (Elt Ideal) a3.view (every 256 s.val (hs s)).toLoadRect (w3.unread x0)) t x).trans
        (eighth a3 w3 x0 (by decide) (show x.val / 128 < 8 by omega) _ t _)
    intro t j
    refine (cov_first _ _ _ t j (by omega)).trans ?_
    refine cols_cons (Val := Elt Ideal) (e := .bf16) (n := 256) (o := 2560) (by decide) _ _ _ (inner x0 x1 x2) ?_ ?_ ⟨t.val, by omega⟩ j t.isLt j.isLt
    iterate 10 refine cols_cons (Val := Elt Ideal) (e := .bf16) (n := 256) (by decide) _ _ _ (inner x0 x1 x2) ?_ ?_
    · exact fun _ k _ hk => absurd hk (Nat.not_lt_zero k.val)
    all_goals
      intro r b hb
      exact (piece_half _ _ _ r b).trans (group x0 x1 x2 _ _ (hrow r) (fun x => weight_ld a4 w4 x1 _ _ _ _ x b hb)
        (fun x => weight_ld a5 w5 x2 _ _ _ _ x b hb))

/-- A whole block: every row goes through its expert. -/
theorem whole_leaves (h1 h2 h3) (r : Fin 4096) (k : Fin 128) :
    View.canon (whole c i a3 w3 a4 w4 a5 w5 a6 w6 a7 w7 a8 w8 a9 w9 x0 x1 x2 x3 t0 t1 h1 h2 h3).1 (ix2 r k)
      = outer x0 x1 x2 x3 ⟨r.val / 8, by omega⟩ ⟨128 * (r.val % 8) + k.val, by omega⟩ := by
  obtain ⟨A, X, e, hA, hX⟩ := whole_acts c i a3 w3 a4 w4 a5 w5 a6 w6 a7 w7 a8 w8 a9 w9 x0 x1 x2 x3 t0 t1 h1 h2 h3
  subst hX
  rw [e]
  have hd : ∀ (t : Fin 512) (c : Fin 1024), k0_pay33 A X (ix2 t c) = outer x0 x1 x2 X t c := fun t c =>
    (last_whole A X t c).trans (Finset.sum_congr rfl fun j _ => congrArg (· * X (ix3 (0 : Fin 1) j c)) (hA t j))
  refine rows_cons (Val := Elt Ideal) (e := .f32) (h := 512) (s := 7) le_rfl (by decide) _ _ _ (outer x0 x1 x2 X) ?_ ?_ r k (by omega) (by omega)
  iterate 7 refine rows_cons (Val := Elt Ideal) (e := .f32) (h := 512) le_rfl (by decide) _ _ _ (outer x0 x1 x2 X) ?_ ?_
  · exact fun r _ _ hr => absurd hr (Nat.not_lt_zero (r.val % 8))
  · exact fun t k => (cut (o := 0) (k0_pay33 A X) slices_S512x1024_o0_0_S512x128 t k (by omega)).trans (hd t _)
  · exact fun t k => (cut (o := 128) (k0_pay33 A X) slices_S512x1024_o0_128_S512x128 t k (by omega)).trans (hd t _)
  · exact fun t k => (cut (o := 256) (k0_pay33 A X) slices_S512x1024_o0_256_S512x128 t k (by omega)).trans (hd t _)
  · exact fun t k => (cut (o := 384) (k0_pay33 A X) slices_S512x1024_o0_384_S512x128 t k (by omega)).trans (hd t _)
  · exact fun t k => (cut (o := 512) (k0_pay33 A X) slices_S512x1024_o0_512_S512x128 t k (by omega)).trans (hd t _)
  · exact fun t k => (cut (o := 640) (k0_pay33 A X) slices_S512x1024_o0_640_S512x128 t k (by omega)).trans (hd t _)
  · exact fun t k => (cut (o := 768) (k0_pay33 A X) slices_S512x1024_o0_768_S512x128 t k (by omega)).trans (hd t _)
  · exact fun t k => (cut (o := 896) (k0_pay33 A X) slices_S512x1024_o0_896_S512x128 t k (by omega)).trans (hd t _)

/-- Half a block: its rows go through their expert, and zeros lie below. -/
theorem half_leaves (h1 h2 h3) (r : Fin 4096) (k : Fin 128) :
    View.canon (half c i a3 w3 a4 w4 a5 w5 a6 w6 a7 w7 a8 w8 a9 w9 x0 x1 x2 x3 t0 t1 h1 h2 h3).1 (ix2 r k)
      = if r.val < 2048 then outer x0 x1 x2 x3 ⟨r.val / 8, by omega⟩ ⟨128 * (r.val % 8) + k.val, by omega⟩ else 0 := by
  obtain ⟨A, X, e, hA, hX⟩ := half_acts c i a3 w3 a4 w4 a5 w5 a6 w6 a7 w7 a8 w8 a9 w9 x0 x1 x2 x3 t0 t1 h1 h2 h3
  subst hX
  rw [e]
  have hd : ∀ (t : Fin 256) (c : Fin 1024), k0_pay51 A X (ix2 t c) = outer x0 x1 x2 X ⟨t.val, by omega⟩ c := fun t c =>
    (last_half A X t c).trans (Finset.sum_congr rfl fun j _ => congrArg (· * X (ix3 (0 : Fin 1) j c)) (hA t j))
  split
  · rename_i hr
    refine (View.canon_cons_of_not_mem (⟨Rect.unit ![2048, 0] S2048x128.size inb_S4096x128_S2048x128_2048_0, k0_pay15 (F := Ideal)⟩ :
      View.Piece (Elt Ideal) S4096x128 .f32) _ fun hm => ?_).trans ?_
    · have h0 := ((Rect.mem_set_unit (inb := inb_S4096x128_S2048x128_2048_0)).mp hm 0).1
      replace h0 : 2048 ≤ r.val := h0
      omega
    refine rows_cons (Val := Elt Ideal) (e := .f32) (h := 256) (s := 7) (by decide) (by decide) _ _ _ (outer x0 x1 x2 X) ?_ ?_ r k (by omega) (by omega)
    iterate 7 refine rows_cons (Val := Elt Ideal) (e := .f32) (h := 256) (by decide) (by decide) _ _ _ (outer x0 x1 x2 X) ?_ ?_
    · exact fun r _ _ hr => absurd hr (Nat.not_lt_zero (r.val % 8))
    · exact fun t k => (cut (o := 0) (k0_pay51 A X) slices_S256x1024_o0_0_S256x128 t k (by omega)).trans (hd t _)
    · exact fun t k => (cut (o := 128) (k0_pay51 A X) slices_S256x1024_o0_128_S256x128 t k (by omega)).trans (hd t _)
    · exact fun t k => (cut (o := 256) (k0_pay51 A X) slices_S256x1024_o0_256_S256x128 t k (by omega)).trans (hd t _)
    · exact fun t k => (cut (o := 384) (k0_pay51 A X) slices_S256x1024_o0_384_S256x128 t k (by omega)).trans (hd t _)
    · exact fun t k => (cut (o := 512) (k0_pay51 A X) slices_S256x1024_o0_512_S256x128 t k (by omega)).trans (hd t _)
    · exact fun t k => (cut (o := 640) (k0_pay51 A X) slices_S256x1024_o0_640_S256x128 t k (by omega)).trans (hd t _)
    · exact fun t k => (cut (o := 768) (k0_pay51 A X) slices_S256x1024_o0_768_S256x128 t k (by omega)).trans (hd t _)
    · exact fun t k => (cut (o := 896) (k0_pay51 A X) slices_S256x1024_o0_896_S256x128 t k (by omega)).trans (hd t _)
  · rename_i hr
    have hy : (ix2 r k : S4096x128.Idx) = (Rect.unit (s := S4096x128) ![2048, 0] S2048x128.size inb_S4096x128_S2048x128_2048_0).emb
        (ix2 (⟨r.val - 2048, by omega⟩ : Fin 2048) k) := by
      funext a; apply Fin.ext
      match a with
      | 0 => exact show r.val = 2048 + 1 * (r.val - 2048) by omega
      | 1 => exact show k.val = 0 + 1 * k.val by omega
    rw [hy]
    refine (View.canon_cons_emb _ _ _ _).trans ?_
    show Ideal.ofBits .f32 0x00000000#32 = 0
    simp [Ideal.ofBits, Ideal.ieee]

/-- No rows: zeros. -/
theorem none_leaves (h1 h2 h3) (r : Fin 4096) (k : Fin 128) :
    View.canon (none c i a3 w3 a4 w4 a5 w5 a6 w6 a7 w7 a8 w8 a9 w9 x0 x1 x2 x3 t0 t1 h1 h2 h3).1 (ix2 r k) = 0 := by
  refine (congrFun (show View.canon (none c i a3 w3 a4 w4 a5 w5 a6 w6 a7 w7 a8 w8 a9 w9 x0 x1 x2 x3 t0 t1 h1 h2 h3).1 = k0_pay16 (F := Ideal) from
    Cert.FfnIdeal.Terms.canon2 _ _) _).trans ?_
  show Ideal.ofBits .f32 0x00000000#32 = 0
  simp [Ideal.ofBits, Ideal.ieee]

/-! ## Rows of zeros -/

/-- A row of zeros stays one. -/
theorem outer_zero (t : Fin 512) (c : Fin 1024) (h : ∀ x, row x0 t x = 0) : outer x0 x1 x2 x3 t c = 0 := by
  unfold outer inner swiglu
  simp [h]

/-- What the body leaves in the output's block when the rows past the count are zeros. -/
theorem stored_leaves (hN) (hz : ∀ (t : Fin 512), ¬ (t.val : Int) < (count c i t1).toInt → ∀ x, row x0 t x = 0) (r : Fin 4096) (k : Fin 128) :
    View.canon (stored c i a3 w3 a4 w4 a5 w5 a6 w6 a7 w7 a8 w8 a9 w9 x0 x1 x2 x3 t0 t1 hN).1 (ix2 r k)
      = outer x0 x1 x2 x3 ⟨r.val / 8, by omega⟩ ⟨128 * (r.val % 8) + k.val, by omega⟩ := by
  unfold stored
  split
  · exact whole_leaves c i a3 w3 a4 w4 a5 w5 a6 w6 a7 w7 a8 w8 a9 w9 x0 x1 x2 x3 t0 t1 (by assumption) (not_second (by assumption)) (not_third (by assumption)) r k
  · split
    · rename_i h1 h2
      refine (half_leaves c i a3 w3 a4 w4 a5 w5 a6 w6 a7 w7 a8 w8 a9 w9 x0 x1 x2 x3 t0 t1 h1 h2 (not_third' h2) r k).trans ?_
      split
      · rfl
      · rename_i hr
        refine (outer_zero x0 x1 x2 x3 _ _ (hz _ ?_)).symm
        have := (second_iff _).mp h2
        show ¬ ((r.val / 8 : Nat) : Int) < _
        omega
    · rename_i h1 h2
      refine (none_leaves c i a3 w3 a4 w4 a5 w5 a6 w6 a7 w7 a8 w8 a9 w9 x0 x1 x2 x3 t0 t1 h1 h2
        (((cases_of_nonneg _ hN).resolve_left fun h => h1 h.1).resolve_left (fun h => h2 h.1)).1 r k).trans ?_
      refine (outer_zero x0 x1 x2 x3 _ _ (hz _ ?_)).symm
      rcases cases_of_nonneg _ hN with h | h | h
      · exact absurd h.1 h1
      · exact absurd h.1 h2
      · show ¬ ((r.val / 8 : Nat) : Int) < _
        omega

end Whole

end Cert.ExpertsIdeal.Run

end
-- ==== Proof.Experts.Reference.lean ====
/- The experts' reference, read row by row: each block's rows go through the expert the block names. -/
module

public import proofs.«01_k».proof.Proof.Experts.Body
public import proofs.«01_k».proof.Proof.Gen.ExpertsRefIdeal.Run

@[expose] public section

set_option maxRecDepth 16384

noncomputable section

namespace Cert.Feed

open Idealize.ShloMosaic

/-- Row `t` of block `b`, from eight rows of 128. -/
def rowOf (X : (⟨2, ![294912, 128]⟩ : Shape).Idx → EReal) (b : Fin 72) (t : Fin 512) (x : Fin 1024) : EReal :=
  X (ix2 (⟨4096 * b.val + (8 * t.val + x.val / 128), by omega⟩ : Fin 294912) ⟨x.val % 128, Nat.mod_lt _ (by decide)⟩)

/-- That row out of expert `e`. -/
def expert (X : (⟨2, ![294912, 128]⟩ : Shape).Idx → EReal) (G U : (⟨3, ![8, 1024, 2816]⟩ : Shape).Idx → EReal)
    (D : (⟨3, ![8, 2816, 1024]⟩ : Shape).Idx → EReal) (e : Fin 8) (b : Fin 72) (t : Fin 512) (c : Fin 1024) : EReal :=
  ∑ j, swiglu (rowOf X b t) (fun x j => G (ix3 e x j)) (fun x j => U (ix3 e x j)) j * D (ix3 e j c)

/-- The gather taking whole matrices of a stack, each named by one number. -/
abbrev pick {N R P Q : Nat} (wf : GatherDims.WF ⟨3, ![N, P, Q]⟩ ⟨2, ![R, 1]⟩ ⟨3, ![R, P, Q]⟩ [1, 2] [0] [] [0] [] 1 ![1, P, Q]) :
    GatherDims ⟨3, ![N, P, Q]⟩ ⟨2, ![R, 1]⟩ ⟨3, ![R, P, Q]⟩ where
  offsetDims := [1, 2]
  collapsedSliceDims := [0]
  operandBatchingDims := []
  startIndicesBatchingDims := []
  startIndexMap := [0]
  indexVectorDim := 1
  sliceSizes := ![1, P, Q]
  wf := wf

/-- Where the number names a matrix of the stack, the gather reads that matrix. -/
theorem pick_apply {N R P Q : Nat} (wf) {α : Type} (V : (⟨3, ![N, P, Q]⟩ : Shape).Idx → α) (I : IVec ⟨2, ![R, 1]⟩ 32)
    (b : Fin R) (x : Fin P) (j : Fin Q) (e : Fin N) (he : (I (ix2 b (0 : Fin 1))).toInt = e.val) :
    Host.gather (pick wf) V I (ix3 b x j) = V (ix3 e x j) := by
  refine congrArg V (funext fun a => Fin.ext ?_)
  change (pick wf).start (ix3 b x j) I a + (pick wf).batchCoord (ix3 b x j) a + (pick wf).offCoord (ix3 b x j) a = _
  rw [GatherDims.batchCoord_eq_zero _ _ _ List.not_mem_nil, Nat.add_zero]
  have hsi : ∀ c, (pick wf).siIdx (ix3 b x j) c = ix2 b (0 : Fin 1) := fun c => funext fun k => Fin.ext (by
    have hc : c.val = 0 := Nat.lt_one_iff.1 c.isLt
    match k with
    | 0 => rfl
    | 1 => exact hc)
  match a with
  | 0 =>
    rw [GatherDims.offCoord_eq_zero _ _ _ (by rw [GatherDims.mem_sKept]; simp)]
    unfold GatherDims.start
    rw [dif_pos (List.mem_singleton.2 rfl), hsi, he]
    change min e.val (N - 1) + 0 = e.val
    omega
  | 1 =>
    have h : (pick wf).start (ix3 b x j) I 1 = 0 := dif_neg (by simp)
    exact (congrArg (· + _) h).trans (Nat.zero_add _)
  | 2 =>
    have h : (pick wf).start (ix3 b x j) I 2 = 0 := dif_neg (by simp)
    exact (congrArg (· + _) h).trans (Nat.zero_add _)

end Cert.Feed

namespace Cert.ExpertsRefIdeal.Value

open Cert.ExpertsRefIdeal Cert.ExpertsRefIdeal.Gen Cert.Feed Idealize.ShloMosaic Idealize.SL.Sem Idealize.ShloMosaic.StableHlo

variable (X : Vec Ideal S294912x128 .f32) (B : IVec S72 32) (G U : Vec Ideal S8x1024x2816 .bf16) (D : Vec Ideal S8x2816x1024 .bf16)

/-- The experts' numbers, as the reference indexes with them: a negative one counts from the end. -/
def pickR : IVec S72x1 32 :=
  broadcastInDim S72x1 ![0] bcast_S72_S72x1_0 (select (cmpi .slt B (broadcastInDim S72 ![] bcast_S_S72 (constantI S_ 32 0#32)))
    (addi B (broadcastInDim S72 ![] bcast_S_S72 (constantI S_ 32 8#32))) B)

/-- The rows, by blocks. -/
def rowsR : FVec Ideal S72x512x1024 .f32 := shapeCast S72x512x1024 X shapeCasts_S294912x128_S72x512x1024

/-- Each block's matrix of the two in. -/
def inR (V : Vec Ideal S8x1024x2816 .bf16) : FVec Ideal S72x1024x2816 .f32 :=
  extf .f32 (Host.gather gather_S8x1024x2816_S72x1_S72x1024x2816_12_0_n_n_0_1_110242816 V (pickR B)) bitsLt_bf16_f32

/-- Each block's matrix out. -/
def backR : FVec Ideal S72x2816x1024 .f32 :=
  extf .f32 (Host.gather gather_S8x2816x1024_S72x1_S72x2816x1024_12_0_n_n_0_1_128161024 D (pickR B)) bitsLt_bf16_f32

/-- The blocks' rows through one of the two matrices in. -/
def upR (H : FVec Ideal S72x512x1024 .f32) (V : FVec Ideal S72x1024x2816 .f32) : FVec Ideal S72x512x2816 .f32 :=
  Host.dotGeneral dot_S72x512x1024_S72x1024x2816_S72x512x2816_2_1_1_2_0_0 none H V

/-- The gated activation. -/
def actR (p q : FVec Ideal S72x512x2816 .f32) : FVec Ideal S72x512x2816 .f32 :=
  mulf (mulf p (Host.divf (broadcastInDim S72x512x2816 ![] bcast_S_S72x512x2816 (constant S_ .f32 0x3F800000#32))
    (addf (broadcastInDim S72x512x2816 ![] bcast_S_S72x512x2816 (constant S_ .f32 0x3F800000#32)) (Host.exp (Host.negf p))))) q

/-- The activation through the matrix out, in rows of 128. -/
def downR (A : FVec Ideal S72x512x2816 .f32) (V : FVec Ideal S72x2816x1024 .f32) : FVec Ideal S294912x128 .f32 :=
  shapeCast S294912x128 (Host.dotGeneral dot_S72x512x2816_S72x2816x1024_S72x512x1024_2_1_1_2_0_0 none A V) shapeCasts_S72x512x1024_S294912x128

/-- The reference's result, from its arguments. -/
def outR : FVec Ideal S294912x128 .f32 := downR (actR (upR (rowsR X) (inR B G)) (upR (rowsR X) (inR B U))) (backR B D)

/-- The reference leaves `outR` of its arguments, and the arguments as they were. -/
theorem run_out (m : (ℓ : Loc nD τ sig) → Buf (Elt Ideal) ℓ) (ρ : Dev nD → PrngReg) :
    θ_run defs (onTc (τ := τ) (main (F := Ideal))) ⟨m, fun _ => 0, ρ⟩ (fun r => ∀ c : Dev nD, r.2.mem ((c.tc : Thread nD τ).loc main_v30)
      = outR (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) :=
  (θ_run defs _ _).mono (fun _ h c => ⟨(h c).1.trans (by unfold outR downR actR upR rowsR inR backR pickR; rfl), (h c).2⟩) (run m ρ)

theorem one_word : Ideal.ofBits .f32 0x3F800000#32 = (1 : EReal) := by
  simp [Ideal.ofBits, Ideal.ieee, -EReal.coe_mul]; norm_num

theorem rowsR_apply (b : Fin 72) (t : Fin 512) (x : Fin 1024) : rowsR X (ix3 b t x) = rowOf X b t x := by
  unfold rowOf
  pointwise [rowsR]
  refine congrArg X (congrArg₂ ix2 (Fin.ext ?_) (Fin.ext ?_)) <;> dsimp only <;> omega

theorem pickR_apply (b : Fin 72) (hb : 0 ≤ (B (ix1 b)).toInt) : pickR B (ix2 b (0 : Fin 1)) = B (ix1 b) := by
  have h : BitVec.slt (B (ix1 b)) 0#32 = false := by
    simp only [BitVec.slt, decide_eq_false_iff_not, BitVec.toInt_zero]; omega
  pointwise [pickR]
  unfold IntOp.cmpi
  dsimp only
  rw [h]
  rfl

theorem inR_apply (V : Vec Ideal S8x1024x2816 .bf16) (b : Fin 72) (e : Fin 8) (he : (B (ix1 b)).toInt = e.val) (x : Fin 1024) (j : Fin 2816) :
    inR B V (ix3 b x j) = V (ix3 e x j) :=
  pick_apply gather_S8x1024x2816_S72x1_S72x1024x2816_12_0_n_n_0_1_110242816_wf V (pickR B) b x j e
    ((congrArg BitVec.toInt (pickR_apply B b (by omega))).trans he)

theorem backR_apply (b : Fin 72) (e : Fin 8) (he : (B (ix1 b)).toInt = e.val) (j : Fin 2816) (x : Fin 1024) :
    backR B D (ix3 b j x) = D (ix3 e j x) :=
  pick_apply gather_S8x2816x1024_S72x1_S72x2816x1024_12_0_n_n_0_1_128161024_wf D (pickR B) b j x e
    ((congrArg BitVec.toInt (pickR_apply B b (by omega))).trans he)

theorem upR_apply (H : FVec Ideal S72x512x1024 .f32) (V : FVec Ideal S72x1024x2816 .f32) (b : Fin 72) (t : Fin 512) (j : Fin 2816) :
    upR H V (ix3 b t j) = ∑ x : Fin 1024, H (ix3 b t x) * V (ix3 b x j) := by
  pointwise [upR]

theorem actR_apply (p q : FVec Ideal S72x512x2816 .f32) (b : Fin 72) (t : Fin 512) (j : Fin 2816) :
    actR p q (ix3 b t j) = p (ix3 b t j) * Ideal.logistic (p (ix3 b t j)) * q (ix3 b t j) := by
  unfold Ideal.logistic
  rw [← one_word]
  pointwise [actR]

theorem downR_apply (A : FVec Ideal S72x512x2816 .f32) (V : FVec Ideal S72x2816x1024 .f32) (i : Fin 294912) (k : Fin 128) :
    downR A V (ix2 i k) = ∑ j : Fin 2816, A (ix3 (⟨i.val / 4096, by omega⟩ : Fin 72) (⟨i.val % 4096 / 8, by omega⟩ : Fin 512) j)
      * V (ix3 (⟨i.val / 4096, by omega⟩ : Fin 72) j ⟨128 * (i.val % 8) + k.val, by omega⟩) := by
  pointwise [downR]
  refine Finset.sum_congr rfl fun j _ => congrArg₂ (· * ·) (congrArg A (congrArg (fun t => ix3 _ t j) (Fin.ext ?_)))
    (congrArg V (congrArg (fun x => ix3 _ j x) (Fin.ext ?_))) <;> dsimp only <;> omega

/-- The reference's result: each row of a block, out of the block's expert. -/
theorem outR_apply (i : Fin 294912) (k : Fin 128) (e : Fin 8) (he : (B (ix1 (⟨i.val / 4096, by omega⟩ : Fin 72))).toInt = e.val) :
    outR X B G U D (ix2 i k) = expert X G U D e ⟨i.val / 4096, by omega⟩ ⟨i.val % 4096 / 8, by omega⟩ ⟨128 * (i.val % 8) + k.val, by omega⟩ := by
  unfold outR expert swiglu
  rw [downR_apply]
  refine Finset.sum_congr rfl fun j _ => ?_
  rw [backR_apply B D _ e he, actR_apply, upR_apply, upR_apply]
  simp only [rowsR_apply, inR_apply B _ _ e he]

end Cert.ExpertsRefIdeal.Value

end
-- ==== Proof.Experts.Array.lean ====
/- The experts' kernel over its whole array: the blocks each point reads, and the result. -/
module

public import proofs.«01_k».proof.Proof.Experts.Tables
public import proofs.«01_k».proof.Proof.Experts.Reference

@[expose] public section

set_option maxRecDepth 16384

noncomputable section

namespace Cert.ExpertsIdeal.Run

open Cert.ExpertsIdeal Cert.ExpertsIdeal.Gen Cert.Feed Idealize.ShloMosaic Idealize.ShloMosaic.TcCoe Idealize.SL.Sem

variable (m : (ℓ : Loc nD τ sig) → Buf (Elt Ideal) ℓ) (hO : Named m) (hN : Counted m)

/-- The number of a point of the grid. -/
abbrev point_num (t : Fin grid0.N) : Fin 72 := num (grid0.coords t)

theorem index0 : ∀ t : Fin grid0.N, cc0_transform_0 (grid0.coords t) = ![(point_num t).val, 0] := by decide +kernel
theorem index4 : ∀ t : Fin grid0.N, cc0_transform_4 (grid0.coords t) = ![(point_num t).val, 0] := by decide +kernel

theorem points : ∀ b : Fin 72, ∃ t : Fin grid0.N, point_num t = b := by decide +kernel

theorem pair {n p : Nat} (y : (⟨2, ![n, p]⟩ : Shape).Idx) : ∃ (r : Fin n) (k : Fin p), y = ix2 r k :=
  ⟨y 0, y 1, by funext a; match a with | 0 => rfl | 1 => rfl⟩

theorem spot_row {T : Fin 2 → Nat} {b : Fin 72} (hT : T = ![b.val, 0]) (r : Fin 4096) (k : Fin 128) (h : 4096 * b.val + r.val < 294912) (a : Fin 2) :
    T a * (![4096, 128] : Fin 2 → Nat) a + 1 * (ix2 r k a).val = (ix2 (⟨4096 * b.val + r.val, h⟩ : Fin 294912) k a).val := by
  subst hT
  match a with
  | 0 => show b.val * 4096 + 1 * r.val = 4096 * b.val + r.val; omega
  | 1 => show 0 * 128 + 1 * k.val = k.val; omega

/-- Where a row of a point's block is in the array. -/
theorem place0 (t : Fin (cfgM m hO).N) (r : Fin 4096) (k : Fin 128) : ((((cfgM m hO).win 0).blk t).view.emb (ix2 r k) : S294912x128.Idx)
    = ix2 (⟨4096 * (point_num t).val + r.val, by have := (point_num t).isLt; omega⟩ : Fin 294912) k :=
  funext fun a => Fin.ext (spot_row (index0 t) r k _ a)

theorem place4 (t : Fin (cfgM m hO).N) (r : Fin 4096) (k : Fin 128) : ((((cfgM m hO).win 4).blk t).view.emb (ix2 r k) : S294912x128.Idx)
    = ix2 (⟨4096 * (point_num t).val + r.val, by have := (point_num t).isLt; omega⟩ : Fin 294912) k :=
  (show _ = ((((cfgM m hO).win 0).blk t).view.emb (ix2 r k) : S294912x128.Idx) from rfl).trans (place0 m hO t r k)

theorem block0 (c : Dev nD) (t : Fin (cfgM m hO).N) (r : Fin 4096) (k : Fin 128) :
    iblk m hO c 0 t (ix2 r k) = V m c main_arg0 (ix2 (⟨4096 * (point_num t).val + r.val, by have := (point_num t).isLt; omega⟩ : Fin 294912) k) :=
  congrArg (V m c main_arg0) (place0 m hO t r k)

/-- Where an entry of a matrix of a stack is: in matrix `n`. -/
theorem spot {p q : Nat} {T : Fin 3 → Nat} {n : Nat} (hT : T = ![n, 0, 0]) (e : Fin 8) (he : n = e.val) (x : Fin p) (j : Fin q) (a : Fin 3) :
    T a * (![1, p, q] : Fin 3 → Nat) a + 1 * (ix3 (0 : Fin 1) x j a).val = (ix3 e x j a).val := by
  subst hT he
  match a with
  | 0 => show e.val * 1 + 1 * 0 = e.val; omega
  | 1 => show 0 * p + 1 * x.val = x.val; omega
  | 2 => show 0 * q + 1 * j.val = j.val; omega

section Weights

variable (c : Dev nD) (t : Fin (cfgM m hO).N) (e : Fin 8) (he : (tables m 0 (ix1 (point_num t))).toNat = e.val)
include he

theorem block1 (x : Fin 1024) (j : Fin 2816) : iblk m hO c 1 t (ix3 (0 : Fin 1) x j) = V m c main_arg3 (ix3 e x j) :=
  congrArg (V m c main_arg3) (show (((((cfgM m hO).win 1).blk t).view.emb (ix3 (0 : Fin 1) x j)) : S8x1024x2816.Idx) = ix3 e x j from
    funext fun a => Fin.ext (spot (names_1 (tables m) (grid0.coords t)) e he x j a))
theorem block2 (x : Fin 1024) (j : Fin 2816) : iblk m hO c 2 t (ix3 (0 : Fin 1) x j) = V m c main_arg4 (ix3 e x j) :=
  congrArg (V m c main_arg4) (show (((((cfgM m hO).win 2).blk t).view.emb (ix3 (0 : Fin 1) x j)) : S8x1024x2816.Idx) = ix3 e x j from
    funext fun a => Fin.ext (spot (names_2 (tables m) (grid0.coords t)) e he x j a))
theorem block3 (x : Fin 2816) (j : Fin 1024) : iblk m hO c 3 t (ix3 (0 : Fin 1) x j) = V m c main_arg5 (ix3 e x j) :=
  congrArg (V m c main_arg5) (show (((((cfgM m hO).win 3).blk t).view.emb (ix3 (0 : Fin 1) x j)) : S8x2816x1024.Idx) = ix3 e x j from
    funext fun a => Fin.ext (spot (names_3 (tables m) (grid0.coords t)) e he x j a))

/-- What a point leaves: its block's rows, out of the expert the table names, where the rows past the count are zero. -/
theorem left_apply (hz : ∀ s : Fin 512, ¬ (s.val : Int) < (tables m 1 (ix1 (point_num t))).toInt → ∀ x, rowOf (V m c main_arg0) (point_num t) s x = 0)
    (r : Fin 4096) (k : Fin 128) : left m hO hN c t (ix2 r k) = expert (V m c main_arg0) (V m c main_arg3) (V m c main_arg4) (V m c main_arg5)
      e (point_num t) ⟨r.val / 8, by omega⟩ ⟨128 * (r.val % 8) + k.val, by omega⟩ := by
  have hr : ∀ s, row (iblk m hO c 0 t) s = rowOf (V m c main_arg0) (point_num t) s := fun s => funext fun x => block0 m hO c t _ _
  have hi : ∀ s : Fin 512, ¬ (s.val : Int) < (count (F := Ideal) c (grid0.coords t) (tables m 1)).toInt → ∀ x, row (iblk m hO c 0 t) s x = 0 :=
    fun s hs x => (congrFun (hr s) x).trans (hz s ((congrArg (fun v : BitVec 32 => ¬ (s.val : Int) < v.toInt) (count_eq c (grid0.coords t) (tables m 1))).mp hs) x)
  refine (stored_leaves c (grid0.coords t) (m0 m hO t) (v0 m hO t) (m1 m hO t) (v1 m hO t) (m2 m hO t) (v2 m hO t) (m3 m hO t) (v3 m hO t) (m4 m hO t)
    (v4 m hO t) (Memref.whole cc0_scratch0) (Memref.isWhole_whole _) (Memref.whole cc0_scratch1) (Memref.isWhole_whole _)
    (iblk m hO c 0 t) (iblk m hO c 1 t) (iblk m hO c 2 t) (iblk m hO c 3 t) (tables m 0) (tables m 1) (hN c (grid0.coords t)) hi r k).trans ?_
  unfold outer inner expert
  rw [hr]
  exact Finset.sum_congr rfl fun j _ => congrArg₂ (· * ·) (congrArg₂ (fun g u => swiglu _ g u j)
    (funext fun x => funext fun j => block1 m hO c t e he x j) (funext fun x => funext fun j => block2 m hO c t e he x j)) (block3 m hO c t e he j _)

end Weights

/-- The kernel's result over the whole array. -/
def resultOf (c : Dev nD) (E : Fin 72 → Fin 8) : S294912x128.Idx → EReal := fun y =>
  expert (V m c main_arg0) (V m c main_arg3) (V m c main_arg4) (V m c main_arg5) (E ⟨(y 0).val / 4096, by have : (y 0).val < 294912 := (y 0).isLt; omega⟩)
    ⟨(y 0).val / 4096, by have : (y 0).val < 294912 := (y 0).isLt; omega⟩ ⟨(y 0).val % 4096 / 8, by omega⟩
    ⟨128 * ((y 0).val % 8) + (y 1).val, by have : (y 1).val < 128 := (y 1).isLt; omega⟩

theorem result (c : Dev nD) (E : Fin 72 → Fin 8) (hE : ∀ b, (tables m 0 (ix1 b)).toNat = (E b).val)
    (hz : ∀ b : Fin 72, ∀ s : Fin 512, ¬ (s.val : Int) < (tables m 1 (ix1 b)).toInt → ∀ x, rowOf (V m c main_arg0) b s x = 0) :
    (dats m hO hN 0 c).arrAt 4 (cfgM m hO).N = resultOf m c E := by
  refine Pipeline.Dat.arrAt_eq_of_emb (dats m hO hN 0 c) 4 (resultOf m c E) (fun t hf y => ?_) (fun i => ?_)
  · obtain ⟨r, k, rfl⟩ : ∃ (r : Fin 4096) (k : Fin 128), y = ix2 r k := pair y
    refine (show _ = left m hO hN c t (ix2 r k) from rfl).trans ((left_apply m hO hN c t (E (point_num t)) (hE _) (hz _) r k).trans ?_)
    refine Eq.trans ?_ (congrArg (resultOf m c E) (place4 m hO t r k)).symm
    have ht := (point_num t).isLt
    unfold resultOf
    have e0 : ((4096 * (point_num t).val + r.val) / 4096) = (point_num t).val := by omega
    have e1 : ((4096 * (point_num t).val + r.val) % 4096 / 8) = r.val / 8 := by omega
    have e2 : ((4096 * (point_num t).val + r.val) % 8) = r.val % 8 := by omega
    simp only [ix2, Matrix.cons_val_zero, Matrix.cons_val_one, e0, e1, e2]
    rfl
  · obtain ⟨r, k, rfl⟩ : ∃ (r : Fin 294912) (k : Fin 128), (i : S294912x128.Idx) = ix2 r k := pair i
    obtain ⟨t, ht⟩ := points ⟨r.val / 4096, by omega⟩
    have hv : (point_num t).val = r.val / 4096 := congrArg Fin.val ht
    refine ⟨t, flushed m hO t, ?_⟩
    have hp : ix2 r k = (((cfgM m hO).win 4).blk t).view.emb (ix2 (⟨r.val % 4096, by omega⟩ : Fin 4096) k) :=
      ((place4 m hO t _ k).trans (congrArg (fun r => ix2 r k) (Fin.ext (by simp only [hv]; omega)))).symm
    rw [hp]
    exact View.emb_mem_set _ _

end Cert.ExpertsIdeal.Run

end
-- ==== Proof.Experts.Claims.lean ====
/- The experts' call: the frames, and the equality with the reference. -/
module

public import proofs.«01_k».proof.Defs
public import proofs.«01_k».proof.Proof.Experts.Array
public import proofs.«01_k».proof.Proof.Gen.Experts.Launch

@[expose] public section

set_option maxRecDepth 16384

noncomputable section

namespace Cert.Proof.Routed

open Cert.Feed Cert.ExpertsIdeal.Run Idealize.ShloMosaic Idealize.ShloMosaic.TcCoe Idealize.SL.Sem

/-- The two programs have one text: their kernels' tables are equal. -/
theorem tables_eq : Cert.Experts.defs₀ (F := Bits) = Cert.ExpertsIdeal.defs₀ (F := Bits) := by
  unfold Cert.Experts.defs₀ Cert.ExpertsIdeal.defs₀
  refine congrArg Defs.onTc (funext fun l => funext fun a => ?_)
  match l, a with
  | 0, (t, s) => rfl

theorem defs_eq : Cert.Experts.defs (F := Bits) = Cert.ExpertsIdeal.defs (F := Bits) := congrArg (Pipeline.defs Cert.ExpertsIdeal.pcfgs) tables_eq

theorem frame_kernel : Cert.quiescent_Experts := fun m ρ hP =>
  have h := in_range_word (hP 0)
  (congrArg (fun d => (θ_run d (onTc (τ := Cert.ExpertsIdeal.τ) (Cert.ExpertsIdeal.main (F := Bits))) ⟨m, fun _ => 0, ρ⟩) _) defs_eq).mpr
    (Cert.ExpertsIdeal.Run.frame (F := Bits) m ρ (named (F := Bits) m fun b => (h b).1) (counted (F := Bits) m fun b => (h b).2))
theorem frame_ideal : Cert.quiescent_ExpertsIdeal := fun m ρ hP =>
  have h := in_range_word (hP 0)
  Cert.ExpertsIdeal.Run.frame m ρ (named m fun b => (h b).1) (counted m fun b => (h b).2)
theorem frame_ideal_dispatched : Cert.quiescent_ExpertsIdeal_pre_dispatched := fun m ρ hP =>
  have h := fun b => (dispatched_word (hP 0) b 0 0).1
  Cert.ExpertsIdeal.Run.frame m ρ (named m fun b => (h b).1) (counted m fun b => (h b).2)
theorem frame_reference : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run_out m ρ)
theorem frame_reference_dispatched : Cert.quiescent_ExpertsRefIdeal_pre_dispatched := fun m ρ _ => frame_reference m ρ trivial

/-- No operation is replaced. -/
theorem preserves : Cert.preserves_Experts_ExpertsIdeal := trivial

theorem algebraic : Cert.algebraic_ExpertsIdeal_ExpertsRefIdeal_pre_dispatched := by
  intro m ρ m' ρ' hP hagree
  have hw := dispatched_word (hP 0)
  have hg : ∀ b : Fin 72, (0 ≤ (tables m 0 (ix1 b)).toInt ∧ (tables m 0 (ix1 b)).toInt < 8) ∧ 0 ≤ (tables m 1 (ix1 b)).toInt := fun b => (hw b 0 0).1
  have hO := named m fun b => (hg b).1
  have hN := counted m fun b => (hg b).2
  have hE : ∀ b : Fin 72, (tables m 0 (ix1 b)).toNat < 8 ∧ (tables m 0 (ix1 b)).toInt = (tables m 0 (ix1 b)).toNat := fun b => toNat_lt (hg b).1.1 (hg b).1.2
  have hz : ∀ (c : Dev Cert.ExpertsIdeal.nD) (b : Fin 72) (s : Fin 512), ¬ (s.val : Int) < (tables m 1 (ix1 b)).toInt → ∀ x, rowOf (V m c Cert.ExpertsIdeal.main_arg0) b s x = 0 := by
    intro c b s hs x
    obtain rfl : c = 0 := Subsingleton.elim _ _
    exact (Cert.ExpertsRefIdeal.Value.rowsR_apply _ b s x).symm.trans ((hw b s x).2.resolve_left hs)
  refine ⟨fun c => resultOf m c fun b => ⟨_, (hE b).1⟩, ?_, ?_⟩
  · exact (θ_run Cert.ExpertsIdeal.defs _ _).mono (fun _ h c => ⟨(h.1 c).1.trans (result m hO hN c _ (fun _ => rfl) (hz c)), (h.1 c).2⟩)
      (leaves_out m ρ hO hN)
  · refine (θ_run Cert.ExpertsRefIdeal.defs _ _).mono (fun _ h c => ⟨(h c).1.trans ?_, (h c).2⟩) (Cert.ExpertsRefIdeal.Value.run_out m' ρ')
    obtain rfl : c = 0 := Subsingleton.elim _ _
    obtain ⟨e0, e1, e2, e3, e4, e5⟩ := hagree 0
    rw [e0, e1, e3, e4, e5]
    funext y
    obtain ⟨i, k, rfl⟩ : ∃ (i : Fin 294912) (k : Fin 128), y = ix2 i k := pair y
    exact Cert.ExpertsRefIdeal.Value.outR_apply _ _ _ _ _ i k ⟨_, (hE _).1⟩ (hE _).2

end Cert.Proof.Routed

end
-- ==== Proof.lean ====
/- The certificate's claims, each from the module that proves it. -/
module

public import proofs.«01_k».proof.Defs
public import proofs.«01_k».proof.Proof.Moba.Claims
public import proofs.«01_k».proof.Proof.Ffn.Claims
public import proofs.«01_k».proof.Proof.Inproj.Claims
public import proofs.«01_k».proof.Proof.Experts.Claims
public import proofs.«01_k».proof.Proof.Gen.FfnIdeal.Value
public import proofs.«01_k».proof.Proof.Gen.FfnRefIdeal.Run
public import proofs.«01_k».proof.Proof.Gen.InprojIdeal.Value
public import proofs.«01_k».proof.Proof.Gen.InprojRefIdeal.Run
public import proofs.«01_k».proof.Proof.Gen.Inproj.Frame
public import proofs.«01_k».proof.Proof.Gen.Ffn
public import proofs.«01_k».proof.Proof.Gen.MobaIdeal.Value
public import proofs.«01_k».proof.Proof.Gen.MobaRefIdeal.Run
public import proofs.«01_k».proof.Proof.Gen.Moba
public import proofs.«01_k».proof.Proof.Gen.Moba.Skeleton
public import proofs.«01_k».proof.Proof.Gen.Moba.Launch
public import proofs.«01_k».proof.Proof.Gen.Moba.Points
public import proofs.«01_k».proof.Proof.Gen.Moba.Frame
public import proofs.«01_k».proof.Proof.Gen.MobaIdeal
public import proofs.«01_k».proof.Proof.Gen.MobaIdeal.Skeleton
public import proofs.«01_k».proof.Proof.Gen.MobaIdeal.Launch
public import proofs.«01_k».proof.Proof.Gen.MobaIdeal.Points
public import proofs.«01_k».proof.Proof.Gen.MobaIdeal.Frame
public import proofs.«01_k».proof.Proof.Gen.MobaRefIdeal
public import proofs.«01_k».proof.Proof.Gen.Pre_finite
public import Idealize.ShloMosaic.Adequacy
public import Idealize.ShloMosaic.Init

@[expose] public section

noncomputable section

namespace Cert.Proof

open Idealize.ShloMosaic Idealize.SL.Sem Cert.Moba

theorem claim : Cert.Claim := ⟨Cert.Moba.Gen.facts, Cert.MobaIdeal.Gen.facts, Cert.MobaRefIdeal.Gen.facts,
  Cert.Ffn.Gen.facts, Cert.FfnIdeal.Gen.facts, Cert.FfnRefIdeal.Gen.facts,
  Cert.Inproj.Gen.facts, Cert.InprojIdeal.Gen.facts, Cert.InprojRefIdeal.Gen.facts,
  Cert.Experts.Gen.facts, Cert.ExpertsIdeal.Gen.facts, Cert.ExpertsRefIdeal.Gen.facts,
  Cert.Pre_finite.Gen.facts, Cert.Pre_in_range.Gen.facts, Cert.Pre_dispatched.Gen.facts,
  Attention.frame_kernel, Attention.frame_ideal, Attention.frame_ideal_finite, Attention.frame_reference, Attention.frame_reference_finite,
  FeedForward.frame_kernel, FeedForward.frame_ideal, FeedForward.frame_reference,
  Projection.frame_kernel, Projection.frame_ideal, Projection.frame_reference,
  Routed.frame_kernel, Routed.frame_ideal, Routed.frame_ideal_dispatched, Routed.frame_reference, Routed.frame_reference_dispatched,
  Attention.preserves, Attention.algebraic, FeedForward.preserves, FeedForward.algebraic, Projection.preserves, Projection.algebraic,
  Routed.preserves, Routed.algebraic⟩

end Cert.Proof

end
